-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_partial_tame_KernelIdeal [hPre_partial_tame_KernelIdeal : Cert.Pre_partial_tame_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_partial_tame_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_partial_tame_ReferenceIdeal [hPre_partial_tame_ReferenceIdeal : Cert.Pre_partial_tame_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_partial_tame_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_UnclippedIdeal (m : (ℓ : Loc Cert.UnclippedIdeal.nD Cert.UnclippedIdeal.τ Cert.UnclippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_partial_tame_KernelIdeal [hKernelIdeal : Cert.KernelIdeal.Facts] [hPre_partial_tame_KernelIdeal : Cert.Pre_partial_tame_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_partial_tame_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_partial_tame_ReferenceIdeal [hReferenceIdeal : Cert.ReferenceIdeal.Facts] [hPre_partial_tame_ReferenceIdeal : Cert.Pre_partial_tame_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_partial_tame_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_UnclippedIdeal [hUnclippedIdeal : Cert.UnclippedIdeal.Facts] : Prop :=
  ∀ (m : (ℓ : Loc Cert.UnclippedIdeal.nD Cert.UnclippedIdeal.τ Cert.UnclippedIdeal.sig) → Buf (Elt Ideal) ℓ) (g : Dev Cert.UnclippedIdeal.nD → PrngReg), Pre_UnclippedIdeal m →
    θ_run (Cert.UnclippedIdeal.defs (F := Ideal)) (onTc (τ := Cert.UnclippedIdeal.τ) (Cert.UnclippedIdeal.main (F := Ideal))) ⟨m, fun _ => 0, g⟩ (fun r => (∀ c : Dev Cert.UnclippedIdeal.nD,
      r.2.mem ((c.tc : Thread Cert.UnclippedIdeal.nD Cert.UnclippedIdeal.τ).loc Cert.UnclippedIdeal.main_arg0) = m ((c.tc : Thread Cert.UnclippedIdeal.nD Cert.UnclippedIdeal.τ).loc Cert.UnclippedIdeal.main_arg0)
      ∧ r.2.mem ((c.tc : Thread Cert.UnclippedIdeal.nD Cert.UnclippedIdeal.τ).loc Cert.UnclippedIdeal.main_arg1) = m ((c.tc : Thread Cert.UnclippedIdeal.nD Cert.UnclippedIdeal.τ).loc Cert.UnclippedIdeal.main_arg1))
      ∧ r.2.sem = fun _ => 0)

def preserves_Kernel_KernelIdeal : Prop :=
  True

def algebraic_KernelIdeal_UnclippedIdeal [hKernelIdeal : Cert.KernelIdeal.Facts] [hUnclippedIdeal : Cert.UnclippedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnclippedIdeal.nD Cert.UnclippedIdeal.τ Cert.UnclippedIdeal.sig) → Buf (Elt Ideal) ℓ) (g' : Dev Cert.UnclippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.UnclippedIdeal.nD).tc : Thread Cert.UnclippedIdeal.nD Cert.UnclippedIdeal.τ).loc Cert.UnclippedIdeal.main_arg0))
      ∧ m ((c.tc : Thread Cert.KernelIdeal.nD Cert.KernelIdeal.τ).loc Cert.KernelIdeal.main_arg1) = Layout.block ⟨2, ![128, 8192]⟩ ⟨2, ![4096, 8192]⟩ 0 32 c (m' (((0 : Dev Cert.UnclippedIdeal.nD).tc : Thread Cert.UnclippedIdeal.nD Cert.UnclippedIdeal.τ).loc Cert.UnclippedIdeal.main_arg1))) →
    ∃ (v0 : Buf (Elt Ideal) (((0 : Dev Cert.UnclippedIdeal.nD).tc : Thread Cert.UnclippedIdeal.nD Cert.UnclippedIdeal.τ).loc Cert.UnclippedIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.UnclippedIdeal.defs (F := Ideal)) (onTc (τ := Cert.UnclippedIdeal.τ) (Cert.UnclippedIdeal.main (F := Ideal))) ⟨m', fun _ => 0, g'⟩ (fun r =>
          r.2.mem (((0 : Dev Cert.UnclippedIdeal.nD).tc : Thread Cert.UnclippedIdeal.nD Cert.UnclippedIdeal.τ).loc Cert.UnclippedIdeal.main_v7) = v0
          ∧ r.2.mem (((0 : Dev Cert.UnclippedIdeal.nD).tc : Thread Cert.UnclippedIdeal.nD Cert.UnclippedIdeal.τ).loc Cert.UnclippedIdeal.main_arg0) = m' (((0 : Dev Cert.UnclippedIdeal.nD).tc : Thread Cert.UnclippedIdeal.nD Cert.UnclippedIdeal.τ).loc Cert.UnclippedIdeal.main_arg0)
          ∧ r.2.mem (((0 : Dev Cert.UnclippedIdeal.nD).tc : Thread Cert.UnclippedIdeal.nD Cert.UnclippedIdeal.τ).loc Cert.UnclippedIdeal.main_arg1) = m' (((0 : Dev Cert.UnclippedIdeal.nD).tc : Thread Cert.UnclippedIdeal.nD Cert.UnclippedIdeal.τ).loc Cert.UnclippedIdeal.main_arg1))

def algebraic_KernelIdeal_ReferenceIdeal_pre_partial_tame_KernelIdeal [hKernelIdeal : Cert.KernelIdeal.Facts] [hReferenceIdeal : Cert.ReferenceIdeal.Facts] [hPre_partial_tame_KernelIdeal : Cert.Pre_partial_tame_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_partial_tame_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 8192]⟩ ⟨2, ![4096, 8192]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hUnclippedIdeal : Cert.UnclippedIdeal.Facts) (hPre_partial_tame_KernelIdeal : Cert.Pre_partial_tame_KernelIdeal.Facts) (hPre_partial_tame_ReferenceIdeal : Cert.Pre_partial_tame_ReferenceIdeal.Facts),
    quiescent_Kernel (hKernel := hKernel)
    ∧ quiescent_KernelIdeal (hKernelIdeal := hKernelIdeal)
    ∧ quiescent_KernelIdeal_pre_partial_tame_KernelIdeal (hKernelIdeal := hKernelIdeal) (hPre_partial_tame_KernelIdeal := hPre_partial_tame_KernelIdeal)
    ∧ quiescent_ReferenceIdeal (hReferenceIdeal := hReferenceIdeal)
    ∧ quiescent_ReferenceIdeal_pre_partial_tame_ReferenceIdeal (hReferenceIdeal := hReferenceIdeal) (hPre_partial_tame_ReferenceIdeal := hPre_partial_tame_ReferenceIdeal)
    ∧ quiescent_UnclippedIdeal (hUnclippedIdeal := hUnclippedIdeal)
    ∧ preserves_Kernel_KernelIdeal
    ∧ algebraic_KernelIdeal_UnclippedIdeal (hKernelIdeal := hKernelIdeal) (hUnclippedIdeal := hUnclippedIdeal)
    ∧ algebraic_KernelIdeal_ReferenceIdeal_pre_partial_tame_KernelIdeal (hKernelIdeal := hKernelIdeal) (hReferenceIdeal := hReferenceIdeal) (hPre_partial_tame_KernelIdeal := hPre_partial_tame_KernelIdeal)
-- ==== Pre_partial_tame_KernelIdeal.lean ====
abbrev S4096x128 : Shape := ⟨2, ![4096, 128]⟩
abbrev S128x8192 : Shape := ⟨2, ![128, 8192]⟩
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  dot_S4096x128_S128x8192_S4096x8192_1_0_0_1_n_n_wf : DotDims.WF S4096x128 S128x8192 S4096x8192 [1] [0] [0] [1] [] []

variable [Facts]

def dot_S4096x128_S128x8192_S4096x8192_1_0_0_1_n_n : DotDims S4096x128 S128x8192 S4096x8192 where
  lhsContracting := [1]
  rhsContracting := [0]
  lhsNonContracting := [0]
  rhsNonContracting := [1]
  lhsBatch := []
  rhsBatch := []
  wf := dot_S4096x128_S128x8192_S4096x8192_1_0_0_1_n_n_wf
def fn {F : FTy → Type} [FloatOps F] (main_arg0 : FVec F S4096x128 .bf16) (main_arg1 : FVec F S128x8192 .bf16) : IVec S4096x8192 1 :=
  let main_v0 : FVec F S4096x8192 .f32 := (fun l r => Host.dotGeneral dot_S4096x128_S128x8192_S4096x8192_1_0_0_1_n_n none l r) main_arg0 main_arg1
  let main_v1 : FVec F S4096x8192 .f32 := Host.absf main_v0
  let main_cst : FVec F S_ .f32 := constant S_ .f32 0x3FF00000#32
  let main_v2 : FVec F S4096x8192 .f32 := broadcastInDim S4096x8192 ![] bcast_S_S4096x8192 main_cst
  let main_v3 : IVec S4096x8192 1 := cmpf .ole main_v1 main_v2
  main_v3
-- ==== Pre_partial_tame_ReferenceIdeal.lean ====
abbrev S4096x4096 : Shape := ⟨2, ![4096, 4096]⟩
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  dot_S4096x4096_S4096x8192_S4096x8192_1_0_0_1_n_n_wf : DotDims.WF S4096x4096 S4096x8192 S4096x8192 [1] [0] [0] [1] [] []

variable [Facts]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf
def fn {F : FTy → Type} [FloatOps F] (main_arg0 : FVec F S4096x4096 .bf16) (main_arg1 : FVec F S4096x8192 .bf16) : IVec S4096x8192 1 :=
  let main_v0 : FVec F S4096x8192 .f32 := (fun l r => Host.dotGeneral dot_S4096x4096_S4096x8192_S4096x8192_1_0_0_1_n_n none l r) main_arg0 main_arg1
  let main_v1 : FVec F S4096x8192 .f32 := Host.absf main_v0
  let main_cst : FVec F S_ .f32 := constant S_ .f32 0x3FF00000#32
  let main_v2 : FVec F S4096x8192 .f32 := broadcastInDim S4096x8192 ![] bcast_S_S4096x8192 main_cst
  let main_v3 : IVec S4096x8192 1 := cmpf .ole main_v1 main_v2
  main_v3
-- ==== Kernel.lean ====
abbrev S4096x128 : Shape := ⟨2, ![4096, 128]⟩
abbrev S128x8192 : Shape := ⟨2, ![128, 8192]⟩
abbrev S32 : Shape := ⟨1, ![32]⟩
abbrev S4096x8192 : Shape := ⟨2, ![4096, 8192]⟩
abbrev S_ : Shape := ⟨0, ![]⟩
abbrev S1 : Shape := ⟨1, ![1]⟩
abbrev S3 : Shape := ⟨1, ![3]⟩
abbrev S2x128x4096 : Shape := ⟨3, ![2, 128, 4096]⟩
abbrev S128x4096 : Shape := ⟨2, ![128, 4096]⟩
abbrev S2 : Shape := ⟨1, ![2]⟩
abbrev S1x128x4096 : Shape := ⟨3, ![1, 128, 4096]⟩

abbrev nBuf : Space → Nat
  | .hbm => 39
  | .vmem => 8
  | .smem => 1
  | _ => 0

abbrev bufTy : (tb : Table) → Fin (tcTables nBuf tb) → BufTy
  | .hbm, ⟨0, _⟩ => ⟨S4096x128, .bf16⟩
  | .hbm, ⟨1, _⟩ => ⟨S128x8192, .bf16⟩
  | .hbm, ⟨2, _⟩ => ⟨S32, .i32⟩
  | .hbm, ⟨3, _⟩ => ⟨S32, .i32⟩
  | .hbm, ⟨4, _⟩ => ⟨S32, .i32⟩
  | .hbm, ⟨5, _⟩ => ⟨S4096x8192, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S1, .i32⟩
  | .hbm, ⟨35, _⟩ => ⟨S1, .i32⟩
  | .hbm, ⟨36, _⟩ => ⟨S3, .i32⟩
  | .hbm, ⟨37, _⟩ => ⟨S4096x8192, .bf16⟩
  | .hbm, ⟨38, _⟩ => ⟨S4096x8192, .f32⟩
  | .local _ .vmem, ⟨0, _⟩ => ⟨S2x128x4096, .bf16⟩
  | .local _ .vmem, ⟨1, _⟩ => ⟨S2x128x4096, .bf16⟩
  | .local _ .vmem, ⟨2, _⟩ => ⟨S128x4096, .bf16⟩
  | .local _ .vmem, ⟨3, _⟩ => ⟨S128x4096, .bf16⟩
  | .local _ .vmem, ⟨4, _⟩ => ⟨S128x4096, .bf16⟩
  | .local _ .vmem, ⟨5, _⟩ => ⟨S128x4096, .bf16⟩
  | .local _ .vmem, ⟨6, _⟩ => ⟨S128x4096, .f32⟩
  | .local _ .vmem, ⟨7, _⟩ => ⟨S128x4096, .f32⟩
  | .local _ .smem, ⟨0, _⟩ => ⟨S3, .i32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 3 → Bool
  | ⟨0, _⟩ => true
  | ⟨1, _⟩ => true
  | ⟨2, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 3 13 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v1 : Ref sig .tc := ⟨.hbm, 5, rfl⟩
abbrev main_c_2 : Ref sig .tc := ⟨.hbm, 6, rfl⟩
abbrev main_c_3 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_4 : Ref sig .tc := ⟨.hbm, 12, rfl⟩
abbrev main_v6 : Ref sig .tc := ⟨.hbm, 13, rfl⟩
abbrev main_c_5 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_6 : Ref sig .tc := ⟨.hbm, 19, rfl⟩
abbrev main_v11 : Ref sig .tc := ⟨.hbm, 20, rfl⟩
abbrev main_c_7 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_8 : Ref sig .tc := ⟨.hbm, 26, rfl⟩
abbrev main_v16 : Ref sig .tc := ⟨.hbm, 27, rfl⟩
abbrev main_c_9 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_stg0_0 : Ref sig .tc := ⟨.smem, 0, rfl⟩
abbrev cc0_sem0_0 : DmaSem sig := 0
abbrev barrier0 : Sem sig := 2

abbrev nD : Nat := 32
abbrev τ : Topo := Topo.v7x

variable {F : FTy → Type} [FloatOps F]

abbrev grid0 : Pipeline.Grid := .none

def k0_dev1 (v2 : BitVec 32) : Nat :=
  let c0_i32 : BitVec 32 := 0#32
  let c1_i32_0 : BitVec 32 := 1#32
  let v4 : BitVec 32 := Scalar.muli v2 c1_i32_0
  let v5 : BitVec 32 := Scalar.addi c0_i32 v4
  v5.toNat

def k0_dev2 (v1 : BitVec 32) : Nat :=
  let c0_i32_3 : BitVec 32 := 0#32
  let c1_i32_2 : BitVec 32 := 1#32
  let v6 : BitVec 32 := Scalar.muli v1 c1_i32_2
  let v7 : BitVec 32 := Scalar.addi c0_i32_3 v6
  v7.toNat

def k0_off1 (v0 : BitVec 32) : Fin 2 → Nat :=
  let c128_i32 : BitVec 32 := 128#32
  let v8 : BitVec 32 := Scalar.muli v0 c128_i32
  let c0_i32_5 : BitVec 32 := 0#32
  ![v8.toNat, 0]

def k0_off2 (v0 : BitVec 32) : Fin 2 → Nat :=
  let c128_i32_4 : BitVec 32 := 128#32
  let v9 : BitVec 32 := Scalar.muli v0 c128_i32_4
  let c4096_i32 : BitVec 32 := 4096#32
  ![v9.toNat, 4096]
@[reducible] def k0_t1_loop : Scf.Loop 32 :=
  let c0_i32_10 : BitVec 32 := 0#32
  let c31_i32 : BitVec 32 := 31#32
  let v14 : BitVec 32 := Scalar.addi c0_i32_10 c31_i32
  let c1_i32_11 : BitVec 32 := 1#32
  ⟨c0_i32_10, v14, c1_i32_11⟩
def k0_off3 (v0 : BitVec 32) (k0_t1 : Fin k0_t1_loop.trips) : Fin 2 → Nat :=
  let c0_i32_10 : BitVec 32 := 0#32
  let c1_i32_11 : BitVec 32 := 1#32
  let arg21 : BitVec 32 := Scf.iv c0_i32_10 c1_i32_11 k0_t1
  let c1_i32_110 : BitVec 32 := 1#32
  let v124 : BitVec 32 := Scalar.addi arg21 c1_i32_110
  let v125 : BitVec 32 := Scalar.subi v0 v124
  let c64_i32 : BitVec 32 := 64#32
  let v126 : BitVec 32 := Scalar.addi v125 c64_i32
  let c32_i32_111 : BitVec 32 := 32#32
  let v127 : BitVec 32 := Scalar.remsi v126 c32_i32_111
  let c128_i32_114 : BitVec 32 := 128#32
  let v131 : BitVec 32 := Scalar.muli v127 c128_i32_114
  let c0_i32_116 : BitVec 32 := 0#32
  ![v131.toNat, 0]
def k0_off4 (v0 : BitVec 32) (k0_t1 : Fin k0_t1_loop.trips) : Fin 2 → Nat :=
  let c0_i32_10 : BitVec 32 := 0#32
  let c1_i32_11 : BitVec 32 := 1#32
  let arg21 : BitVec 32 := Scf.iv c0_i32_10 c1_i32_11 k0_t1
  let c1_i32_112 : BitVec 32 := 1#32
  let v128 : BitVec 32 := Scalar.addi arg21 c1_i32_112
  let v129 : BitVec 32 := Scalar.addi v0 v128
  let c32_i32_113 : BitVec 32 := 32#32
  let v130 : BitVec 32 := Scalar.remsi v129 c32_i32_113
  let c128_i32_115 : BitVec 32 := 128#32
  let v132 : BitVec 32 := Scalar.muli v130 c128_i32_115
  let c4096_i32_117 : BitVec 32 := 4096#32
  ![v132.toNat, 4096]
def k0_off5 (k0_t1 : Fin k0_t1_loop.trips) : Fin 1 → Nat :=
  let c0_i32_10 : BitVec 32 := 0#32
  let c1_i32_11 : BitVec 32 := 1#32
  let arg21 : BitVec 32 := Scf.iv c0_i32_10 c1_i32_11 k0_t1
  let c2_i32_109 : BitVec 32 := 2#32
  let v123 : BitVec 32 := Scalar.remsi arg21 c2_i32_109
  ![v123.toNat]
def k0_off6 (k0_t1 : Fin k0_t1_loop.trips) : Fin 3 → Nat :=
  let c0_i32_10 : BitVec 32 := 0#32
  let c1_i32_11 : BitVec 32 := 1#32
  let arg21 : BitVec 32 := Scf.iv c0_i32_10 c1_i32_11 k0_t1
  let c2_i32_109 : BitVec 32 := 2#32
  let v123 : BitVec 32 := Scalar.remsi arg21 c2_i32_109
  let c0_i32_124 : BitVec 32 := 0#32
  let c0_i32_125 : BitVec 32 := 0#32
  ![v123.toNat, 0, 0]
def k0_dev3 (v1 : BitVec 32) : Nat :=
  let c0_i32_123 : BitVec 32 := 0#32
  let c1_i32_122 : BitVec 32 := 1#32
  let v135 : BitVec 32 := Scalar.muli v1 c1_i32_122
  let v136 : BitVec 32 := Scalar.addi c0_i32_123 v135
  v136.toNat
def k0_dev4 (v2 : BitVec 32) : Nat :=
  let c0_i32_127 : BitVec 32 := 0#32
  let c1_i32_126 : BitVec 32 := 1#32
  let v143 : BitVec 32 := Scalar.muli v2 c1_i32_126
  let v144 : BitVec 32 := Scalar.addi c0_i32_127 v143
  v144.toNat
def k0_off7 (k0_t1 : Fin k0_t1_loop.trips) : Fin 3 → Nat :=
  let c0_i32_10 : BitVec 32 := 0#32
  let c1_i32_11 : BitVec 32 := 1#32
  let arg21 : BitVec 32 := Scf.iv c0_i32_10 c1_i32_11 k0_t1
  let c2_i32_109 : BitVec 32 := 2#32
  let v123 : BitVec 32 := Scalar.remsi arg21 c2_i32_109
  let v162 : Index := Scalar.indexCast v123
  let c0_138 : Index := 0#32
  let c0_139 : Index := 0#32
  ![v162.toNat, 0, 0]
def k0_dev5 (v2 : BitVec 32) : Nat :=
  let c0_i32_160 : BitVec 32 := 0#32
  let c1_i32_159 : BitVec 32 := 1#32
  let v189 : BitVec 32 := Scalar.muli v2 c1_i32_159
  let v190 : BitVec 32 := Scalar.addi c0_i32_160 v189
  v190.toNat
def k0_dev6 (v1 : BitVec 32) : Nat :=
  let c0_i32_163 : BitVec 32 := 0#32
  let c1_i32_162 : BitVec 32 := 1#32
  let v191 : BitVec 32 := Scalar.muli v1 c1_i32_162
  let v192 : BitVec 32 := Scalar.addi c0_i32_163 v191
  v192.toNat
def k0_dev7 (v1 : BitVec 32) : Nat :=
  let c0_i32_21 : BitVec 32 := 0#32
  let c1_i32_20 : BitVec 32 := 1#32
  let v15 : BitVec 32 := Scalar.muli v1 c1_i32_20
  let v16 : BitVec 32 := Scalar.addi c0_i32_21 v15
  v16.toNat
def k0_dev8 (v2 : BitVec 32) : Nat :=
  let c0_i32_28 : BitVec 32 := 0#32
  let c1_i32_27 : BitVec 32 := 1#32
  let v23 : BitVec 32 := Scalar.muli v2 c1_i32_27
  let v24 : BitVec 32 := Scalar.addi c0_i32_28 v23
  v24.toNat
def k0_off8 (v0 : BitVec 32) : Fin 2 → Nat :=
  let c1_i32_31 : BitVec 32 := 1#32
  let v31 : BitVec 32 := Scalar.addi v0 c1_i32_31
  let c32_i32 : BitVec 32 := 32#32
  let v32 : BitVec 32 := Scalar.remsi v31 c32_i32
  let c128_i32_38 : BitVec 32 := 128#32
  let v46 : BitVec 32 := Scalar.muli v32 c128_i32_38
  let c0_i32_39 : BitVec 32 := 0#32
  ![v46.toNat, 0]
def k0_off9 (v0 : BitVec 32) : Fin 2 → Nat :=
  let c32_i32_41 : BitVec 32 := 32#32
  let v49 : BitVec 32 := Scalar.addi v0 c32_i32_41
  let c1_i32_42 : BitVec 32 := 1#32
  let v50 : BitVec 32 := Scalar.subi v49 c1_i32_42
  let c32_i32_43 : BitVec 32 := 32#32
  let v51 : BitVec 32 := Scalar.remsi v50 c32_i32_43
  let c128_i32_51 : BitVec 32 := 128#32
  let v65 : BitVec 32 := Scalar.muli v51 c128_i32_51
  let c4096_i32_52 : BitVec 32 := 4096#32
  ![v65.toNat, 4096]
@[reducible] def k0_t2_loop : Scf.Loop 32 :=
  let c1_i32_102 : BitVec 32 := 1#32
  let c30_i32 : BitVec 32 := 30#32
  let v122 : BitVec 32 := Scalar.addi c1_i32_102 c30_i32
  let c1_i32_103 : BitVec 32 := 1#32
  ⟨c1_i32_102, v122, c1_i32_103⟩
def k0_off10 (k0_t2 : Fin k0_t2_loop.trips) : Fin 1 → Nat :=
  let c31_i32_109 : BitVec 32 := 31#32
  let c1_i32_102 : BitVec 32 := 1#32
  let c1_i32_103 : BitVec 32 := 1#32
  let arg21 : BitVec 32 := Scf.iv c1_i32_102 c1_i32_103 k0_t2
  let v123 : BitVec 32 := Scalar.addi c31_i32_109 arg21
  let c2_i32_110 : BitVec 32 := 2#32
  let v124 : BitVec 32 := Scalar.remsi v123 c2_i32_110
  ![v124.toNat]
def k0_off11 (k0_t2 : Fin k0_t2_loop.trips) : Fin 3 → Nat :=
  let c31_i32_109 : BitVec 32 := 31#32
  let c1_i32_102 : BitVec 32 := 1#32
  let c1_i32_103 : BitVec 32 := 1#32
  let arg21 : BitVec 32 := Scf.iv c1_i32_102 c1_i32_103 k0_t2
  let v123 : BitVec 32 := Scalar.addi c31_i32_109 arg21
  let c2_i32_110 : BitVec 32 := 2#32
  let v124 : BitVec 32 := Scalar.remsi v123 c2_i32_110
  let c0_i32_119 : BitVec 32 := 0#32
  let c0_i32_120 : BitVec 32 := 0#32
  ![v124.toNat, 0, 0]
def k0_off12 (k0_t2 : Fin k0_t2_loop.trips) : Fin 3 → Nat :=
  let c31_i32_109 : BitVec 32 := 31#32
  let c1_i32_102 : BitVec 32 := 1#32
  let c1_i32_103 : BitVec 32 := 1#32
  let arg21 : BitVec 32 := Scf.iv c1_i32_102 c1_i32_103 k0_t2
  let v123 : BitVec 32 := Scalar.addi c31_i32_109 arg21
  let c1_i32_111 : BitVec 32 := 1#32
  let v125 : BitVec 32 := Scalar.addi v123 c1_i32_111
  let c2_i32_112 : BitVec 32 := 2#32
  let v126 : BitVec 32 := Scalar.remsi v125 c2_i32_112
  let c0_i32_121 : BitVec 32 := 0#32
  let c0_i32_122 : BitVec 32 := 0#32
  ![v126.toNat, 0, 0]
def k0_dev9 (v1 : BitVec 32) : Nat :=
  let c0_i32_118 : BitVec 32 := 0#32
  let c1_i32_117 : BitVec 32 := 1#32
  let v127 : BitVec 32 := Scalar.muli v1 c1_i32_117
  let v128 : BitVec 32 := Scalar.addi c0_i32_118 v127
  v128.toNat
def k0_dev10 (v2 : BitVec 32) : Nat :=
  let c0_i32_124 : BitVec 32 := 0#32
  let c1_i32_123 : BitVec 32 := 1#32
  let v137 : BitVec 32 := Scalar.muli v2 c1_i32_123
  let v138 : BitVec 32 := Scalar.addi c0_i32_124 v137
  v138.toNat
def k0_dev11 (v2 : BitVec 32) : Nat :=
  let c0_i32_153 : BitVec 32 := 0#32
  let c1_i32_152 : BitVec 32 := 1#32
  let v175 : BitVec 32 := Scalar.muli v2 c1_i32_152
  let v176 : BitVec 32 := Scalar.addi c0_i32_153 v175
  v176.toNat

def k0_chk1 (v2 : BitVec 32) : Prop :=
  ((k0_dev1 v2) < nD) ∧
  ((k0_dev4 v2) < nD) ∧
  ((k0_dev5 v2) < nD) ∧
  ((k0_dev8 v2) < nD) ∧
  ((k0_dev10 v2) < nD) ∧
  ((k0_dev11 v2) < nD)
theorem k0_dev1_lt : ∀ (v2 : BitVec 32) (k0_hw1 : k0_chk1 v2), (k0_dev1 v2) < nD := fun v2 k0_hw1 => k0_hw1.1
theorem k0_dev4_lt : ∀ (v2 : BitVec 32) (k0_hw1 : k0_chk1 v2), (k0_dev4 v2) < nD := fun v2 k0_hw1 => k0_hw1.2.1
theorem k0_dev5_lt : ∀ (v2 : BitVec 32) (k0_hw1 : k0_chk1 v2), (k0_dev5 v2) < nD := fun v2 k0_hw1 => k0_hw1.2.2.1
theorem k0_dev8_lt : ∀ (v2 : BitVec 32) (k0_hw1 : k0_chk1 v2), (k0_dev8 v2) < nD := fun v2 k0_hw1 => k0_hw1.2.2.2.1
theorem k0_dev10_lt : ∀ (v2 : BitVec 32) (k0_hw1 : k0_chk1 v2), (k0_dev10 v2) < nD := fun v2 k0_hw1 => k0_hw1.2.2.2.2.1
theorem k0_dev11_lt : ∀ (v2 : BitVec 32) (k0_hw1 : k0_chk1 v2), (k0_dev11 v2) < nD := fun v2 k0_hw1 => k0_hw1.2.2.2.2.2

def k0_dev12 (v1 : BitVec 32) : Nat :=
  let c0_i32_156 : BitVec 32 := 0#32
  let c1_i32_155 : BitVec 32 := 1#32
  let v177 : BitVec 32 := Scalar.muli v1 c1_i32_155
  let v178 : BitVec 32 := Scalar.addi c0_i32_156 v177
  v178.toNat

def k0_chk2 (v1 : BitVec 32) : Prop :=
  ((k0_dev2 v1) < nD) ∧
  ((k0_dev3 v1) < nD) ∧
  ((k0_dev6 v1) < nD) ∧
  ((k0_dev7 v1) < nD) ∧
  ((k0_dev9 v1) < nD) ∧
  ((k0_dev12 v1) < nD)
theorem k0_dev2_lt : ∀ (v1 : BitVec 32) (k0_hw2 : k0_chk2 v1), (k0_dev2 v1) < nD := fun v1 k0_hw2 => k0_hw2.1
theorem k0_dev3_lt : ∀ (v1 : BitVec 32) (k0_hw2 : k0_chk2 v1), (k0_dev3 v1) < nD := fun v1 k0_hw2 => k0_hw2.2.1
theorem k0_dev6_lt : ∀ (v1 : BitVec 32) (k0_hw2 : k0_chk2 v1), (k0_dev6 v1) < nD := fun v1 k0_hw2 => k0_hw2.2.2.1
theorem k0_dev7_lt : ∀ (v1 : BitVec 32) (k0_hw2 : k0_chk2 v1), (k0_dev7 v1) < nD := fun v1 k0_hw2 => k0_hw2.2.2.2.1
theorem k0_dev9_lt : ∀ (v1 : BitVec 32) (k0_hw2 : k0_chk2 v1), (k0_dev9 v1) < nD := fun v1 k0_hw2 => k0_hw2.2.2.2.2.1
theorem k0_dev12_lt : ∀ (v1 : BitVec 32) (k0_hw2 : k0_chk2 v1), (k0_dev12 v1) < nD := fun v1 k0_hw2 => k0_hw2.2.2.2.2.2

def k0_off13 (k0_t2 : Fin k0_t2_loop.trips) : Fin 3 → Nat :=
  let c31_i32_109 : BitVec 32 := 31#32
  let c1_i32_102 : BitVec 32 := 1#32
  let c1_i32_103 : BitVec 32 := 1#32
  let arg21 : BitVec 32 := Scf.iv c1_i32_102 c1_i32_103 k0_t2
  let v123 : BitVec 32 := Scalar.addi c31_i32_109 arg21
  let c2_i32_110 : BitVec 32 := 2#32
  let v124 : BitVec 32 := Scalar.remsi v123 c2_i32_110
  let v182 : Index := Scalar.indexCast v124
  let c0_158 : Index := 0#32
  let c0_159 : Index := 0#32
  ![v182.toNat, 0, 0]
def k0_off14 (v0 : BitVec 32) (k0_t2 : Fin k0_t2_loop.trips) : Fin 2 → Nat :=
  let c1_i32_102 : BitVec 32 := 1#32
  let c1_i32_103 : BitVec 32 := 1#32
  let arg21 : BitVec 32 := Scf.iv c1_i32_102 c1_i32_103 k0_t2
  let v179 : BitVec 32 := Scalar.subi v0 arg21
  let c64_i32 : BitVec 32 := 64#32
  let v180 : BitVec 32 := Scalar.addi v179 c64_i32
  let c32_i32_157 : BitVec 32 := 32#32
  let v181 : BitVec 32 := Scalar.remsi v180 c32_i32_157
  let c128_i32_165 : BitVec 32 := 128#32
  let v197 : BitVec 32 := Scalar.muli v181 c128_i32_165
  let c0_i32_166 : BitVec 32 := 0#32
  ![v197.toNat, 0]
def k0_off15 (v0 : BitVec 32) (k0_t2 : Fin k0_t2_loop.trips) : Fin 2 → Nat :=
  let c1_i32_102 : BitVec 32 := 1#32
  let c1_i32_103 : BitVec 32 := 1#32
  let arg21 : BitVec 32 := Scf.iv c1_i32_102 c1_i32_103 k0_t2
  let v200 : BitVec 32 := Scalar.addi v0 arg21
  let c32_i32_168 : BitVec 32 := 32#32
  let v201 : BitVec 32 := Scalar.remsi v200 c32_i32_168
  let c128_i32_176 : BitVec 32 := 128#32
  let v217 : BitVec 32 := Scalar.muli v201 c128_i32_176
  let c4096_i32_177 : BitVec 32 := 4096#32
  ![v217.toNat, 4096]

def k0_chk3 (v0 : BitVec 32) : Prop :=
  (∀ a, (k0_off1 v0) a + S128x4096.size a ≤ S4096x8192.size a) ∧
  (∀ (hinb : ∀ a, (k0_off1 v0) a + S128x4096.size a ≤ S4096x8192.size a), (Rect.unit (s := S4096x8192) (k0_off1 v0) S128x4096.size hinb).WholeWords (EltTy.packing .bf16)) ∧
  (∀ a, (k0_off2 v0) a + S128x4096.size a ≤ S4096x8192.size a) ∧
  (∀ (hinb : ∀ a, (k0_off2 v0) a + S128x4096.size a ≤ S4096x8192.size a), (Rect.unit (s := S4096x8192) (k0_off2 v0) S128x4096.size hinb).WholeWords (EltTy.packing .bf16)) ∧
  (∀ k0_t1 : Fin k0_t1_loop.trips, ∀ a, (k0_off3 v0 k0_t1) a + S128x4096.size a ≤ S4096x8192.size a) ∧
  (∀ k0_t1 : Fin k0_t1_loop.trips, ∀ (hinb : ∀ a, (k0_off3 v0 k0_t1) a + S128x4096.size a ≤ S4096x8192.size a), (Rect.unit (s := S4096x8192) (k0_off3 v0 k0_t1) S128x4096.size hinb).WholeWords (EltTy.packing .bf16)) ∧
  (∀ k0_t1 : Fin k0_t1_loop.trips, ∀ a, (k0_off4 v0 k0_t1) a + S128x4096.size a ≤ S4096x8192.size a) ∧
  (∀ k0_t1 : Fin k0_t1_loop.trips, ∀ (hinb : ∀ a, (k0_off4 v0 k0_t1) a + S128x4096.size a ≤ S4096x8192.size a), (Rect.unit (s := S4096x8192) (k0_off4 v0 k0_t1) S128x4096.size hinb).WholeWords (EltTy.packing .bf16)) ∧
  (∀ a, (k0_off8 v0) a + S128x4096.size a ≤ S4096x8192.size a) ∧
  (∀ a, (k0_off9 v0) a + S128x4096.size a ≤ S4096x8192.size a) ∧
  (∀ k0_t2 : Fin k0_t2_loop.trips, ∀ a, (k0_off14 v0 k0_t2) a + S128x4096.size a ≤ S4096x8192.size a) ∧
  (∀ k0_t2 : Fin k0_t2_loop.trips, ∀ a, (k0_off15 v0 k0_t2) a + S128x4096.size a ≤ S4096x8192.size a)
theorem k0_off1_inb : ∀ (v0 : BitVec 32) (k0_hw3 : k0_chk3 v0), ∀ a, (k0_off1 v0) a + S128x4096.size a ≤ S4096x8192.size a := fun v0 k0_hw3 => k0_hw3.1
theorem k0_off1_wordsbf16 : ∀ (v0 : BitVec 32) (k0_hw3 : k0_chk3 v0), (Rect.unit (s := S4096x8192) (k0_off1 v0) S128x4096.size (k0_off1_inb v0 k0_hw3)).WholeWords (EltTy.packing .bf16) := fun v0 k0_hw3 => k0_hw3.2.1 (k0_off1_inb v0 k0_hw3)
theorem k0_off2_inb : ∀ (v0 : BitVec 32) (k0_hw3 : k0_chk3 v0), ∀ a, (k0_off2 v0) a + S128x4096.size a ≤ S4096x8192.size a := fun v0 k0_hw3 => k0_hw3.2.2.1
theorem k0_off2_wordsbf16 : ∀ (v0 : BitVec 32) (k0_hw3 : k0_chk3 v0), (Rect.unit (s := S4096x8192) (k0_off2 v0) S128x4096.size (k0_off2_inb v0 k0_hw3)).WholeWords (EltTy.packing .bf16) := fun v0 k0_hw3 => k0_hw3.2.2.2.1 (k0_off2_inb v0 k0_hw3)
theorem k0_off3_inb : ∀ (v0 : BitVec 32) (k0_hw3 : k0_chk3 v0) (k0_t1 : Fin k0_t1_loop.trips), ∀ a, (k0_off3 v0 k0_t1) a + S128x4096.size a ≤ S4096x8192.size a := fun v0 k0_hw3 k0_t1 => k0_hw3.2.2.2.2.1 k0_t1
theorem k0_off3_wordsbf16 : ∀ (v0 : BitVec 32) (k0_hw3 : k0_chk3 v0) (k0_t1 : Fin k0_t1_loop.trips), (Rect.unit (s := S4096x8192) (k0_off3 v0 k0_t1) S128x4096.size (k0_off3_inb v0 k0_hw3 k0_t1)).WholeWords (EltTy.packing .bf16) := fun v0 k0_hw3 k0_t1 => k0_hw3.2.2.2.2.2.1 k0_t1 (k0_off3_inb v0 k0_hw3 k0_t1)
theorem k0_off4_inb : ∀ (v0 : BitVec 32) (k0_hw3 : k0_chk3 v0) (k0_t1 : Fin k0_t1_loop.trips), ∀ a, (k0_off4 v0 k0_t1) a + S128x4096.size a ≤ S4096x8192.size a := fun v0 k0_hw3 k0_t1 => k0_hw3.2.2.2.2.2.2.1 k0_t1
theorem k0_off4_wordsbf16 : ∀ (v0 : BitVec 32) (k0_hw3 : k0_chk3 v0) (k0_t1 : Fin k0_t1_loop.trips), (Rect.unit (s := S4096x8192) (k0_off4 v0 k0_t1) S128x4096.size (k0_off4_inb v0 k0_hw3 k0_t1)).WholeWords (EltTy.packing .bf16) := fun v0 k0_hw3 k0_t1 => k0_hw3.2.2.2.2.2.2.2.1 k0_t1 (k0_off4_inb v0 k0_hw3 k0_t1)
theorem k0_off8_inb : ∀ (v0 : BitVec 32) (k0_hw3 : k0_chk3 v0), ∀ a, (k0_off8 v0) a + S128x4096.size a ≤ S4096x8192.size a := fun v0 k0_hw3 => k0_hw3.2.2.2.2.2.2.2.2.1
theorem k0_off9_inb : ∀ (v0 : BitVec 32) (k0_hw3 : k0_chk3 v0), ∀ a, (k0_off9 v0) a + S128x4096.size a ≤ S4096x8192.size a := fun v0 k0_hw3 => k0_hw3.2.2.2.2.2.2.2.2.2.1
theorem k0_off14_inb : ∀ (v0 : BitVec 32) (k0_hw3 : k0_chk3 v0) (k0_t2 : Fin k0_t2_loop.trips), ∀ a, (k0_off14 v0 k0_t2) a + S128x4096.size a ≤ S4096x8192.size a := fun v0 k0_hw3 k0_t2 => k0_hw3.2.2.2.2.2.2.2.2.2.2.1 k0_t2
theorem k0_off15_inb : ∀ (v0 : BitVec 32) (k0_hw3 : k0_chk3 v0) (k0_t2 : Fin k0_t2_loop.trips), ∀ a, (k0_off15 v0 k0_t2) a + S128x4096.size a ≤ S4096x8192.size a := fun v0 k0_hw3 k0_t2 => k0_hw3.2.2.2.2.2.2.2.2.2.2.2 k0_t2

abbrev stage0_0 : Fin 1 → Memref sig .tc .smem S3 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S4096x8192, .bf16⟩
  | .hbm, ⟨4, _⟩ => ⟨S4096x8192, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S4096x8192, .f32⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== UnclippedIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S4096x8192, .bf16⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.KernelIdeal.Ring.lean ====
/-
  The ring all-reduce: the devices' order, the cells, the views, the messages and the schedule.

  Two copies of one protocol run side by side, one per direction `b : Bool` (`true`: chunks travel
  to the right neighbour; `false`: to the left). Every device takes 62 steps per direction; in
  steps 0..30 it sends its accumulator and adds its own chunk to what it receives, in steps 31..61
  it forwards the finished chunk.

  Semaphores, per device `c` and direction `b`:
  * barrier (one, both directions): each neighbour signals 1, `c` waits 2. The neighbour that `c`
    sends to hands over that its two receive slots of direction `b` are free, that its receive
    cells have reached round 0, and that its credit cell of the other direction, which `c` is to
    signal, has reached round 0 too.
  * credit: `c` signals itself 2; the neighbour `c` sends to signals 1 after each step at which it
    has read a slot; `c` waits 1 before each send, and once at the end: 63 given, 63 waited. The
    payload of credit `k` is that every step up to `k` may write its slot.
  * send, per slot: the copy of step `u` credits it on departure (slot `u % 2`, round `u / 2`) and
    hands the source back; `c` waits for it in step `u`.
  * receive, per slot: the neighbour's copy of step `u` credits it on arrival and hands `c` the slot
    holding `msg b u` of that neighbour; `c` waits for it in step `u`.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import Idealize.ShloMosaic.Lib.Release
public import Idealize.ShloMosaic.Lib.Transfers
public import Idealize.ShloMosaic.Lib.Pipeline.Regions
public import Idealize.ShloMosaic.Lib.Pipeline.Kit
public import Idealize.ShloMosaic.Lib.Tactic
public import Idealize.ShloMosaic.PureOps
public import Idealize.ShloMosaic.Lib.Pipeline.RegionTalk
public import Idealize.ShloMosaic.Adequacy
public import Idealize.ShloMosaic.Init

@[expose] public section

noncomputable section

namespace Cert.KernelIdeal.Proofs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (released readerAt writeTok slotInv USlots)

variable {F : FTy → Type} [FloatOps F]

/-! ## The ring -/

/-- The device's position in the ring. -/
def pos (c : Dev nD) : Fin 32 :=
  (![0, 31, 30, 1, 2, 29, 28, 3, 7, 24, 25, 6, 5, 26, 27, 4, 8, 23, 22, 9, 10, 21, 20, 11, 15, 16, 17, 14, 13, 18, 19, 12] : Fin 32 → Fin 32) c
/-- The device at a position. -/
def dev (r : Fin 32) : Dev nD :=
  (![0, 3, 4, 7, 15, 12, 11, 8, 16, 19, 20, 23, 31, 28, 27, 24, 25, 26, 29, 30, 22, 21, 18, 17, 9, 10, 13, 14, 6, 5, 2, 1] : Fin 32 → Fin 32) r
/-- The right neighbour. -/
def rgt (c : Dev nD) : Dev nD :=
  (![3, 0, 1, 4, 7, 2, 5, 15, 16, 10, 13, 8, 11, 14, 6, 12, 19, 9, 17, 20, 23, 18, 21, 31, 25, 26, 29, 24, 27, 30, 22, 28] : Fin 32 → Fin 32) c
/-- The left neighbour. -/
def lft (c : Dev nD) : Dev nD :=
  (![1, 2, 5, 0, 3, 6, 14, 4, 11, 17, 9, 12, 15, 10, 13, 7, 8, 18, 21, 16, 19, 22, 30, 20, 27, 24, 25, 28, 31, 26, 29, 23] : Fin 32 → Fin 32) c

/-- A position's device has that position. -/
theorem pos_dev (r : Fin 32) : pos (dev r) = r := by revert r; decide
/-- A device is the one at its position. -/
theorem dev_pos (c : Dev nD) : dev (pos c) = c := by revert c; decide
/-- The right neighbour of the left one is the device itself. -/
theorem rgt_lft (c : Dev nD) : rgt (lft c) = c := by revert c; decide
/-- The left neighbour of the right one is the device itself. -/
theorem lft_rgt (c : Dev nD) : lft (rgt c) = c := by revert c; decide
/-- The right neighbour is one place on. -/
theorem pos_rgt (c : Dev nD) : pos (rgt c) = pos c + 1 := by revert c; decide
/-- The left neighbour is one place back. -/
theorem pos_lft (c : Dev nD) : pos (lft c) = pos c - 1 := by revert c; decide
/-- The two neighbours are two devices. -/
theorem rgt_ne_lft (c : Dev nD) : rgt c ≠ lft c := by revert c; decide
/-- The right neighbour is another device. -/
theorem rgt_ne (c : Dev nD) : rgt c ≠ c := by revert c; decide
/-- The left neighbour is another device. -/
theorem lft_ne (c : Dev nD) : lft c ≠ c := by revert c; decide

/-- The neighbour direction `b` sends to. -/
def nx : Bool → Dev nD → Dev nD
  | true, c => rgt c
  | false, c => lft c
/-- The neighbour direction `b` receives from. -/
def frm : Bool → Dev nD → Dev nD
  | true, c => lft c
  | false, c => rgt c

/-- One direction sends to the right. -/
@[simp] theorem nx_true (c : Dev nD) : nx true c = rgt c := rfl
/-- The other sends to the left. -/
@[simp] theorem nx_false (c : Dev nD) : nx false c = lft c := rfl
/-- One direction receives from the left. -/
@[simp] theorem frm_true (c : Dev nD) : frm true c = lft c := rfl
/-- The other receives from the right. -/
@[simp] theorem frm_false (c : Dev nD) : frm false c = rgt c := rfl
/-- The device received from sends to this one. -/
theorem nx_frm (b : Bool) (c : Dev nD) : nx b (frm b c) = c := by
  cases b
  · rw [nx_false, frm_false, lft_rgt]
  · rw [nx_true, frm_true, rgt_lft]
/-- The device sent to receives from this one. -/
theorem frm_nx (b : Bool) (c : Dev nD) : frm b (nx b c) = c := by
  cases b
  · rw [nx_false, frm_false, rgt_lft]
  · rw [nx_true, frm_true, lft_rgt]
/-- A direction does not send where it receives from. -/
theorem nx_ne_frm (b : Bool) (c : Dev nD) : nx b c ≠ frm b c := by
  cases b
  · rw [nx_false, frm_false]; exact (rgt_ne_lft c).symm
  · rw [nx_true, frm_true]; exact rgt_ne_lft c
/-- The other direction sends to where this one receives from. -/
theorem nx_not (b : Bool) (c : Dev nD) : nx (!b) c = frm b c := by cases b <;> rfl
/-- The other direction receives from where this one sends to. -/
theorem frm_not (b : Bool) (c : Dev nD) : frm (!b) c = nx b c := by cases b <;> rfl

/-- One direction's turn of the ring, as a permutation of the devices. -/
def ring (b : Bool) : Dev nD ≃ Dev nD := ⟨nx b, frm b, frm_nx b, nx_frm b⟩

/-! ## The algebra -/

/-- A receive slot: its device, direction and index. -/
abbrev KK : Type := Dev nD × Bool × Fin 2

/-- The ghost state: the transfers', the rounds of the cells, the slots and the counters of copies. -/
abbrev UU : Type := UR sig nD τ × (URounds (GSem nD τ sig) ℕ × (USlots KK × Counters))

local notation "𝕄" => MT nD τ sig ℕ (Elt F) ℕ UU ℕ

/-- Where the transfers' ghost state lies in it. -/
abbrev EP : Emb (UR sig nD τ) 𝕄 := embL
/-- Where the rounds lie in it. -/
abbrev ER : Emb (URounds (GSem nD τ sig) ℕ) 𝕄 := (Emb.inl : Emb _ (URounds (GSem nD τ sig) ℕ × (USlots KK × Counters))).trans embR
/-- Where the slots lie in it. -/
abbrev ES : Emb (USlots KK) 𝕄 :=
  ((Emb.inl : Emb _ (USlots KK × Counters)).trans (Emb.inr : Emb _ (URounds (GSem nD τ sig) ℕ × (USlots KK × Counters)))).trans embR
/-- Where the counters lie in it. -/
abbrev EC : UEmb Counters 𝕄 := countersEmb

/-- No loop of the program needs a variant. -/
abbrev 𝒱₀ : Variants := Variants.none

/-! ## Cells -/

/-- The slot of step `u`. -/
def sl (u : ℕ) : Fin 2 := ⟨u % 2, Nat.mod_lt _ (by decide)⟩

/-- The semaphore that a direction's copies credit on departure, per slot. -/
def sendSem (b : Bool) (s : Fin 2) : DmaSem sig := ⟨(if b then 1 else 5) + s.val, by cases b <;> (have := s.isLt; show _ < 13; simp; omega)⟩
/-- The semaphore that they credit on arrival, per slot. -/
def recvSem (b : Bool) (s : Fin 2) : DmaSem sig := ⟨(if b then 3 else 7) + s.val, by cases b <;> (have := s.isLt; show _ < 13; simp; omega)⟩
/-- A direction's credit semaphore. -/
def credSem (b : Bool) : Sem sig := ⟨if b then 0 else 1, by cases b <;> (show _ < 3; simp)⟩
/-- The barrier semaphore. -/
def barSem : Sem sig := ⟨2, by show _ < 3; decide⟩

/-- The kinds of cell the protocol has. -/
inductive Kd where
  | bar
  | cred (b : Bool)
  | send (b : Bool) (s : Fin 2)
  | recv (b : Bool) (s : Fin 2)
deriving DecidableEq

/-- A kind's semaphore. -/
def Kd.sem : Kd → SemLoc sig
  | .bar => .reg barSem
  | .cred b => .reg (credSem b)
  | .send b s => .dma (sendSem b s)
  | .recv b s => .dma (recvSem b s)

/-- The kind of a semaphore, if the protocol uses it. -/
def kd : SemLoc sig → Option Kd
  | .reg i => if i.val = 2 then some .bar else some (.cred (decide (i.val = 0)))
  | .dma i =>
    if i.val = 1 then some (.send true 0) else if i.val = 2 then some (.send true 1)
    else if i.val = 3 then some (.recv true 0) else if i.val = 4 then some (.recv true 1)
    else if i.val = 5 then some (.send false 0) else if i.val = 6 then some (.send false 1)
    else if i.val = 7 then some (.recv false 0) else if i.val = 8 then some (.recv false 1)
    else none

/-- A kind's semaphore is of that kind. -/
theorem kd_sem (k : Kd) : kd k.sem = some k := by
  cases k with
  | bar => rfl
  | cred b => cases b <;> rfl
  | send b s => fin_cases s <;> cases b <;> rfl
  | recv b s => fin_cases s <;> cases b <;> rfl

/-- Device `c`'s cell of a kind. -/
abbrev cell (c : Dev nD) (k : Kd) : GSem nD τ sig := ((c : Thread nD τ), k.sem)
/-- A device's barrier cell. -/
abbrev barCell (c : Dev nD) : GSem nD τ sig := cell c .bar
/-- A device's credit cell of a direction. -/
abbrev credCell (c : Dev nD) (b : Bool) : GSem nD τ sig := cell c (.cred b)
/-- A device's send cell of a direction and a slot. -/
abbrev sendCell (c : Dev nD) (b : Bool) (s : Fin 2) : GSem nD τ sig := cell c (.send b s)
/-- A device's receive cell of a direction and a slot. -/
abbrev recvCell (c : Dev nD) (b : Bool) (s : Fin 2) : GSem nD τ sig := cell c (.recv b s)

/-- A cell says whose it is and of what kind. -/
theorem cell_inj {c c' : Dev nD} {k k' : Kd} (h : cell c k = cell c' k') : c = c' ∧ k = k' := by
  have h1 : c = c' := congrArg (fun g : GSem nD τ sig => g.1.1) h
  have h2 : kd k.sem = kd k'.sem := congrArg (fun g : GSem nD τ sig => kd g.2) h
  rw [kd_sem, kd_sem] at h2
  exact ⟨h1, Option.some.inj h2⟩

/-! ## Views -/

/-- The receive buffer of a direction. -/
def commM : Bool → Memref sig .tc .vmem S2x128x4096 .bf16
  | true => Memref.whole cc0_scratch0
  | false => Memref.whole cc0_scratch1
/-- The accumulator of a direction. -/
def accM : Bool → Memref sig .tc .vmem S128x4096 .bf16
  | true => Memref.whole cc0_scratch2
  | false => Memref.whole cc0_scratch3
/-- The chunk buffer of a direction. -/
def lbufM : Bool → Memref sig .tc .vmem S128x4096 .bf16
  | true => Memref.whole cc0_scratch4
  | false => Memref.whole cc0_scratch5
/-- The result buffer of a direction. -/
def obufM : Bool → Memref sig .tc .vmem S128x4096 .f32
  | true => Memref.whole cc0_scratch6
  | false => Memref.whole cc0_scratch7
/-- The partial products and the result, in HBM. -/
def pM : Memref sig .tc .hbm S4096x8192 .bf16 := Memref.whole main_v25
/-- The result array. -/
def oM : Memref sig .tc .hbm S4096x8192 .f32 := Memref.whole main_v26

/-- A slot lies in the receive buffer. -/
theorem slot_inb (s : Fin 2) : ∀ a, (![s.val, 0, 0] : Fin 3 → ℕ) a + S1x128x4096.size a ≤ S2x128x4096.size a := by
  fin_cases s <;> decide

/-- Slot `s` of a direction's receive buffer. -/
def slotM (b : Bool) (s : Fin 2) : Memref sig .tc .vmem S128x4096 .bf16 :=
  ((commM b).slice (Rect.unit (s := S2x128x4096) ![s.val, 0, 0] S1x128x4096.size (slot_inb s)) (fun _ => rfl)).squeeze S128x4096 squeezes_S1x128x4096_S128x4096

/-- The column at which a direction's half begins. -/
def col (b : Bool) : ℕ := if b then 0 else 4096

/-- A chunk lies in the array. -/
theorem chunk_inb (b : Bool) (j : Fin 32) : ∀ a, (![j.val * 128, col b] : Fin 2 → ℕ) a + S128x4096.size a ≤ S4096x8192.size a := by
  intro a; have := j.isLt
  fin_cases a
  · show j.val * 128 + 128 ≤ 4096; omega
  · show col b + 4096 ≤ 8192; cases b <;> decide

/-- Chunk `j` of a direction's half of the partial products, and of the result. -/
def pSl (b : Bool) (j : Fin 32) : Memref sig .tc .hbm S128x4096 .bf16 :=
  pM.slice (Rect.unit (s := S4096x8192) ![j.val * 128, col b] S128x4096.size (chunk_inb b j)) (fun _ => rfl)
/-- Chunk `j` of a direction's half of the result. -/
def oSl (b : Bool) (j : Fin 32) : Memref sig .tc .hbm S128x4096 .f32 :=
  oM.slice (Rect.unit (s := S4096x8192) ![j.val * 128, col b] S128x4096.size (chunk_inb b j)) (fun _ => rfl)

/-- A chunk's values. -/
abbrev Chunk (F : FTy → Type) : Type := S128x4096.Idx → Elt F .bf16
/-- The values of a chunk of the result. -/
abbrev ChunkO (F : FTy → Type) : Type := S128x4096.Idx → Elt F .f32

/-- The bytes of one remote copy, as its semaphores count them. -/
def N : ℕ := (accM true).view.dmaCredit

/-- A remote copy counts for something. -/
theorem N_pos : 0 < N := View.dmaCredit_pos _ (by decide)

/-- A copy into or out of an accumulator counts the same. -/
theorem acc_credit (b : Bool) : (accM b).view.dmaCredit = N := by cases b <;> rfl
/-- A copy into or out of a slot counts the same. -/
theorem slot_credit (b : Bool) (s : Fin 2) : (slotM b s).view.dmaCredit = N := by cases b <;> rfl

/-- A view's elements on device `c`, at a share, holding the values `v`. -/
def holds {sp : Space} {s : Shape} {e : EltTy} (c : Dev nD) (M : Memref sig .tc sp s e) (q : PosShare TreeShare) (v : s.Idx → Elt F e) : sProp 𝕄 :=
  iprop(∃ f : Buf (Elt F) (M.view.loc (c : Thread nD τ)), ⌜M.view.read (Elt F) f = v⌝ ∗ M.view.loc (c : Thread nD τ) ↦[M.view.set]{q} f)

/-- A view's elements on device `c` at values not chosen. -/
def anyOf {sp : Space} {s : Shape} {e : EltTy} (c : Dev nD) (M : Memref sig .tc sp s e) : sProp 𝕄 :=
  iprop(∃ f : Buf (Elt F) (M.view.loc (c : Thread nD τ)), M.view.loc (c : Thread nD τ) ↦[M.view.set]{fullShare} f)

instance holds_storable {sp : Space} {s : Shape} {e : EltTy} (c : Dev nD) (M : Memref sig .tc sp s e) (q : PosShare TreeShare) (v : s.Idx → Elt F e) :
    BI.Storable (upEmb : UEmb _ 𝕄) (holds c M q v) := by unfold holds; infer_instance
instance anyOf_storable {sp : Space} {s : Shape} {e : EltTy} (c : Dev nD) (M : Memref sig .tc sp s e) :
    BI.Storable (upEmb : UEmb _ 𝕄) (anyOf (F := F) c M) := by unfold anyOf; infer_instance

/-- A buffer that holds a value holds some value. -/
theorem holds_any {sp : Space} {s : Shape} {e : EltTy} (c : Dev nD) (M : Memref sig .tc sp s e) (v : s.Idx → Elt F e) :
    (holds c M fullShare v : sProp 𝕄) ⊢ anyOf c M := by
  unfold holds anyOf; iintro ⟨%f, -, H⟩; iexists f; iexact H

/-! ## Messages -/

/-- The chunk that device position `r` handles in step `u - 1` of a direction (`u = 0`: at the start). -/
def ck (b : Bool) (r : Fin 32) (u : ℕ) : Fin 32 :=
  ⟨if b then (r.val + 64 - u % 64) % 32 else (r.val + u) % 32, by split <;> exact Nat.mod_lt _ (by decide)⟩

/-- Device `c`'s chunk `j` of a direction's half, out of its partial products. -/
def part (pv : Dev nD → main_v25.ty.Contents (Elt F)) (b : Bool) (c : Dev nD) (j : Fin 32) : Chunk F :=
  (pSl b j).view.read (Elt F) (pv c)

/-- The sum of two chunks, as the kernel takes it. -/
def addC (x y : Chunk F) : Chunk F := addf x y

/-- What device `c` sends in step `u` of direction `b`. -/
def msg (pv : Dev nD → main_v25.ty.Contents (Elt F)) (b : Bool) : ℕ → Dev nD → Chunk F
  | 0, c => part pv b c (ck b (pos c) 0)
  | u + 1, c => if u < 31 then addC (msg pv b u (frm b c)) (part pv b c (ck b (pos c) (u + 1))) else msg pv b u (frm b c)

/-- In a step of the first half a device sends what it received, its own chunk added. -/
theorem msg_add (pv : Dev nD → main_v25.ty.Contents (Elt F)) (b : Bool) {u : ℕ} (h : u < 31) (c : Dev nD) :
    msg pv b (u + 1) c = addC (msg pv b u (frm b c)) (part pv b c (ck b (pos c) (u + 1))) := by
  rw [msg, if_pos h]
/-- In a step of the second half it sends what it received. -/
theorem msg_fwd (pv : Dev nD → main_v25.ty.Contents (Elt F)) (b : Bool) {u : ℕ} (h : 31 ≤ u) (c : Dev nD) :
    msg pv b (u + 1) c = msg pv b u (frm b c) := by
  rw [msg, if_neg (by omega)]

/-! ## The schedule -/

variable (pv : Dev nD → main_v25.ty.Contents (Elt F))

/-- Step `u` may write its slot of device `d`'s receive buffer, whose receive cell has reached that step's round. -/
def relFact (d : Dev nD) (b : Bool) (u : ℕ) : sProp 𝕄 :=
  iprop(released ES (d, b, sl u) (u / 2 + 1) ∗ reached ER (recvCell d b (sl u)) (u / 2))

instance relFact_persistent (d : Dev nD) (b : Bool) (u : ℕ) : BI.Persistent (relFact d b u : sProp 𝕄) := by
  unfold relFact; infer_instance
instance relFact_storable (d : Dev nD) (b : Bool) (u : ℕ) : BI.Storable (upEmb : UEmb _ 𝕄) (relFact d b u : sProp 𝕄) := by
  unfold relFact; infer_instance

/-- Every step up to `k` (of the 62) may write. -/
def relFacts (d : Dev nD) (b : Bool) (k : ℕ) : sProp 𝕄 := bigSep (Finset.range (min k 61 + 1)) (relFact d b)

instance relFacts_persistent (d : Dev nD) (b : Bool) (u : ℕ) : BI.Persistent (relFacts d b u : sProp 𝕄) := by
  unfold relFacts; infer_instance
instance relFacts_storable (d : Dev nD) (b : Bool) (u : ℕ) : BI.Storable (upEmb : UEmb _ 𝕄) (relFacts d b u : sProp 𝕄) := by
  unfold relFacts; infer_instance

/-- What the copy of step `u` reads: the accumulator, at half its share, or the slot received before. -/
def srcRes (c : Dev nD) (b : Bool) (u : ℕ) : sProp 𝕄 :=
  if u ≤ 31 then holds c (accM b) fullShare.left (msg pv b u c) else holds c (slotM b (sl (u + 1))) fullShare (msg pv b u c)

instance srcRes_storable (c : Dev nD) (b : Bool) (u : ℕ) : BI.Storable (upEmb : UEmb _ 𝕄) (srcRes pv c b u) := by
  unfold srcRes; split <;> infer_instance

/-- The credits' duties: 0 is the device's own signal of two units, `k` the neighbour's credit for step `k`. -/
def credDuties : Finset ℕ := insert 0 (Finset.Icc 2 62)

/-- The protocol's duties, amounts and payloads. -/
def Rd : Rounds.Schedule (GSem nD τ sig) ℕ 𝕄 where
  duties g r := if g.1.2 = .tc then match kd g.2 with
    | some .bar => if r = 0 then {0, 1} else ∅
    | some (.cred _) => if r = 0 then credDuties else ∅
    | some (.send _ _) => if r < 31 then {0} else ∅
    | some (.recv _ _) => if r < 31 then {0} else ∅
    | none => ∅ else ∅
  amount g _ d := match kd g.2 with
    | some .bar => 1
    | some (.cred _) => if d = 0 then 2 else 1
    | _ => N
  payload g r d := match kd g.2 with
    | some .bar => iprop(relFacts (nx (d == 1) g.1.1) (d == 1) 1 ∗ reached ER (credCell (nx (d == 1) g.1.1) (!(d == 1))) 0)
    | some (.cred b) => if d = 0 then iprop(emp) else relFacts (nx b g.1.1) b d
    | some (.send b s) => srcRes pv g.1.1 b (2 * r + s.val)
    | some (.recv b s) => holds g.1.1 (slotM b s) fullShare (msg pv b (2 * r + s.val) (frm b g.1.1))
    | none => iprop(emp)
  amount_pos g _ d _ := by
    have := N_pos
    split
    · decide
    · split <;> decide
    · exact this

instance Rd_storable (g : GSem nD τ sig) (r : ℕ) (d : ℕ) : BI.Storable (upEmb : UEmb _ 𝕄) ((Rd pv).payload g r d) := by
  dsimp only [Rd]
  split
  · infer_instance
  · split <;> infer_instance
  · infer_instance
  · infer_instance
  · infer_instance

section Sched
variable (c : Dev nD) (b : Bool) (s : Fin 2)

/-- The barrier has two signals to come. -/
theorem duties_bar : (Rd pv).duties (barCell c) 0 = {0, 1} := by
  dsimp only [Rd, cell]; rw [if_pos rfl, kd_sem]; rfl
/-- The credit cell has all its signals in one round. -/
theorem duties_cred : (Rd pv).duties (credCell c b) 0 = credDuties := by
  dsimp only [Rd, cell]; rw [if_pos rfl, kd_sem]; rfl
/-- A send cell has one credit to come in each of its 31 rounds. -/
theorem duties_send {r : ℕ} (h : r < 31) : (Rd pv).duties (sendCell c b s) r = {0} := by
  dsimp only [Rd, cell]; rw [if_pos rfl, kd_sem]; exact if_pos h
/-- A receive cell has one credit to come in each of its 31 rounds. -/
theorem duties_recv {r : ℕ} (h : r < 31) : (Rd pv).duties (recvCell c b s) r = {0} := by
  dsimp only [Rd, cell]; rw [if_pos rfl, kd_sem]; exact if_pos h
/-- A send cell has no round after the 31st. -/
theorem duties_send_end {r : ℕ} (h : 31 ≤ r) : (Rd pv).duties (sendCell c b s) r = ∅ := by
  dsimp only [Rd, cell]; rw [if_pos rfl, kd_sem]; exact if_neg (by omega)
/-- A receive cell has no round after the 31st. -/
theorem duties_recv_end {r : ℕ} (h : 31 ≤ r) : (Rd pv).duties (recvCell c b s) r = ∅ := by
  dsimp only [Rd, cell]; rw [if_pos rfl, kd_sem]; exact if_neg (by omega)
/-- The barrier has one round. -/
theorem duties_bar_end {r : ℕ} (h : 1 ≤ r) : (Rd pv).duties (barCell c) r = ∅ := by
  dsimp only [Rd, cell]; rw [if_pos rfl, kd_sem]; exact if_neg (by omega)
/-- The credit cell has one round. -/
theorem duties_cred_end {r : ℕ} (h : 1 ≤ r) : (Rd pv).duties (credCell c b) r = ∅ := by
  dsimp only [Rd, cell]; rw [if_pos rfl, kd_sem]; exact if_neg (by omega)

/-- A signal of the barrier is of one. -/
theorem amount_bar (r d : ℕ) : (Rd pv).amount (barCell c) r d = 1 := by dsimp only [Rd, cell]; rw [kd_sem]
/-- A credit is of one, the device's own of two. -/
theorem amount_cred (r d : ℕ) : (Rd pv).amount (credCell c b) r d = if d = 0 then 2 else 1 := by dsimp only [Rd, cell]; rw [kd_sem]
/-- A send cell's credit is of what a copy counts for. -/
theorem amount_send (r d : ℕ) : (Rd pv).amount (sendCell c b s) r d = N := by dsimp only [Rd, cell]; rw [kd_sem]
/-- A receive cell's credit is of what a copy counts for. -/
theorem amount_recv (r d : ℕ) : (Rd pv).amount (recvCell c b s) r d = N := by dsimp only [Rd, cell]; rw [kd_sem]

/-- A neighbour's signal of the barrier hands over its free slots and the round of its credit cell. -/
theorem payload_bar (r d : ℕ) : (Rd pv).payload (barCell c) r d
    = iprop(relFacts (nx (d == 1) c) (d == 1) 1 ∗ reached ER (credCell (nx (d == 1) c) (!(d == 1))) 0) := by
  dsimp only [Rd, cell]; rw [kd_sem]
/-- A credit hands over that the slots are free up to its step. -/
theorem payload_cred (r d : ℕ) : (Rd pv).payload (credCell c b) r d = if d = 0 then iprop(emp) else relFacts (nx b c) b d := by
  dsimp only [Rd, cell]; rw [kd_sem]
/-- A copy's departure hands its source back. -/
theorem payload_send (r d : ℕ) : (Rd pv).payload (sendCell c b s) r d = srcRes pv c b (2 * r + s.val) := by
  dsimp only [Rd, cell]; rw [kd_sem]
/-- A copy's arrival hands over the slot with the neighbour's message in it. -/
theorem payload_recv (r d : ℕ) : (Rd pv).payload (recvCell c b s) r d = holds c (slotM b s) fullShare (msg pv b (2 * r + s.val) (frm b c)) := by
  dsimp only [Rd, cell]; rw [kd_sem]

/-- The barrier comes to two. -/
theorem expect_bar : (Rd pv).expect (barCell c) 0 = 2 := by
  unfold Schedule.expect Schedule.amountOf; rw [duties_bar, Finset.sum_pair (by decide), amount_bar, amount_bar]
/-- A credit cell comes to 63. -/
theorem expect_cred : (Rd pv).expect (credCell c b) 0 = 63 := by
  unfold Schedule.expect Schedule.amountOf; rw [duties_cred]
  simp only [amount_cred]
  unfold credDuties
  rw [Finset.sum_insert (by simp), if_pos rfl, Finset.sum_congr rfl (g := fun _ => 1) (fun x hx => if_neg (by have := (Finset.mem_Icc.mp hx).1; omega))]
  rw [Finset.sum_const, Nat.card_Icc]; rfl
/-- A round of a send cell comes to what one copy counts for. -/
theorem expect_send {r : ℕ} (h : r < 31) : (Rd pv).expect (sendCell c b s) r = N := by
  unfold Schedule.expect Schedule.amountOf; rw [duties_send pv c b s h, Finset.sum_singleton, amount_send]
/-- A round of a receive cell comes to what one copy counts for. -/
theorem expect_recv {r : ℕ} (h : r < 31) : (Rd pv).expect (recvCell c b s) r = N := by
  unfold Schedule.expect Schedule.amountOf; rw [duties_recv pv c b s h, Finset.sum_singleton, amount_recv]

end Sched

/-- A step is its round and its slot. -/
theorem sl_div (u : ℕ) : 2 * (u / 2) + (sl u).val = u := by
  show 2 * (u / 2) + u % 2 = u; omega

/-! ## What each core owes; the levels

An index is its own level. The pipeline's and the send cells' units are at 0, the barrier's at 1, the device's own
credit at 2; the arrival of step `u` is at `2 u + 4`, credit `k ≥ 2` at `2 k + 3`. -/

/-- The index of the credit for step `k`. -/
def lc (k : ℕ) : ℕ := if k < 2 then 2 else 2 * k + 3
/-- The index of the arrival of step `u`. -/
def la (u : ℕ) : ℕ := 2 * u + 4
/-- The credit a device gives after step `u`. -/
def kc (u : ℕ) : ℕ := if u < 31 then u + 2 else u + 1

/-- The arrival of step `u`, owed at the neighbour's receive cell. -/
def tA (b : Bool) (c : Dev nD) (u : ℕ) : CellTallies nD τ sig ℕ := tallyAt (recvCell (nx b c) b (sl u)) (la u) N
/-- The credit after step `u`, owed at the other neighbour's credit cell. -/
def tC (b : Bool) (c : Dev nD) (u : ℕ) : CellTallies nD τ sig ℕ := if u = 31 then 0 else tallyAt (credCell (frm b c) b) (lc (kc u)) 1

/-- What a device owes for the arrivals of steps `i` and later of a direction. -/
def oA (b : Bool) (c : Dev nD) (i : ℕ) : CellTallies nD τ sig ℕ := ∑ u ∈ Finset.Ico i 62, tA b c u
/-- What it owes for the credits of steps `i` and later. -/
def oC (b : Bool) (c : Dev nD) (i : ℕ) : CellTallies nD τ sig ℕ := ∑ u ∈ Finset.Ico i 62, tC b c u

/-- The arrivals owed from a step on are that step's and those after it. -/
theorem oA_succ (b : Bool) (c : Dev nD) {i : ℕ} (h : i < 62) : oA b c i = oA b c (i + 1) + tA b c i := by
  unfold oA; rw [Finset.sum_eq_sum_Ico_succ_bot h, add_comm]
/-- The credits owed from a step on are that step's and those after it. -/
theorem oC_succ (b : Bool) (c : Dev nD) {i : ℕ} (h : i < 62) : oC b c i = oC b c (i + 1) + tC b c i := by
  unfold oC; rw [Finset.sum_eq_sum_Ico_succ_bot h, add_comm]
/-- After the last step no arrival is owed. -/
theorem oA_end (b : Bool) (c : Dev nD) : oA b c 62 = 0 := by unfold oA; rw [Finset.Ico_self, Finset.sum_empty]
/-- After the last step no credit is owed. -/
theorem oC_end (b : Bool) (c : Dev nD) : oC b c 62 = 0 := by unfold oC; rw [Finset.Ico_self, Finset.sum_empty]
/-- Step 31 owes no credit. -/
theorem oC_31 (b : Bool) (c : Dev nD) : oC b c 31 = oC b c 32 := by
  rw [oC_succ b c (by decide : 31 < 62)]; unfold tC; rw [if_pos rfl, add_zero]

/-- What a core owes before its step `i` (`i'` to the left) and the credit after step `j` (`j'`). -/
def own (c : Dev nD) (i j i' j' : ℕ) : CellTallies nD τ sig ℕ := oA true c i + oC true c j + oA false c i' + oC false c j'

/-- What a core owes at launch. -/
def O₀ (c : Dev nD) : CellTallies nD τ sig ℕ :=
  own c 0 0 0 0 + tallyAt (credCell c false) 2 2 + tallyAt (credCell c true) 2 2 + tallyAt (barCell (rgt c)) 1 1 + tallyAt (barCell (lft c)) 1 1

/-- The levels that a core's cells may be waited for at. -/
def L (g : GSem nD τ sig) : Finset ℕ := if g.1.2 = .tc then Finset.range 300 else ∅
/-- A level's height is its number. -/
def lv (_ : GSem nD τ sig) (ι : ℕ) : ℕ := ι

/-- Only the TensorCore has levels. -/
theorem L_of_ne (g : GSem nD τ sig) (h : g.1.2 ≠ .tc) : L g = ∅ := if_neg h
/-- Every semaphore of a TensorCore has all levels. -/
theorem L_tc (c : Dev nD) (sm : SemLoc sig) : L ((c : Thread nD τ), sm) = Finset.range 300 := if_pos rfl

/-- Every unit in `O` is owed to a TensorCore's cell at an index above `b` and below 300. -/
def Above (b : ℕ) (O : CellTallies nD τ sig ℕ) : Prop := ∀ g ι, 0 < O g ι → g.1.2 = .tc ∧ b < ι ∧ ι < 300

/-- Owing nothing is owing above any level. -/
theorem Above.zero (b : ℕ) : Above b 0 := fun g ι h => absurd h (Nat.lt_irrefl 0)
/-- Two debts above a level are a debt above it. -/
theorem Above.add {b : ℕ} {O O' : CellTallies nD τ sig ℕ} (h : Above b O) (h' : Above b O') : Above b (O + O') := fun g ι hp => by
  by_cases h0 : 0 < O g ι
  · exact h g ι h0
  · refine h' g ι ?_
    have : (O + O') g ι = O g ι + O' g ι := rfl
    omega
/-- Debts above a level add up to a debt above it. -/
theorem Above.sum {b : ℕ} {O : ℕ → CellTallies nD τ sig ℕ} {S : Finset ℕ} (h : ∀ u ∈ S, Above b (O u)) : Above b (∑ u ∈ S, O u) := by
  induction S using Finset.induction_on with
  | empty => rw [Finset.sum_empty]; exact Above.zero b
  | insert a S ha ih =>
    rw [Finset.sum_insert ha]
    exact (h a (Finset.mem_insert_self a S)).add (ih fun u hu => h u (Finset.mem_insert_of_mem hu))
/-- A debt at one cell and one level is above every level below. -/
theorem Above.tally {b : ℕ} (c : Dev nD) (k : Kd) {ι n : ℕ} (h : b < ι) (h' : ι < 300) : Above b (tallyAt (cell c k) ι n) := fun g κ hp => by
  rw [tallyAt_apply] at hp
  by_cases hg : g = cell c k ∧ κ = ι
  · rw [hg.1, hg.2]; exact ⟨rfl, h, h'⟩
  · rw [if_neg hg] at hp; exact absurd hp (Nat.lt_irrefl 0)

/-- The arrivals owed from step `i` on are above every level below `2 i + 4`. -/
theorem above_oA (b : Bool) (c : Dev nD) {ι i : ℕ} (h : ι < 2 * i + 4) : Above ι (oA b c i) := by
  refine Above.sum fun u hu => ?_
  have := Finset.mem_Ico.mp hu
  exact Above.tally (ι := la u) _ _ (by unfold la; omega) (by unfold la; omega)
/-- The credits owed from step `i` on are above every level below `2 i + 5`. -/
theorem above_oC (b : Bool) (c : Dev nD) {ι i : ℕ} (h : ι < 2 * i + 5) : Above ι (oC b c i) := by
  refine Above.sum fun u hu => ?_
  have := Finset.mem_Ico.mp hu
  unfold tC
  split
  · exact Above.zero _
  · refine Above.tally (ι := lc (kc u)) _ _ ?_ ?_ <;> (unfold lc kc; split <;> split <;> omega)
/-- All that a device owes is above a level that each of its four parts is above. -/
theorem above_own (c : Dev nD) {ι i j i' j' : ℕ} (h : ι < 2 * i + 4) (h₁ : ι < 2 * j + 5) (h₂ : ι < 2 * i' + 4) (h₃ : ι < 2 * j' + 5) :
    Above ι (own c i j i' j') :=
  (((above_oA _ c h).add (above_oC _ c h₁)).add (above_oA _ c h₂)).add (above_oC _ c h₃)

/-- All that a device owes at launch is above level zero. -/
theorem above_O₀ (c : Dev nD) : Above 0 (O₀ c) :=
  ((((above_own c (by decide) (by decide) (by decide) (by decide)).add (Above.tally _ _ (by decide) (by decide))).add
    (Above.tally _ _ (by decide) (by decide))).add (Above.tally _ _ (by decide) (by decide))).add (Above.tally _ _ (by decide) (by decide))

/-- A core may wait at any index below everything it owes. -/
theorem mayOwe {b : ℕ} {O : CellTallies nD τ sig ℕ} (h : Above b O) (hb : b < 300) (c : Dev nD) (Nw : Waits sig ℕ) (hN : ∀ p ∈ Nw, p.2 ≤ b) :
    (levAts L lv : sProp 𝕄) ⊢ MayOwe (c : Thread nD τ) Nw O :=
  MayOwe.of_cut (L := L) (lev := lv) b
    (fun p hp => by rw [L_tc]; exact Finset.mem_range.mpr (lt_of_le_of_lt (hN p hp) hb))
    (fun g ι hg => by unfold L; rw [if_pos (h g ι hg).1]; exact Finset.mem_range.mpr (h g ι hg).2.2)
    hN (fun g ι hg => (h g ι hg).2.1)

/-- A device may wait at a level when all that it owes is above it. -/
theorem mayWait {b : ℕ} {O : CellTallies nD τ sig ℕ} (h : Above b O) (hb : b < 300) (c : Dev nD) (sm : SemLoc sig) :
    (levAts L lv : sProp 𝕄) ⊢ MayWait (c : Thread nD τ) sm b O :=
  mayOwe h hb c _ fun p hp => by rw [Finset.mem_singleton.mp hp]

end Cert.KernelIdeal.Proofs

end
-- ==== Proof.KernelIdeal.Steps.lean ====
/-
  The rules the body is executed by, one per operation on a protocol cell, each for a direction `b`
  and a step `u`. The program's operands are variables here, with an equation to the protocol's own.
-/
module

public import proofs.«01_k».proof.Proof.KernelIdeal.Ring

@[expose] public section

noncomputable section

namespace Cert.KernelIdeal.Proofs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (released readerAt writeTok slotInv USlots)

variable {F : FTy → Type} [FloatOps F]

local notation "𝕄" => MT nD τ sig ℕ (Elt F) ℕ UU ℕ

variable (pv : Dev nD → main_v25.ty.Contents (Elt F)) (K : Dev nD × Kd → ℕ) (KS : KK → ℕ)

/-! ## What every core knows -/

/-- A receive slot at values not chosen. -/
def slotRes (k : KK) : sProp 𝕄 := anyOf k.1 (slotM k.2.1 k.2.2)

instance slotRes_storable (k : KK) : BI.Storable (upEmb : UEmb _ 𝕄) (slotRes (F := F) k) := by unfold slotRes; infer_instance

/-- The cells' and the slots' invariants, at their names, and the levels. Persistent. -/
def Inv : sProp 𝕄 :=
  iprop((∀ p : Dev nD × Kd, cellInv ER (Rd pv) (K p) (cell p.1 p.2)) ∗ (∀ k : KK, slotInv ES (KS k) k (slotRes k)) ∗ levAts L lv)

instance Inv_persistent : BI.Persistent (Inv pv K KS) := by unfold Inv; infer_instance

/-- The protocol's invariant has each cell's. -/
theorem Inv_cell (c : Dev nD) (k : Kd) : Inv pv K KS ⊢ cellInv ER (Rd pv) (K (c, k)) (cell c k) := by
  unfold Inv; iintro ⟨H, -, -⟩; ispecialize H $$ %((c, k) : Dev nD × Kd); iexact H
/-- The protocol's invariant has each slot's. -/
theorem Inv_slot (k : KK) : Inv pv K KS ⊢ slotInv ES (KS k) k (slotRes k) := by
  unfold Inv; iintro ⟨-, H, -⟩; ispecialize H $$ %k; iexact H
/-- The elements of a view at contents that read as `v`. -/
theorem holds_intro (c : Dev nD) {sp : Space} {s : Shape} {e : EltTy} (M : Memref sig .tc sp s e) (q : PosShare TreeShare) {v}
    (f : Buf (Elt F) (M.view.loc (c : Thread nD τ))) (h : M.view.read (Elt F) f = v) :
    (M.view.loc (c : Thread nD τ) ↦[M.view.set]{q} f : sProp 𝕄) ⊢ holds c M q v := by
  unfold holds
  iintro H
  iexists f
  isplitr; · ipureintro; exact h
  iexact H

/-- Every wait of the body is allowed, whatever larger indices are owed. -/
theorem Inv_mayWait {b : ℕ} {O : CellTallies nD τ sig ℕ} (h : Above b O) (hb : b < 300) (c : Dev nD) (sm : SemLoc sig) :
    Inv pv K KS ⊢ MayWait (c : Thread nD τ) sm b O := by
  unfold Inv
  iintro ⟨-, -, H⟩
  iapply (mayWait h hb c sm)
  iexact H

/-- What a core owes, whatever waits it has recorded. -/
def owesE (c : Dev nD) (O : CellTallies nD τ sig ℕ) : sProp 𝕄 := iprop(∃ W, owes (c : Thread nD τ) O W)

/-- A cell's position: its round, nothing of it taken. -/
def posAt (g : GSem nD τ sig) (r : ℕ) : sProp 𝕄 := iprop(atPos ER g r ∅ 0 ∗ reached ER g r)

/-- The slots of one receive buffer are two different sets of elements, neither empty. -/
theorem slotRes_excl (k : KK) : iprop(slotRes (F := F) k ∗ slotRes k) ⊢ (False : sProp 𝕄) := by
  have hne : (slotM k.2.1 k.2.2).view.set.Nonempty := by
    refine ⟨(slotM k.2.1 k.2.2).view.emb (fun a => ⟨0, by fin_cases a <;> decide⟩), ?_⟩
    exact Finset.mem_map_of_mem _ (Finset.mem_univ _)
  exact Release.slot_slot_false (ℓ := (slotM k.2.1 k.2.2).view.loc (k.1 : Thread nD τ)) hne

/-! ## Credits -/

/-- A direction's credit cell after `u` waits, the facts heard so far kept. -/
def credSt (c : Dev nD) (b : Bool) (u : ℕ) : sProp 𝕄 :=
  iprop(relFacts (nx b c) b 1 ∗ ∃ T : Finset ℕ, ⌜T ⊆ credDuties⌝ ∗ atPos ER (credCell c b) 0 T u
    ∗ bigSep T fun d => (Rd pv).payload (credCell c b) 0 d)

instance payload_cred_persistent (c : Dev nD) (b : Bool) (d : ℕ) : BI.Persistent ((Rd pv).payload (credCell c b) 0 d) := by
  rw [payload_cred]; split <;> infer_instance

/-- Slots free up to a step are free at each step before. -/
theorem relFacts_elim (d : Dev nD) (b : Bool) {k u : ℕ} (h : u ≤ k) (hu : u < 62) : (relFacts d b k : sProp 𝕄) ⊢ relFact d b u := by
  unfold relFacts; exact bigSep_elim (Finset.mem_range.mpr (by omega))

/-- Slots free up to a step are free up to an earlier one. -/
theorem relFacts_le (d : Dev nD) (b : Bool) {k u : ℕ} (h : u ≤ k) : (relFacts d b k : sProp 𝕄) ⊢ relFacts d b u := by
  unfold relFacts; exact bigSep_subset (fun x hx => by simp only [Finset.mem_range] at hx ⊢; omega)

/-- Among more than `u - 1` of the credits' duties one is at least `u`. -/
theorem exists_duty {S : Finset ℕ} {u : ℕ} (hS : S ⊆ credDuties) (hu : 2 ≤ u) (hc : u ≤ S.card) : ∃ d ∈ S, u ≤ d := by
  by_contra h
  push Not at h
  have hsub : S ⊆ insert 0 (Finset.Ico 2 u) := fun d hd => by
    have h1 := h d hd
    have h2 := hS hd
    unfold credDuties at h2
    rcases Finset.mem_insert.mp h2 with rfl | h3
    · exact Finset.mem_insert_self _ _
    · exact Finset.mem_insert_of_mem (Finset.mem_Ico.mpr ⟨(Finset.mem_Icc.mp h3).1, h1⟩)
  have := Finset.card_le_card hsub
  rw [Finset.card_insert_of_notMem (by simp), Nat.card_Ico] at this
  omega

/-- A credit cell has 62 signals to come. -/
theorem card_credDuties : credDuties.card = 62 := by decide

/-- The wait for a credit: step `u` may write. -/
theorem wp_credit {c : Dev nD} (b : Bool) {u : ℕ} (hu : u < 62) {O : CellTallies nD τ sig ℕ} (hO : Above (lc u) O)
    {sem : Sem sig} (hsem : sem = credSem b) {n : ℕ} (hn : n = 1) {α : Type} {Q : α → sProp 𝕄} {k : PUnit → Prog (TpuEff nD τ sig (Elt F) Λ₀ .tc) α} :
    iprop(Inv pv K KS ∗ credSt pv c b u ∗ cred (tallyAt (credCell c b) (lc u) 1) ∗ owesE c O)
      ⊢ iprop(((credSt pv c b (u + 1) ∗ relFact (nx b c) b u ∗ owesE c O) -∗ wp frame (wpE (defs₀ (F := F)) 𝒱₀ (c : Thread nD τ) none) Set.univ (k ⟨⟩) Q)
          -∗ wp frame (wpE (defs₀ (F := F)) 𝒱₀ (c : Thread nD τ) none) Set.univ (.op (.semWait sem n) k) Q) := by
  subst hsem; subst hn
  unfold credSt owesE
  iintro ⟨#HI, ⟨#Hbar, %T, %hT, Hat, #HT⟩, Hc, ⟨%W, HO⟩⟩ Hk
  ihave #Hcell := (Inv_cell pv K KS c (.cred b)) $$ HI
  iapply (Rounds.wp_wait 𝒱₀ ER (Rd pv) (c : Thread nD τ) none (sm := .reg (credSem b)) (κ := K (c, .cred b)) (k' := 1)
      (wpE_semWait_eq 𝒱₀ (c : Thread nD τ) none Set.univ) (Set.mem_univ _) (cr := Finsupp.single (lc u) 1) (O := O) (W := W)
      {(SemLoc.reg (credSem b), lc u)} (R := 0) (m := u) (T := T) (Util.total_single _ _)
      (by
        intro p hp
        obtain ⟨ι, hι, rfl⟩ := Finset.mem_image.mp hp
        have := Finsupp.support_single_subset hι
        rw [Finset.mem_singleton] at this ⊢
        rw [this])) $$ [Hc HO Hat]
  · isplitr; · iexact Hcell
    isplitl [Hc]; · iexact Hc
    isplitl [HO]; · iexact HO
    isplitr
    · iapply (Inv_mayWait pv K KS hO (by unfold lc; split <;> omega) c (SemLoc.reg (credSem b))); iexact HI
    iexact Hat
  iintro %S ⟨%hS, HO, Hat, HS'⟩
  obtain ⟨hTS, hSd, hcard⟩ := hS
  have hS1 : bigSep (S \ T) (fun d => (Rd pv).payload ((c : Thread nD τ), SemLoc.reg (credSem b)) 0 d)
      ⊢ bigSep (S \ T) (fun d => (Rd pv).payload (credCell c b) 0 d) := BI.Entails.refl _
  ihave HS'' := hS1 $$ HS'
  icases HS'' with #HS
  have hSd' : S ⊆ credDuties := by rw [← duties_cred pv c b]; exact hSd
  have hall : iprop(bigSep T (fun d => (Rd pv).payload (credCell c b) 0 d) ∗ bigSep (S \ T) (fun d => (Rd pv).payload (credCell c b) 0 d))
      ⊢ bigSep S (fun d => (Rd pv).payload (credCell c b) 0 d) := by
    have h := BI.bigSep_union (Finset.disjoint_sdiff (s := T) (t := S)) (Φ := fun d => (Rd pv).payload (credCell c b) 0 d)
    rw [Finset.union_sdiff_of_subset hTS] at h
    rw [h]
    exact BI.Entails.refl _
  ihave #Hall := hall $$ [HT HS]
  · isplitr; · iexact HT
    iexact HS
  iapply Hk
  isplitl [Hat]
  · isplitr; · iexact Hbar
    iexists S
    isplitr; · ipureintro; exact hSd'
    isplitl [Hat]; · iexact Hat
    iexact Hall
  isplitr [HO]
  · by_cases h2 : u < 2
    · iapply (relFacts_elim (nx b c) b (k := 1) (by omega) hu); iexact Hbar
    · have hc : u ≤ S.card := by
        have h1 := hcard
        rw [show (Rd pv).duties ((c : Thread nD τ), SemLoc.reg (credSem b)) 0 = credDuties from duties_cred pv c b,
          show (Rd pv).expect ((c : Thread nD τ), SemLoc.reg (credSem b)) 0 = 63 from expect_cred pv c b,
          Finset.card_sdiff_of_subset hSd', card_credDuties] at h1
        have := Finset.card_le_card hSd'
        rw [card_credDuties] at this
        omega
      obtain ⟨d, hd, hud⟩ := exists_duty hSd' (by omega) hc
      have hp : bigSep S (fun d => (Rd pv).payload (credCell c b) 0 d) ⊢ relFact (nx b c) b u := by
        refine (bigSep_elim hd).trans ?_
        rw [payload_cred, if_neg (by omega)]
        exact relFacts_elim (nx b c) b hud hu
      iapply hp; iexact Hall
  · iexists _; iexact HO

/-- The last wait for a credit: the cell's one round is over. -/
theorem wp_credit_last {c : Dev nD} (b : Bool) {O : CellTallies nD τ sig ℕ} (hO : Above (lc 62) O)
    {sem : Sem sig} (hsem : sem = credSem b) {n : ℕ} (hn : n = 1) {α : Type} {Q : α → sProp 𝕄} {k : PUnit → Prog (TpuEff nD τ sig (Elt F) Λ₀ .tc) α} :
    iprop(Inv pv K KS ∗ credSt pv c b 62 ∗ cred (tallyAt (credCell c b) (lc 62) 1) ∗ owesE c O)
      ⊢ iprop(((semVal (credCell c b) 0 ∗ owesE c O) -∗ wp frame (wpE (defs₀ (F := F)) 𝒱₀ (c : Thread nD τ) none) Set.univ (k ⟨⟩) Q)
          -∗ wp frame (wpE (defs₀ (F := F)) 𝒱₀ (c : Thread nD τ) none) Set.univ (.op (.semWait sem n) k) Q) := by
  subst hsem; subst hn
  unfold credSt owesE
  iintro ⟨#HI, ⟨#Hbar, %T, %hT, Hat, #HT⟩, Hc, ⟨%W, HO⟩⟩ Hk
  ihave #Hcell := (Inv_cell pv K KS c (.cred b)) $$ HI
  iapply (Rounds.wp_wait_rest_token 𝒱₀ ER (Rd pv) (c : Thread nD τ) none (sm := .reg (credSem b)) (κ := K (c, .cred b))
      (wpE_semWait_eq 𝒱₀ (c : Thread nD τ) none Set.univ) (Set.mem_univ _) (lc 62) (O := O) (W := W) (R := 0) (m := 62) (T := T)
      (expect_cred pv c b).symm) $$ [Hc HO Hat]
  · isplitr; · iexact Hcell
    isplitl [Hc]; · iexact Hc
    isplitl [HO]; · iexact HO
    isplitr
    · iapply (Inv_mayWait pv K KS hO (by first | decide | (unfold lc; omega)) c); iexact HI
    iexact Hat
  iintro ⟨HO, Hat, -, -⟩
  imod (Rounds.cell_close ER (Rd pv) (Set.mem_univ (K (c, .cred b))) (fun h => h) (R := 0 + 1) (fun r hr => duties_cred_end pv c b hr)) $$ [Hat] with Hz
  · isplitr; · iexact Hcell
    iexact Hat
  iapply Hk
  isplitl [Hz]; · iexact Hz
  iexists _; iexact HO

/-- The credit given to the neighbour the direction receives from: every step up to `kc u` may write. -/
theorem wp_give {c : Dev nD} (b : Bool) {u : ℕ} (hu : u < 62) (hu' : u ≠ 31) {O O' : CellTallies nD τ sig ℕ} (hO : O' = O + tC b c u)
    {d : Dev nD} (hd : d = frm b c) {sem : Sem sig} (hsem : sem = credSem b) {n : ℕ} (hn : n = 1) {α : Type} {Q : α → sProp 𝕄}
    {k : PUnit → Prog (TpuEff nD τ sig (Elt F) Λ₀ .tc) α} :
    iprop(Inv pv K KS ∗ relFacts c b (kc u) ∗ dutyTok ER (credCell (frm b c) b) 0 (kc u) ∗ reached ER (credCell (frm b c) b) 0 ∗ owesE c O')
      ⊢ iprop((owesE c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc d) sem n) k) Q) := by
  subst hsem; subst hd; subst hn
  have hk : 2 ≤ kc u ∧ kc u ≤ 62 := by unfold kc; split <;> omega
  unfold owesE
  iintro ⟨#HI, #Hf, Ht, #Hr, ⟨%W, HO⟩⟩ Hk
  ihave #Hcell := (Inv_cell pv K KS (frm b c) (.cred b)) $$ HI
  iapply (Rounds.wp_signal 𝒱₀ ER (Rd pv) (c : Thread nD τ) none (dst := (frm b c : Thread nD τ)) (sem := credSem b) (r := 0) (d := kc u) (κ := K (frm b c, .cred b))
      (by rw [show (Rd pv).duties (((frm b c : Dev nD) : Thread nD τ), SemLoc.reg (credSem b)) 0 = credDuties from duties_cred pv (frm b c) b]
          exact Finset.mem_insert_of_mem (Finset.mem_Icc.mpr hk))
      ((amount_cred pv (frm b c) b 0 (kc u)).trans (if_neg (by omega))) (lc (kc u)) O (hO.trans (by unfold tC; rw [if_neg hu']; rfl))) $$ [HO Ht]
  · isplitr; · iexact Hcell
    isplitl [HO]; · iexact HO
    isplitl [Ht]; · iexact Ht
    isplitr
    · rw [show (Rd pv).payload (((frm b c : Dev nD) : Thread nD τ), SemLoc.reg (credSem b)) 0 (kc u) = relFacts (nx b (frm b c)) b (kc u) from
        (payload_cred pv (frm b c) b 0 (kc u)).trans (if_neg (by omega)), nx_frm]
      iexact Hf
    · iexact Hr
  iintro HO
  iapply Hk
  iexists _; iexact HO

/-- The device's own credit of two units. -/
theorem wp_self {c : Dev nD} (b : Bool) {O O' : CellTallies nD τ sig ℕ} (hO : O' = O + tallyAt (credCell c b) 2 2)
    {d : Dev nD} (hd : d = c) {sem : Sem sig} (hsem : sem = credSem b) {n : ℕ} (hn : n = 2) {α : Type} {Q : α → sProp 𝕄}
    {k : PUnit → Prog (TpuEff nD τ sig (Elt F) Λ₀ .tc) α} :
    iprop(Inv pv K KS ∗ dutyTok ER (credCell c b) 0 0 ∗ reached ER (credCell c b) 0 ∗ owesE c O')
      ⊢ iprop((owesE c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc d) sem n) k) Q) := by
  subst hsem; subst hd; subst hn
  unfold owesE
  iintro ⟨#HI, Ht, #Hr, ⟨%W, HO⟩⟩ Hk
  ihave #Hcell := (Inv_cell pv K KS d (.cred b)) $$ HI
  iapply (Rounds.wp_signal 𝒱₀ ER (Rd pv) (d : Thread nD τ) none (dst := (d : Thread nD τ)) (sem := credSem b) (r := 0) (d := 0) (κ := K (d, .cred b))
      (by rw [show (Rd pv).duties (((d : Dev nD) : Thread nD τ), SemLoc.reg (credSem b)) 0 = credDuties from duties_cred pv d b]
          exact Finset.mem_insert_self _ _)
      ((amount_cred pv d b 0 0).trans (if_pos rfl)) 2 O hO) $$ [HO Ht]
  · isplitr; · iexact Hcell
    isplitl [HO]; · iexact HO
    isplitl [Ht]; · iexact Ht
    isplitr
    · rw [show (Rd pv).payload (((d : Dev nD) : Thread nD τ), SemLoc.reg (credSem b)) 0 0 = iprop(emp) from
        (payload_cred pv d b 0 0).trans (if_pos rfl)]
      iempintro
    · iexact Hr
  iintro HO
  iapply Hk
  iexists _; iexact HO

/-! ## The barrier -/

/-- The barrier signal to the neighbour a direction receives from: this device's slots of the direction are free. -/
theorem wp_bar_signal {c : Dev nD} (b : Bool) {O O' : CellTallies nD τ sig ℕ} (hO : O' = O + tallyAt (barCell (frm b c)) 1 1)
    {d : Dev nD} (hd : d = frm b c) {sem : Sem sig} (hsem : sem = barSem) {n : ℕ} (hn : n = 1) {α : Type} {Q : α → sProp 𝕄}
    {k : PUnit → Prog (TpuEff nD τ sig (Elt F) Λ₀ .tc) α} :
    iprop(Inv pv K KS ∗ relFacts c b 1 ∗ reached ER (credCell c (!b)) 0 ∗ dutyTok ER (barCell (frm b c)) 0 b.toNat
        ∗ reached ER (barCell (frm b c)) 0 ∗ owesE c O')
      ⊢ iprop((owesE c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc d) sem n) k) Q) := by
  subst hsem; subst hd; subst hn
  have hb : (b.toNat == 1) = b := by cases b <;> rfl
  unfold owesE
  iintro ⟨#HI, #Hf, #Hcr, Ht, #Hr, ⟨%W, HO⟩⟩ Hk
  ihave #Hcell := (Inv_cell pv K KS (frm b c) .bar) $$ HI
  iapply (Rounds.wp_signal 𝒱₀ ER (Rd pv) (c : Thread nD τ) none (dst := (frm b c : Thread nD τ)) (sem := barSem) (r := 0) (d := b.toNat) (κ := K (frm b c, .bar))
      (by rw [show (Rd pv).duties (((frm b c : Dev nD) : Thread nD τ), SemLoc.reg barSem) 0 = {0, 1} from duties_bar pv (frm b c)]
          cases b <;> decide)
      (amount_bar pv (frm b c) 0 b.toNat) 1 O hO) $$ [HO Ht]
  · isplitr; · iexact Hcell
    isplitl [HO]; · iexact HO
    isplitl [Ht]; · iexact Ht
    isplitr
    · rw [show (Rd pv).payload (((frm b c : Dev nD) : Thread nD τ), SemLoc.reg barSem) 0 b.toNat
          = iprop(relFacts (nx (b.toNat == 1) (frm b c)) (b.toNat == 1) 1 ∗ reached ER (credCell (nx (b.toNat == 1) (frm b c)) (!(b.toNat == 1))) 0) from payload_bar pv (frm b c) 0 b.toNat, hb, nx_frm]
      isplitr; · iexact Hf
      iexact Hcr
    · iexact Hr
  iintro HO
  iapply Hk
  iexists _; iexact HO

/-- The barrier wait: both neighbours' slots are free. -/
theorem wp_bar_wait {c : Dev nD} {O : CellTallies nD τ sig ℕ} (hO : Above 1 O)
    {sem : Sem sig} (hsem : sem = barSem) {n : ℕ} (hn : n = 2) {α : Type} {Q : α → sProp 𝕄} {k : PUnit → Prog (TpuEff nD τ sig (Elt F) Λ₀ .tc) α} :
    iprop(Inv pv K KS ∗ atPos ER (barCell c) 0 ∅ 0 ∗ cred (tallyAt (barCell c) 1 2) ∗ owesE c O)
      ⊢ iprop(((semVal (barCell c) 0 ∗ relFacts (nx true c) true 1 ∗ relFacts (nx false c) false 1
            ∗ reached ER (credCell (frm true c) true) 0 ∗ reached ER (credCell (frm false c) false) 0 ∗ owesE c O)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait sem n) k) Q) := by
  subst hsem; subst hn
  unfold owesE
  iintro ⟨#HI, Hat, Hc, ⟨%W, HO⟩⟩ Hk
  ihave #Hcell := (Inv_cell pv K KS c .bar) $$ HI
  iapply (Rounds.wp_wait_rest_token 𝒱₀ ER (Rd pv) (c : Thread nD τ) none (sm := .reg barSem) (κ := K (c, .bar))
      (wpE_semWait_eq 𝒱₀ (c : Thread nD τ) none Set.univ) (Set.mem_univ _) 1 (O := O) (W := W) (R := 0) (m := 0) (T := ∅)
      (expect_bar pv c).symm) $$ [Hc HO Hat]
  · isplitr; · iexact Hcell
    isplitl [Hc]; · iexact Hc
    isplitl [HO]; · iexact HO
    isplitr
    · iapply (Inv_mayWait pv K KS hO (by first | decide | (unfold lc; omega)) c); iexact HI
    iexact Hat
  iintro ⟨HO, Hat, -, Hp⟩
  imod (Rounds.cell_close ER (Rd pv) (Set.mem_univ (K (c, .bar))) (fun h => h) (R := 0 + 1) (fun r hr => duties_bar_end pv c hr)) $$ [Hat] with Hz
  · isplitr; · iexact Hcell
    iexact Hat
  have hp : bigSep ((Rd pv).duties ((c : Thread nD τ), SemLoc.reg barSem) 0 \ ∅) (fun d => (Rd pv).payload ((c : Thread nD τ), SemLoc.reg barSem) 0 d)
      ⊢ iprop((relFacts (nx false c) false 1 ∗ reached ER (credCell (nx false c) true) 0) ∗ (relFacts (nx true c) true 1 ∗ reached ER (credCell (nx true c) false) 0)) := by
    change bigSep ((Rd pv).duties (barCell c) 0 \ ∅) (fun d => (Rd pv).payload (barCell c) 0 d) ⊢ _
    rw [Finset.sdiff_empty, duties_bar, bigSep_insert (by decide), bigSep_singleton, payload_bar, payload_bar]
    exact BI.Entails.refl _
  ihave Hp' := hp $$ Hp
  icases Hp' with ⟨⟨Hf, Hcf⟩, Ht, Hct⟩
  iapply Hk
  isplitl [Hz]; · iexact Hz
  isplitl [Ht]; · iexact Ht
  isplitl [Hf]; · iexact Hf
  isplitl [Hcf]; · iexact Hcf
  isplitl [Hct]; · iexact Hct
  iexists _; iexact HO

/-! ## The copies -/

/-- The copy of step `u`: it leaves the source at its share with the send cell and brings the message to the neighbour's slot. -/
theorem wp_msg {c : Dev nD} (b : Bool) {u : ℕ} (hu : u < 62) {O O' : CellTallies nD τ sig ℕ} (hO : O' = O + tA b c u)
    {sp : Space} {src : Memref sig .tc sp S128x4096 .bf16} (q : PosShare TreeShare)
    (hsrcR : (holds c src q (msg pv b u c) : sProp 𝕄) ⊢ srcRes pv c b u)
    {dst : Memref sig .tc .vmem S128x4096 .bf16} (hdstM : dst = slotM b (sl u))
    {d : Dev nD} (hd : d = nx b c) {sS sV : DmaSem sig} (hS : sS = sendSem b (sl u)) (hV : sV = recvSem b (sl u))
    {hsc : (dst : Memref sig (Dev.tc d : Thread nD τ).2.kind .vmem S128x4096 .bf16).view.ref.isScScratch = false}
    {hsrc : src.view.WordExact} {hdst : dst.view.WordExact}
    {hsem : DmaTarget.Typed sp (.dma sV) (.remote (Dev.tc d : Thread nD τ) (dst : Memref sig .tc .vmem S128x4096 .bf16) (.dma sS) hsc)}
    {α : Type} {Q : α → sProp 𝕄} {k : PUnit → Prog (TpuEff nD τ sig (Elt F) Λ₀ .tc) α} :
    iprop(Inv pv K KS ∗ holds c src q (msg pv b u c) ∗ relFact (nx b c) b u ∗ writeTok ES (nx b c, b, sl u) (u / 2 + 1)
        ∗ dutyTok ER (sendCell c b (sl u)) (u / 2) 0 ∗ reached ER (sendCell c b (sl u)) (u / 2)
        ∗ dutyTok ER (recvCell (nx b c) b (sl u)) (u / 2) 0 ∗ owesE c O')
      ⊢ iprop(((cred (tallyAt (sendCell c b (sl u)) 0 N) ∗ owesE c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc d : Thread nD τ) dst (.dma sS) hsc) (.dma sV) hsrc hdst hsem) k) Q) := by
  subst hd; subst hS; subst hV; subst hdstM
  have hr : u / 2 < 31 := by omega
  unfold owesE
  iintro ⟨#HI, Hs, #Hf, Hw, Hts, #Hrs, Htv, ⟨%W, HO⟩⟩ Hk
  ihave #Hcs := (Inv_cell pv K KS c (.send b (sl u))) $$ HI
  ihave #Hcv := (Inv_cell pv K KS (nx b c) (.recv b (sl u))) $$ HI
  ihave #Hsl := (Inv_slot pv K KS (nx b c, b, sl u)) $$ HI
  unfold relFact
  icases Hf with ⟨#Hrel, #Hrv⟩
  imod (Release.slot_take ES (Set.mem_univ (KS (nx b c, b, sl u))) (u / 2 + 1)) $$ [Hw] with Hd
  · isplitr; · iexact Hsl
    isplitr; · iexact Hrel
    iexact Hw
  have hunf : (holds c src q (msg pv b u c) : sProp 𝕄)
      ⊢ iprop(∃ fs : Buf (Elt F) (src.view.loc (c : Thread nD τ)), ⌜src.view.read (Elt F) fs = msg pv b u c⌝ ∗ src.view.loc (c : Thread nD τ) ↦[src.view.set]{q} fs) := by
    unfold holds; exact BI.Entails.refl _
  ihave Hs' := hunf $$ Hs
  icases Hs' with ⟨%fs, %hfs, Hs⟩
  unfold slotRes anyOf
  icases Hd with ⟨%fd, Hd⟩
  iapply (Rounds.wp_send_pointsTo 𝒱₀ ER (Rd pv) (c : Thread nD τ) none (κ₁ := K (c, .send b (sl u))) (κ₂ := K (nx b c, .recv b (sl u)))
      (c' := (nx b c : Thread nD τ)) (src := src) (dst := slotM b (sl u))
      (r₁ := u / 2) (r₂ := u / 2) (d₁ := 0) (d₂ := 0) (q := q) (fs := fs) (fd := fd)
      (by change _ ∈ (Rd pv).duties (sendCell c b (sl u)) (u / 2); rw [duties_send pv c b (sl u) hr]; exact Finset.mem_singleton_self _)
      (by change _ ∈ (Rd pv).duties (recvCell (nx b c) b (sl u)) (u / 2); rw [duties_recv pv (nx b c) b (sl u) hr]; exact Finset.mem_singleton_self _)
      (la u) 0 N (show (slotM b (sl u)).view.amount (.dma (recvSem b (sl u))) = N from slot_credit b (sl u)) (amount_send pv c b (sl u) _ _) (amount_recv pv (nx b c) b (sl u) _ _) O hO (W := W)
      (by
        change _ ⊢ (Rd pv).payload (sendCell c b (sl u)) (u / 2) 0
        rw [payload_send, sl_div]
        refine BI.Entails.trans ?_ hsrcR
        unfold holds
        exact holds_intro c src q fs hfs)
      (by
        change _ ⊢ (Rd pv).payload (recvCell (nx b c) b (sl u)) (u / 2) 0
        rw [payload_recv, sl_div, frm_nx]
        unfold holds
        iintro H
        iexists ((slotM b (sl u)).view.write (Elt F) fd (src.view.read (Elt F) fs) Finset.univ)
        isplitr; · ipureintro; rw [View.read_write_univ]; exact hfs
        iexact H)) $$ [Hs Hd HO Hts Htv]
  · isplitr; · iexact Hcs
    isplitr; · iexact Hcv
    isplitl [Hs]; · iexact Hs
    isplitl [Hd]; · iexact Hd
    isplitl [HO]; · iexact HO
    isplitl [Hts]; · iexact Hts
    isplitr; · iexact Hrs
    isplitl [Htv]; · iexact Htv
    iexact Hrv
  iintro ⟨Hc, HO⟩
  iapply Hk
  isplitl [Hc]; · iexact Hc
  iexists _; iexact HO

/-- The wait on the send cell in step `u`: the source comes back. -/
theorem wp_sent {c : Dev nD} (b : Bool) {u : ℕ} (hu : u < 62) {O : CellTallies nD τ sig ℕ} (hO : Above 0 O)
    {sem : DmaSem sig} (hsem : sem = sendSem b (sl u)) {sp sp' : Space} {s' : Shape} {e' : EltTy} {srcw : Memref sig .tc sp' s' e'}
    {s : Shape} {e : EltTy} {dstw : Memref sig .tc sp s e} (hk : dstw.view.dmaCredit = N) {hsrc : srcw.view.WordExact} {hdst : dstw.view.WordExact}
    {α : Type} {Q : α → sProp 𝕄} {k : PUnit → Prog (TpuEff nD τ sig (Elt F) Λ₀ .tc) α} :
    iprop(Inv pv K KS ∗ posAt (sendCell c b (sl u)) (u / 2) ∗ cred (tallyAt (sendCell c b (sl u)) 0 N) ∗ owesE c O)
      ⊢ iprop(((posAt (sendCell c b (sl (u + 2))) ((u + 2) / 2) ∗ srcRes pv c b u ∗ owesE c O)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcw dstw hsrc hdst) k) Q) := by
  subst hsem
  have hr : u / 2 < 31 := by omega
  unfold owesE posAt
  iintro ⟨#HI, ⟨Hat, -⟩, Hc, ⟨%W, HO⟩⟩ Hk
  ihave #Hcell := (Inv_cell pv K KS c (.send b (sl u))) $$ HI
  iapply (Rounds.wp_wait_rest_token 𝒱₀ ER (Rd pv) (c : Thread nD τ) none (sm := .dma (sendSem b (sl u))) (κ := K (c, .send b (sl u)))
      (wpE_waitDma2_eq 𝒱₀ (c : Thread nD τ) none Set.univ) (Set.mem_univ _) 0 (O := O) (W := W) (R := u / 2) (m := 0) (T := ∅)
      (by rw [Nat.zero_add, hk]; exact (expect_send pv c b (sl u) hr).symm)) $$ [Hc HO Hat]
  · isplitr; · iexact Hcell
    isplitl [Hc]; · rw [hk]; iexact Hc
    isplitl [HO]; · iexact HO
    isplitr
    · iapply (Inv_mayWait pv K KS hO (by first | decide | (unfold lc; omega)) c); iexact HI
    iexact Hat
  iintro ⟨HO, Hat, Hr, Hp⟩
  have hp : bigSep ((Rd pv).duties ((c : Thread nD τ), SemLoc.dma (sendSem b (sl u))) (u / 2) \ ∅) (fun d => (Rd pv).payload ((c : Thread nD τ), SemLoc.dma (sendSem b (sl u))) (u / 2) d)
      ⊢ srcRes pv c b u := by
    change bigSep ((Rd pv).duties (sendCell c b (sl u)) (u / 2) \ ∅) (fun d => (Rd pv).payload (sendCell c b (sl u)) (u / 2) d) ⊢ _
    rw [Finset.sdiff_empty, duties_send pv c b (sl u) hr, bigSep_singleton, payload_send, sl_div]
  have h2 : (u + 2) / 2 = u / 2 + 1 := by omega
  have h3 : sl (u + 2) = sl u := Fin.ext (by show (u + 2) % 2 = u % 2; omega)
  rw [h2, h3]
  iapply Hk
  isplitl [Hat Hr]; · isplitl [Hat]; · iexact Hat
                      iexact Hr
  isplitl [Hp]; · iapply hp; iexact Hp
  iexists _; iexact HO

/-- The wait on the receive cell in step `u`: the slot comes back holding the neighbour's message. -/
theorem wp_got {c : Dev nD} (b : Bool) {u : ℕ} (hu : u < 62) {O : CellTallies nD τ sig ℕ} (hO : Above (la u) O)
    {sem : DmaSem sig} (hsem : sem = recvSem b (sl u)) {sp sp' : Space} {s' : Shape} {e' : EltTy} {srcw : Memref sig .tc sp' s' e'}
    {s : Shape} {e : EltTy} {dstw : Memref sig .tc sp s e} (hk : dstw.view.dmaCredit = N) {hsrc : srcw.view.WordExact} {hdst : dstw.view.WordExact}
    {α : Type} {Q : α → sProp 𝕄} {k : PUnit → Prog (TpuEff nD τ sig (Elt F) Λ₀ .tc) α} :
    iprop(Inv pv K KS ∗ posAt (recvCell c b (sl u)) (u / 2) ∗ cred (tallyAt (recvCell c b (sl u)) (la u) N) ∗ owesE c O)
      ⊢ iprop(((posAt (recvCell c b (sl (u + 2))) ((u + 2) / 2) ∗ holds c (slotM b (sl u)) fullShare (msg pv b u (frm b c)) ∗ owesE c O)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcw dstw hsrc hdst) k) Q) := by
  subst hsem
  have hr : u / 2 < 31 := by omega
  unfold owesE posAt
  iintro ⟨#HI, ⟨Hat, -⟩, Hc, ⟨%W, HO⟩⟩ Hk
  ihave #Hcell := (Inv_cell pv K KS c (.recv b (sl u))) $$ HI
  iapply (Rounds.wp_wait_rest_token 𝒱₀ ER (Rd pv) (c : Thread nD τ) none (sm := .dma (recvSem b (sl u))) (κ := K (c, .recv b (sl u)))
      (wpE_waitDma2_eq 𝒱₀ (c : Thread nD τ) none Set.univ) (Set.mem_univ _) (la u) (O := O) (W := W) (R := u / 2) (m := 0) (T := ∅)
      (by rw [Nat.zero_add, hk]; exact (expect_recv pv c b (sl u) hr).symm)) $$ [Hc HO Hat]
  · isplitr; · iexact Hcell
    isplitl [Hc]; · rw [hk]; iexact Hc
    isplitl [HO]; · iexact HO
    isplitr
    · iapply (Inv_mayWait pv K KS hO (by unfold la; omega) c); iexact HI
    iexact Hat
  iintro ⟨HO, Hat, Hr, Hp⟩
  have hp : bigSep ((Rd pv).duties ((c : Thread nD τ), SemLoc.dma (recvSem b (sl u))) (u / 2) \ ∅) (fun d => (Rd pv).payload ((c : Thread nD τ), SemLoc.dma (recvSem b (sl u))) (u / 2) d)
      ⊢ holds c (slotM b (sl u)) fullShare (msg pv b u (frm b c)) := by
    change bigSep ((Rd pv).duties (recvCell c b (sl u)) (u / 2) \ ∅) (fun d => (Rd pv).payload (recvCell c b (sl u)) (u / 2) d) ⊢ _
    rw [Finset.sdiff_empty, duties_recv pv c b (sl u) hr, bigSep_singleton, payload_recv, sl_div]
  have h2 : (u + 2) / 2 = u / 2 + 1 := by omega
  have h3 : sl (u + 2) = sl u := Fin.ext (by show (u + 2) % 2 = u % 2; omega)
  rw [h2, h3]
  iapply Hk
  isplitl [Hat Hr]; · isplitl [Hat]; · iexact Hat
                      iexact Hr
  isplitl [Hp]; · iapply hp; iexact Hp
  iexists _; iexact HO

/-- A slot read is released: step `u + 2` may write it. -/
theorem release_slot {c : Dev nD} (b : Bool) (u : ℕ) :
    iprop(Inv pv K KS ∗ anyOf c (slotM b (sl u)) ∗ readerAt ES (c, b, sl u) (u / 2) ∗ relFacts c b (u - 1)
        ∗ reached ER (recvCell c b (sl u)) (u / 2))
      ⊢ (|={Set.univ}=> (readerAt ES (c, b, sl u) (u / 2 + 1) ∗ relFacts c b u) : sProp 𝕄) := by
  iintro ⟨#HI, Hs, Hr, #Hf, #Hre⟩
  ihave #Hsl := (Inv_slot pv K KS (c, b, sl u)) $$ HI
  imod (Release.slot_release ES (Set.mem_univ (KS (c, b, sl u))) (slotRes_excl (c, b, sl u)) (u / 2)) $$ [Hs Hr] with ⟨Hr, #Hw⟩
  · isplitr; · iexact Hsl
    isplitl [Hr]; · iexact Hr
    unfold slotRes; iexact Hs
  imodintro
  isplitl [Hr]; · iexact Hr
  have hstep : iprop(relFact c b u ∗ relFacts c b (u - 1)) ⊢ (relFacts c b u : sProp 𝕄) := by
    unfold relFacts
    by_cases h : u = 0 ∨ 61 < u
    · rcases h with rfl | h
      · iintro ⟨-, H⟩; iexact H
      · have e : min (u - 1) 61 = min u 61 := by omega
        rw [e]; iintro ⟨-, H⟩; iexact H
    · have e1 : min u 61 + 1 = u + 1 := by omega
      have e2 : min (u - 1) 61 + 1 = u := by omega
      rw [e1, e2, Finset.range_add_one, bigSep_insert Finset.notMem_range_self]
      exact BI.Entails.refl _
  iapply hstep
  isplitr
  · unfold relFact; isplitr; · iexact Hw
    iexact Hre
  iexact Hf

end Cert.KernelIdeal.Proofs

end
-- ==== Proof.KernelIdeal.Local.lean ====
/-
  The rules for what the body does on its own device: copies between its buffers, loads and stores,
  and the result array as it fills chunk by chunk.
-/
module

public import proofs.«01_k».proof.Proof.KernelIdeal.Steps

@[expose] public section

noncomputable section

namespace Cert.KernelIdeal.Proofs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable (pv : Dev nD → main_v25.ty.Contents (Elt F)) (K : Dev nD × Kd → ℕ) (KS : KK → ℕ)

/-! ## Local copies -/

/-- A local copy in flight, `D` to be had when it has landed. -/
def inFl (c : Dev nD) (sm : DmaSem sig) (n : ℕ) (D : sProp 𝕄) : sProp 𝕄 :=
  iprop(∃ D' R : sProp 𝕄, ⌜iprop(D' ∗ R) ⊢ D⌝ ∗ R ∗ Transfers.Flight EC (c : Thread nD τ) (.dma sm) 0 n D')

/-- A copy in flight with something beside it is a copy in flight that brings both. -/
theorem inFl_mono (c : Dev nD) (sm : DmaSem sig) (n : ℕ) {D D' R : sProp 𝕄} (h : iprop(D ∗ R) ⊢ D') :
    iprop(inFl c sm n D ∗ R) ⊢ inFl c sm n D' := by
  unfold inFl
  iintro ⟨⟨%D₁, %R₁, %h₁, HR₁, HF⟩, HR⟩
  iexists D₁; iexists iprop(R₁ ∗ R)
  isplitr
  · ipureintro
    have h2 : iprop(D₁ ∗ R₁ ∗ R) ⊢ iprop(D ∗ R) := by
      iintro ⟨H1, H2, H3⟩
      isplitr [H3]
      · iapply h₁
        isplitl [H1]; · iexact H1
        iexact H2
      · iexact H3
    exact BI.Entails.trans h2 h
  isplitl [HR₁ HR]
  · isplitl [HR₁]; · iexact HR₁
    iexact HR
  iexact HF

/-- A local copy starts. -/
theorem wp_copy {c : Dev nD} {sp sp' : Space} {s : Shape} {e : EltTy} {src : Memref sig .tc sp s e} {dst : Memref sig .tc sp' s e}
    {sm : DmaSem sig} {hsrc : src.view.WordExact} {hdst : dst.view.WordExact} {hsem : DmaTarget.Typed (nD := nD) (τ := τ) (p := .tc) sp (.dma sm) (.here dst)}
    {Ss : Finset (Idx (src.view.loc (c : Thread nD τ)))} {Sd : Finset (Idx (dst.view.loc (c : Thread nD τ)))} {q : PosShare TreeShare}
    {fs : Buf (Elt F) (src.view.loc (c : Thread nD τ))} {fd : Buf (Elt F) (dst.view.loc (c : Thread nD τ))}
    (hSs : src.view.set ⊆ Ss) (hSd : dst.view.set ⊆ Sd) (hn : 0 < dst.view.dmaCredit)
    {α : Type} {Q : α → sProp 𝕄} {k : PUnit → Prog (TpuEff nD τ sig (Elt F) Λ₀ .tc) α} :
    iprop((src.view.loc (c : Thread nD τ) ↦[Ss]{q} fs) ∗ (dst.view.loc (c : Thread nD τ) ↦[Sd]{fullShare} fd) ∗ semVal ((c : Thread nD τ), .dma sm) 0)
      ⊢ iprop((inFl c sm dst.view.dmaCredit iprop((dst.view.loc (c : Thread nD τ) ↦[Sd]{fullShare} (dst.view.write (Elt F) fd (src.view.read (Elt F) fs) Finset.univ))
              ∗ (src.view.loc (c : Thread nD τ) ↦[Ss]{q} fs))
            -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) (.dma sm) hsrc hdst hsem) k) Q) := by
  iintro ⟨Hs, Hd, Hv⟩ Hk
  ihave Hs2 := (pointsTo_split_subset hSs).1 $$ Hs
  icases Hs2 with ⟨Hs, Hrest⟩
  iapply (Transfers.wp_dmaLocal EC 𝒱₀ (c : Thread nD τ) none 0 dst.view.dmaCredit
    (show dst.view.amount (.dma sm) = dst.view.dmaCredit from rfl) hn hSd) $$ [Hs Hd Hv]
  · isplitl [Hs]; · iexact Hs
    isplitl [Hd]; · iexact Hd
    iexact Hv
  iintro HF
  iapply Hk
  unfold inFl
  iexists _; iexists (src.view.loc (c : Thread nD τ) ↦[Ss \ src.view.set]{q} fs : sProp 𝕄)
  isplitr; rotate_left
  · isplitl [Hrest]; · iexact Hrest
    iexact HF
  · ipureintro
    iintro ⟨⟨Hd, Hs⟩, Hr⟩
    isplitl [Hd]; · iexact Hd
    iapply (pointsTo_split_subset hSs).2
    isplitl [Hs]; · iexact Hs
    iexact Hr

/-- The wait for a local copy. -/
theorem wp_landed {c : Dev nD} {sm : DmaSem sig} {n : ℕ} {D : sProp 𝕄} {O : CellTallies nD τ sig ℕ} (hO : Above 0 O)
    {sp sp' : Space} {s s' : Shape} {e e' : EltTy} {srcw : Memref sig .tc sp' s' e'} {dstw : Memref sig .tc sp s e}
    {hsrc : srcw.view.WordExact} {hdst : dstw.view.WordExact} (hn : dstw.view.dmaCredit = n)
    {α : Type} {Q : α → sProp 𝕄} {k : PUnit → Prog (TpuEff nD τ sig (Elt F) Λ₀ .tc) α} :
    iprop(Inv pv K KS ∗ inFl c sm n D ∗ owesE c O)
      ⊢ iprop(((D ∗ semVal ((c : Thread nD τ), .dma sm) 0 ∗ owesE c O)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm srcw dstw hsrc hdst) k) Q) := by
  unfold inFl owesE
  iintro ⟨#HI, ⟨%D', %R, %h, HR, HF⟩, %W, HO⟩ Hk
  iapply (Transfers.wp_waitLocalO EC 𝒱₀ (c : Thread nD τ) none 0 hn (O := O) (W := W)) $$ [HF HO]
  · isplitl [HF]; · iexact HF
    isplitl [HO]; · iexact HO
    iapply (Inv_mayWait pv K KS hO (by decide) c (SemLoc.dma sm)); iexact HI
  iintro ⟨HD, Hv, HO⟩
  iapply Hk
  isplitl [HD HR]
  · iapply h
    isplitl [HD]; · iexact HD
    iexact HR
  isplitl [Hv]; · iexact Hv
  iexists _; iexact HO

/-! ## The partial products -/

/-- One direction's share of the partial products' array. -/
def pSh (b : Bool) : PosShare TreeShare := if b then fullShare.left else fullShare.right
/-- A direction's share of the partial products, which the copies out of them read. -/
def pRes (c : Dev nD) (b : Bool) : sProp 𝕄 := iprop(pM.view.loc (c : Thread nD τ) ↦[Finset.univ]{pSh b} pv c)

/-- A chunk of the partial products is fetched into a whole buffer. -/
theorem wp_fetch {c : Dev nD} (b : Bool) (j : Fin 32) {src : Memref sig .tc .hbm S128x4096 .bf16} (hs : src = pSl b j)
    {dst : Memref sig .tc .vmem S128x4096 .bf16} {n : ℕ} (hn : dst.view.dmaCredit = n) (hn0 : 0 < n)
    {sm : DmaSem sig} {hsrc : src.view.WordExact} {hdst : dst.view.WordExact} {hsem : DmaTarget.Typed (nD := nD) (τ := τ) (p := .tc) .hbm (.dma sm) (.here dst)}
    {α : Type} {Q : α → sProp 𝕄} {k : PUnit → Prog (TpuEff nD τ sig (Elt F) Λ₀ .tc) α} :
    iprop(pRes pv c b ∗ anyOf c dst ∗ semVal ((c : Thread nD τ), .dma sm) 0)
      ⊢ iprop((inFl c sm n iprop(holds c dst fullShare (part pv b c j) ∗ pRes pv c b)
            -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) (.dma sm) hsrc hdst hsem) k) Q) := by
  subst hs; subst hn
  unfold anyOf pRes
  iintro ⟨Hp, ⟨%fd, Hd⟩, Hv⟩ Hk
  iapply (wp_copy (c := c) (src := pSl b j) (dst := dst) (Ss := Finset.univ) (fs := pv c) (fd := fd) (q := pSh b)
    (Finset.subset_univ _) (Finset.Subset.refl _) hn0) $$ [Hp Hd Hv]
  · isplitl [Hp]; · iexact Hp
    isplitl [Hd]; · iexact Hd
    iexact Hv
  iintro HF
  iapply Hk
  have hm : iprop(iprop((dst.view.loc (c : Thread nD τ) ↦[dst.view.set]{fullShare} (dst.view.write (Elt F) fd ((pSl b j).view.read (Elt F) (pv c)) Finset.univ))
          ∗ ((pSl b j).view.loc (c : Thread nD τ) ↦[Finset.univ]{pSh b} (pv c : Buf (Elt F) ((pSl b j).view.loc (c : Thread nD τ))))) ∗ emp)
      ⊢ (iprop(holds c dst fullShare (part pv b c j) ∗ (pM.view.loc (c : Thread nD τ) ↦[Finset.univ]{pSh b} pv c)) : sProp 𝕄) := by
    iintro ⟨⟨Hd, Hs⟩, -⟩
    isplitl [Hd]
    · iapply (holds_intro c dst fullShare _ (View.read_write_univ _ _)); iexact Hd
    · iexact Hs
  iapply (inFl_mono c sm _ hm)
  isplitl [HF]; · iexact HF
  iempintro

/-! ## Loads and stores of whole buffers -/

/-- A load of an accumulator. -/
theorem wp_ld_acc {c : Dev nD} (b : Bool) (q : PosShare TreeShare) (v : Chunk F)
    {inb : ∀ a, (![0, 0] : Fin 2 → ℕ) a + S128x4096.size a ≤ S128x4096.size a}
    {hl : (accM b).view.LoadsAt (Rect.unit (s := S128x4096) ![0, 0] S128x4096.size inb).toLoadRect}
    {α : Type} {Q : α → sProp 𝕄} {k : Vec F S128x4096 .bf16 → Prog (TpuEff nD τ sig (Elt F) Λ₀ .tc) α} :
    (holds c (accM b) q v : sProp 𝕄)
      ⊢ iprop((holds c (accM b) q v -∗ wp frame (wpE (defs₀ (F := F)) 𝒱₀ (c : Thread nD τ) none) Set.univ (k v) Q)
          -∗ wp frame (wpE (defs₀ (F := F)) 𝒱₀ (c : Thread nD τ) none) Set.univ
              (.op (.load (accM b) (Rect.unit (s := S128x4096) ![0, 0] S128x4096.size inb).toLoadRect hl) k) Q) := by
  have hz : (![0, 0] : Fin 2 → ℕ) = fun _ => 0 := by funext a; fin_cases a <;> rfl
  unfold holds
  iintro ⟨%f, %hf, H⟩ Hk
  have hset : (accM b).view.set = Finset.univ := by cases b <;> exact View.set_whole _
  have hk : (accM b).view.readAt (Elt F) (Rect.unit (s := S128x4096) ![0, 0] S128x4096.size inb).toLoadRect f = v := by
    rw [← hf]; cases b
    · exact (Memref.readAt_unit_zero (Elt F) cc0_scratch3 hz _ f)
    · exact (Memref.readAt_unit_zero (Elt F) cc0_scratch2 hz _ f)
  iapply (wp_load 𝒱₀ (c : Thread nD τ) none Set.univ (m := accM b) (q := q) (f := f) (S := (accM b).view.set) (by rw [hset]; exact Finset.subset_univ _)) $$ H
  iintro H
  rw [hk]
  iapply Hk
  iexists f
  isplitr; · ipureintro; exact hf
  iexact H

/-- A load of a chunk buffer. -/
theorem wp_ld_lbuf {c : Dev nD} (b : Bool) (q : PosShare TreeShare) (v : Chunk F)
    {inb : ∀ a, (![0, 0] : Fin 2 → ℕ) a + S128x4096.size a ≤ S128x4096.size a}
    {hl : (lbufM b).view.LoadsAt (Rect.unit (s := S128x4096) ![0, 0] S128x4096.size inb).toLoadRect}
    {α : Type} {Q : α → sProp 𝕄} {k : Vec F S128x4096 .bf16 → Prog (TpuEff nD τ sig (Elt F) Λ₀ .tc) α} :
    (holds c (lbufM b) q v : sProp 𝕄)
      ⊢ iprop((holds c (lbufM b) q v -∗ wp frame (wpE (defs₀ (F := F)) 𝒱₀ (c : Thread nD τ) none) Set.univ (k v) Q)
          -∗ wp frame (wpE (defs₀ (F := F)) 𝒱₀ (c : Thread nD τ) none) Set.univ
              (.op (.load (lbufM b) (Rect.unit (s := S128x4096) ![0, 0] S128x4096.size inb).toLoadRect hl) k) Q) := by
  have hz : (![0, 0] : Fin 2 → ℕ) = fun _ => 0 := by funext a; fin_cases a <;> rfl
  unfold holds
  iintro ⟨%f, %hf, H⟩ Hk
  have hset : (lbufM b).view.set = Finset.univ := by cases b <;> exact View.set_whole _
  have hk : (lbufM b).view.readAt (Elt F) (Rect.unit (s := S128x4096) ![0, 0] S128x4096.size inb).toLoadRect f = v := by
    rw [← hf]; cases b
    · exact (Memref.readAt_unit_zero (Elt F) cc0_scratch5 hz _ f)
    · exact (Memref.readAt_unit_zero (Elt F) cc0_scratch4 hz _ f)
  iapply (wp_load 𝒱₀ (c : Thread nD τ) none Set.univ (m := lbufM b) (q := q) (f := f) (S := (lbufM b).view.set) (by rw [hset]; exact Finset.subset_univ _)) $$ H
  iintro H
  rw [hk]
  iapply Hk
  iexists f
  isplitr; · ipureintro; exact hf
  iexact H

/-- A load of a result buffer, of values not chosen. -/
theorem wp_ld_obuf {c : Dev nD} (b : Bool)
    {inb : ∀ a, (![0, 0] : Fin 2 → ℕ) a + S128x4096.size a ≤ S128x4096.size a}
    {hl : (obufM b).view.LoadsAt (Rect.unit (s := S128x4096) ![0, 0] S128x4096.size inb).toLoadRect}
    {α : Type} {Q : α → sProp 𝕄} {k : Vec F S128x4096 .f32 → Prog (TpuEff nD τ sig (Elt F) Λ₀ .tc) α} :
    (anyOf c (obufM b) : sProp 𝕄)
      ⊢ iprop((∀ v, anyOf c (obufM b) -∗ wp frame (wpE (defs₀ (F := F)) 𝒱₀ (c : Thread nD τ) none) Set.univ (k v) Q)
          -∗ wp frame (wpE (defs₀ (F := F)) 𝒱₀ (c : Thread nD τ) none) Set.univ
              (.op (.load (obufM b) (Rect.unit (s := S128x4096) ![0, 0] S128x4096.size inb).toLoadRect hl) k) Q) := by
  unfold anyOf
  iintro ⟨%f, H⟩ Hk
  have hset : (obufM b).view.set = Finset.univ := by cases b <;> exact View.set_whole _
  iapply (wp_load 𝒱₀ (c : Thread nD τ) none Set.univ (m := obufM b) (q := fullShare) (f := f) (S := (obufM b).view.set) (by rw [hset]; exact Finset.subset_univ _)) $$ H
  iintro H
  ispecialize Hk $$ %((obufM b).view.readAt (Elt F) (Rect.unit (s := S128x4096) ![0, 0] S128x4096.size inb).toLoadRect f)
  iapply Hk
  iexists f
  iexact H

/-- A store of an accumulator. -/
theorem wp_st_acc {c : Dev nD} (b : Bool) (w : Chunk F)
    {inb : ∀ a, (![0, 0] : Fin 2 → ℕ) a + S128x4096.size a ≤ S128x4096.size a}
    {hx : ((accM b).access (Rect.unit (s := S128x4096) ![0, 0] S128x4096.size inb)).Stores Finset.univ} {hm}
    {α : Type} {Q : α → sProp 𝕄} {k : PUnit → Prog (TpuEff nD τ sig (Elt F) Λ₀ .tc) α} :
    (anyOf c (accM b) : sProp 𝕄)
      ⊢ iprop((holds c (accM b) fullShare w -∗ wp frame (wpE (defs₀ (F := F)) 𝒱₀ (c : Thread nD τ) none) Set.univ (k ⟨⟩) Q)
          -∗ wp frame (wpE (defs₀ (F := F)) 𝒱₀ (c : Thread nD τ) none) Set.univ
              (.op (.store (accM b) (Rect.unit (s := S128x4096) ![0, 0] S128x4096.size inb) w Finset.univ hx hm) k) Q) := by
  have hz : (![0, 0] : Fin 2 → ℕ) = fun _ => 0 := by funext a; fin_cases a <;> rfl
  have hset : (accM b).view.set = Finset.univ := by cases b <;> exact View.set_whole _
  unfold anyOf
  iintro ⟨%f, H⟩ Hk
  have hk : ((accM b).access (Rect.unit (s := S128x4096) ![0, 0] S128x4096.size inb)).write (Elt F) f w Finset.univ
      = (accM b).view.write (Elt F) f w Finset.univ := by
    cases b
    · exact (Memref.write_access_unit_zero_univ (Elt F) cc0_scratch3 hz _ f w).trans (View.write_whole_univ _ _ _).symm
    · exact (Memref.write_access_unit_zero_univ (Elt F) cc0_scratch2 hz _ f w).trans (View.write_whole_univ _ _ _).symm
  iapply (wp_store 𝒱₀ (c : Thread nD τ) none Set.univ (m := accM b) (r := Rect.unit (s := S128x4096) ![0, 0] S128x4096.size inb)
    (Mk := Finset.univ) (f := f) (S := (accM b).view.set) (by rw [hset]; exact Finset.subset_univ _)) $$ H
  iintro H
  iapply Hk
  iapply (holds_intro c (accM b) fullShare ((accM b).view.write (Elt F) f w Finset.univ) (View.read_write_univ _ _))
  rw [← hk]
  iexact H

/-- A store of a result buffer. -/
theorem wp_st_obuf {c : Dev nD} (b : Bool) (w : ChunkO F)
    {inb : ∀ a, (![0, 0] : Fin 2 → ℕ) a + S128x4096.size a ≤ S128x4096.size a}
    {hx : ((obufM b).access (Rect.unit (s := S128x4096) ![0, 0] S128x4096.size inb)).Stores Finset.univ} {hm}
    {α : Type} {Q : α → sProp 𝕄} {k : PUnit → Prog (TpuEff nD τ sig (Elt F) Λ₀ .tc) α} :
    (anyOf c (obufM b) : sProp 𝕄)
      ⊢ iprop((holds c (obufM b) fullShare w -∗ wp frame (wpE (defs₀ (F := F)) 𝒱₀ (c : Thread nD τ) none) Set.univ (k ⟨⟩) Q)
          -∗ wp frame (wpE (defs₀ (F := F)) 𝒱₀ (c : Thread nD τ) none) Set.univ
              (.op (.store (obufM b) (Rect.unit (s := S128x4096) ![0, 0] S128x4096.size inb) w Finset.univ hx hm) k) Q) := by
  have hz : (![0, 0] : Fin 2 → ℕ) = fun _ => 0 := by funext a; fin_cases a <;> rfl
  have hset : (obufM b).view.set = Finset.univ := by cases b <;> exact View.set_whole _
  unfold anyOf
  iintro ⟨%f, H⟩ Hk
  have hk : ((obufM b).access (Rect.unit (s := S128x4096) ![0, 0] S128x4096.size inb)).write (Elt F) f w Finset.univ
      = (obufM b).view.write (Elt F) f w Finset.univ := by
    cases b
    · exact (Memref.write_access_unit_zero_univ (Elt F) cc0_scratch7 hz _ f w).trans (View.write_whole_univ _ _ _).symm
    · exact (Memref.write_access_unit_zero_univ (Elt F) cc0_scratch6 hz _ f w).trans (View.write_whole_univ _ _ _).symm
  iapply (wp_store 𝒱₀ (c : Thread nD τ) none Set.univ (m := obufM b) (r := Rect.unit (s := S128x4096) ![0, 0] S128x4096.size inb)
    (Mk := Finset.univ) (f := f) (S := (obufM b).view.set) (by rw [hset]; exact Finset.subset_univ _)) $$ H
  iintro H
  iapply Hk
  iapply (holds_intro c (obufM b) fullShare ((obufM b).view.write (Elt F) f w Finset.univ) (View.read_write_univ _ _))
  rw [← hk]
  iexact H

/-- A slot's elements, as a load through its receive buffer sees them. -/
theorem slot_set (b : Bool) (s : Fin 2) :
    (commM b).view.setOn (Rect.unit (s := S2x128x4096) ![s.val, 0, 0] S1x128x4096.size (slot_inb s)).toLoadRect.set ⊆ (slotM b s).view.set := by
  have h : (slotM b s).view.set = ((commM b).view.slice (Rect.unit (s := S2x128x4096) ![s.val, 0, 0] S1x128x4096.size (slot_inb s))).set :=
    View.set_reshape _ _
  rw [h, View.set_slice]
  exact Finset.Subset.refl _

/-- A load of a receive slot. -/
theorem wp_ld_slot {c : Dev nD} (b : Bool) (s : Fin 2) (v : Chunk F) {off : Fin 3 → ℕ} (hoff : off = ![s.val, 0, 0])
    {inb : ∀ a, off a + S1x128x4096.size a ≤ S2x128x4096.size a}
    {hl : (commM b).view.LoadsAt (Rect.unit (s := S2x128x4096) off S1x128x4096.size inb).toLoadRect}
    {α : Type} {Q : α → sProp 𝕄} {k : Vec F S1x128x4096 .bf16 → Prog (TpuEff nD τ sig (Elt F) Λ₀ .tc) α} :
    (holds c (slotM b s) fullShare v : sProp 𝕄)
      ⊢ iprop((∀ w, ⌜shapeCast S128x4096 w shapeCasts_S1x128x4096_S128x4096 = v⌝ -∗ holds c (slotM b s) fullShare v
            -∗ wp frame (wpE (defs₀ (F := F)) 𝒱₀ (c : Thread nD τ) none) Set.univ (k w) Q)
          -∗ wp frame (wpE (defs₀ (F := F)) 𝒱₀ (c : Thread nD τ) none) Set.univ
              (.op (.load (commM b) (Rect.unit (s := S2x128x4096) off S1x128x4096.size inb).toLoadRect hl) k) Q) := by
  subst hoff
  unfold holds
  iintro ⟨%f, %hf, H0⟩ Hk
  have hcv : ((slotM b s).view.loc (c : Thread nD τ) ↦[(slotM b s).view.set]{fullShare} f : sProp 𝕄)
      ⊢ ((commM b).view.loc (c : Thread nD τ) ↦[(slotM b s).view.set]{fullShare} f) := BI.Entails.refl _
  have hvc : ((commM b).view.loc (c : Thread nD τ) ↦[(slotM b s).view.set]{fullShare} f : sProp 𝕄)
      ⊢ ((slotM b s).view.loc (c : Thread nD τ) ↦[(slotM b s).view.set]{fullShare} f) := BI.Entails.refl _
  ihave H := hcv $$ H0
  iapply (wp_load 𝒱₀ (c : Thread nD τ) none Set.univ (m := commM b) (q := fullShare) (f := f) (S := (slotM b s).view.set) (slot_set b s)) $$ H
  iintro H
  ispecialize Hk $$ %((commM b).view.readAt (Elt F) (Rect.unit (s := S2x128x4096) ![s.val, 0, 0] S1x128x4096.size inb).toLoadRect f)
  iapply Hk
  · ipureintro
    rw [← hf]
    rfl
  iexists f
  isplitr; · ipureintro; exact hf
  iapply hvc; iexact H

/-! ## The result array -/

/-- The kernel's function of a sum, on a chunk. -/
def epiC (x : Chunk F) : ChunkO F := k0_pay6 x

/-- The device whose finished sum chunk `j` of a direction's half is. -/
def ownr (b : Bool) (j : Fin 32) : Dev nD := dev (if b then j - 1 else j + 1)

/-- Chunk `j` of a direction's half of the result. -/
def outC (b : Bool) (j : Fin 32) : ChunkO F := epiC (msg pv b 31 (ownr b j))

/-- The direction, the chunk and the place in the chunk of an element of the result. -/
def bOf (i : S4096x8192.Idx) : Bool := decide ((i 1).val < 4096)
/-- Its chunk. -/
def jOf (i : S4096x8192.Idx) : Fin 32 := ⟨(i 0).val / 128, by have : (i 0).val < 4096 := (i 0).isLt; omega⟩
/-- Its place in the chunk. -/
def xOf (i : S4096x8192.Idx) : S128x4096.Idx := fun a =>
  if h : a = 0 then ⟨(i 0).val % 128, by subst h; exact Nat.mod_lt _ (by decide)⟩
  else ⟨(i 1).val % 4096, by
    have : a = 1 := by
      have h2 : a.val < 2 := a.isLt
      have h0 : a.val ≠ 0 := fun h' => h (Fin.ext h')
      exact Fin.ext (show a.val = 1 by omega)
    subst this; exact Nat.mod_lt _ (by decide)⟩

/-- The result. -/
def outF : main_v26.ty.Contents (Elt F) := fun i => outC pv (bOf i) (jOf i) (xOf i)

/-- Where an element of a chunk lies in the result. -/
def oEmb (b : Bool) (j : Fin 32) (x : S128x4096.Idx) : S4096x8192.Idx := (oSl b j).view.emb x

/-- The row, in the result, of an element of a chunk. -/
theorem oSl_emb0 (b : Bool) (j : Fin 32) (x : S128x4096.Idx) : (oEmb b j x 0).val = j.val * 128 + (x 0).val := by
  show j.val * 128 + 1 * (x 0).val = _; omega
/-- Its column. -/
theorem oSl_emb1 (b : Bool) (j : Fin 32) (x : S128x4096.Idx) : (oEmb b j x 1).val = col b + (x 1).val := by
  show col b + 1 * (x 1).val = _; omega

/-- Direction, chunk and place say where an element of the result is. -/
theorem oSl_at (i : S4096x8192.Idx) : oEmb (bOf i) (jOf i) (xOf i) = i := by
  funext a
  refine Fin.ext ?_
  have h1 : (i 1).val < 8192 := (i 1).isLt
  match a with
  | 0 => rw [oSl_emb0]; show (i 0).val / 128 * 128 + (i 0).val % 128 = (i 0).val; omega
  | 1 =>
    rw [oSl_emb1]; show col (bOf i) + (i 1).val % 4096 = (i 1).val
    unfold bOf col
    by_cases h : (i 1).val < 4096
    · rw [if_pos (by simpa using h)]; omega
    · rw [if_neg (by simpa using h)]; omega

/-- A chunk of the result array is the chunk that the finished sum gives. -/
theorem read_outF (b : Bool) (j : Fin 32) : (oSl b j).view.read (Elt F) (outF pv) = outC pv b j := by
  funext x
  show outF pv (oEmb b j x) = _
  have h0 := oSl_emb0 b j x
  have h1 := oSl_emb1 b j x
  have hx0 : (x 0).val < 128 := (x 0).isLt
  have hx1 : (x 1).val < 4096 := (x 1).isLt
  have eb : bOf (oEmb b j x) = b := by
    unfold bOf; rw [h1]; unfold col; cases b <;> simp <;> omega
  have ej : jOf (oEmb b j x) = j := Fin.ext (by
    show (oEmb b j x 0).val / 128 = j.val; rw [h0]; omega)
  have ex : xOf (oEmb b j x) = x := by
    funext a
    refine Fin.ext ?_
    match a with
    | 0 => show (oEmb b j x 0).val % 128 = _; rw [h0]; omega
    | 1 => show (oEmb b j x 1).val % 4096 = _; rw [h1]; unfold col; cases b <;> simp <;> omega
  unfold outF
  rw [eb, ej, ex]

/-- The result array, right on the chunks done. -/
def outSt (c : Dev nD) (P : Bool → Fin 32 → Prop) : sProp 𝕄 :=
  iprop(∃ f : Buf (Elt F) (oM.view.loc (c : Thread nD τ)), ⌜∀ i, P (bOf i) (jOf i) → f i = outF pv i⌝
    ∗ (oM.view.loc (c : Thread nD τ) ↦[Finset.univ]{fullShare} f))

/-- Right on more chunks is right on fewer. -/
theorem outSt_mono (c : Dev nD) {P P' : Bool → Fin 32 → Prop} (h : ∀ b j, P' b j → P b j) : outSt pv c P ⊢ outSt pv c P' := by
  unfold outSt
  iintro ⟨%f, %hf, H⟩
  iexists f
  isplitr; · ipureintro; exact fun i hi => hf i (h _ _ hi)
  iexact H

/-- A copy into a chunk of the result counts for something. -/
theorem obuf_credit (b : Bool) (j : Fin 32) : 0 < (oSl b j).view.dmaCredit := View.dmaCredit_pos _ (by decide)

/-- Chunk `j` written over the result: right where it was, and on the chunk. -/
theorem put_value (b : Bool) (j : Fin 32) {P : Bool → Fin 32 → Prop} {fd : (oSl b j).view.ty.Contents (Elt F)} (hfd : ∀ i, P (bOf i) (jOf i) → fd i = outF pv i)
    {w : ChunkO F} (hw : w = outC pv b j) (i : S4096x8192.Idx) (hi : P (bOf i) (jOf i) ∨ (bOf i = b ∧ jOf i = j)) :
    (oSl b j).view.write (Elt F) fd w Finset.univ i = outF pv i := by
  by_cases hm : i ∈ (oSl b j).view.set
  · obtain ⟨x, -, rfl⟩ := Finset.mem_map.mp hm
    refine (View.write_emb_of_mem (v := (oSl b j).view) fd w (Finset.mem_univ x)).trans ?_
    rw [hw, ← read_outF]
    rfl
  · refine (View.write_of_not_mem (v := (oSl b j).view) fd w Finset.univ hm).trans ?_
    rcases hi with hi | ⟨rfl, rfl⟩
    · exact hfd i hi
    · exact absurd (by
        have h := oSl_at i
        have h2 : (oSl (bOf i) (jOf i)).view.emb (xOf i) ∈ (oSl (bOf i) (jOf i)).view.set := Finset.mem_map_of_mem _ (Finset.mem_univ _)
        unfold oEmb at h
        rw [h] at h2
        exact h2) hm

/-- A finished chunk is written to the result. -/
theorem wp_put {c : Dev nD} (b : Bool) (j : Fin 32) {P : Bool → Fin 32 → Prop} {dst : Memref sig .tc .hbm S128x4096 .f32} (hd : dst = oSl b j)
    (b' : Bool) {v : ChunkO F} (hv : v = outC pv b j)
    {sm : DmaSem sig} {hsrc : (obufM b').view.WordExact} {hdst : dst.view.WordExact} {hsem : DmaTarget.Typed (nD := nD) (τ := τ) (p := .tc) .vmem (.dma sm) (.here dst)}
    {α : Type} {Q : α → sProp 𝕄} {k : PUnit → Prog (TpuEff nD τ sig (Elt F) Λ₀ .tc) α} :
    iprop(holds c (obufM b') fullShare v ∗ outSt pv c P ∗ semVal ((c : Thread nD τ), .dma sm) 0)
      ⊢ iprop((inFl c sm dst.view.dmaCredit iprop(outSt pv c (fun b₁ j₁ => P b₁ j₁ ∨ (b₁ = b ∧ j₁ = j)) ∗ anyOf c (obufM b'))
            -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (obufM b') (.here dst) (.dma sm) hsrc hdst hsem) k) Q) := by
  subst hd
  unfold holds outSt
  iintro ⟨⟨%fs, %hfs, Hs⟩, ⟨%fd, %hfd, Hd⟩, Hv⟩ Hk
  iapply (wp_copy (c := c) (src := obufM b') (dst := oSl b j) (Ss := (obufM b').view.set) (Sd := Finset.univ) (fs := fs) (fd := fd) (q := fullShare)
    (Finset.Subset.refl _) (Finset.subset_univ _) (obuf_credit b j)) $$ [Hs Hd Hv]
  · isplitl [Hs]; · iexact Hs
    isplitl [Hd]; · iexact Hd
    iexact Hv
  iintro HF
  iapply Hk
  have hw := put_value pv b j hfd (hfs.trans hv)
  have hm : iprop(iprop(((oSl b j).view.loc (c : Thread nD τ) ↦[Finset.univ]{fullShare} ((oSl b j).view.write (Elt F) fd ((obufM b').view.read (Elt F) fs) Finset.univ))
          ∗ ((obufM b').view.loc (c : Thread nD τ) ↦[(obufM b').view.set]{fullShare} fs)) ∗ emp)
      ⊢ (iprop((∃ f : Buf (Elt F) (oM.view.loc (c : Thread nD τ)), ⌜∀ i, (P (bOf i) (jOf i) ∨ (bOf i = b ∧ jOf i = j)) → f i = outF pv i⌝
    ∗ (oM.view.loc (c : Thread nD τ) ↦[Finset.univ]{fullShare} f)) ∗ anyOf c (obufM b')) : sProp 𝕄) := by
    iintro ⟨⟨Hd, Hs⟩, -⟩
    isplitl [Hd]
    · iexists ((oSl b j).view.write (Elt F) fd ((obufM b').view.read (Elt F) fs) Finset.univ)
      isplitr; · ipureintro; exact hw
      iexact Hd
    · unfold anyOf; iexists fs; iexact Hs
  iapply (inFl_mono c sm _ hm)
  isplitl [HF]; · iexact HF
  iempintro

end Cert.KernelIdeal.Proofs

end
-- ==== Proof.KernelIdeal.Offs.lean ====
/-
  The words the body computes with: the offsets, the addressed devices and the assumed bounds, when
  the three words it reads are its position in the ring and its two neighbours; and the views and
  semaphores its operands are.
-/
module

public import proofs.«01_k».proof.Proof.KernelIdeal.Local

@[expose] public section

noncomputable section

namespace Cert.KernelIdeal.Proofs

open Cert.KernelIdeal Cert.KernelIdeal.Gen

open Idealize.ShloMosaic
open Idealize.ShloMosaic.TcCoe

/-- A position or a device as a word. -/
def wd (r : Fin 32) : BitVec 32 := BitVec.ofNat 32 r.val

/-! ## Offsets -/

/-- The offset of the first chunk of the one direction. -/
theorem off1_wd : ∀ r : Fin 32, k0_off1 (wd r) = ![(ck true r 0).val * 128, col true] := by decide +kernel
/-- The offset of the first chunk of the other direction. -/
theorem off2_wd : ∀ r : Fin 32, k0_off2 (wd r) = ![(ck false r 0).val * 128, col false] := by decide +kernel
/-- The offset of a step's own chunk in the first loop, of the one direction. -/
theorem off3_wd : ∀ (r : Fin 32) (t : Fin k0_t1_loop.trips), k0_off3 (wd r) t = ![(ck true r (t.val + 1)).val * 128, col true] := by
  decide +kernel
/-- The same of the other direction. -/
theorem off4_wd : ∀ (r : Fin 32) (t : Fin k0_t1_loop.trips), k0_off4 (wd r) t = ![(ck false r (t.val + 1)).val * 128, col false] := by
  decide +kernel
/-- The offset of the chunk that the first loop finishes, of the one direction. -/
theorem off8_wd : ∀ r : Fin 32, k0_off8 (wd r) = ![(ck true r 31).val * 128, col true] := by decide +kernel
/-- The same of the other direction. -/
theorem off9_wd : ∀ r : Fin 32, k0_off9 (wd r) = ![(ck false r 31).val * 128, col false] := by decide +kernel
/-- The offset of the chunk that a trip of the second loop stores, of the one direction. -/
theorem off14_wd : ∀ (r : Fin 32) (t : Fin k0_t2_loop.trips), k0_off14 (wd r) t = ![(ck true r (t.val + 1)).val * 128, col true] := by
  decide +kernel
/-- The same of the other direction. -/
theorem off15_wd : ∀ (r : Fin 32) (t : Fin k0_t2_loop.trips), k0_off15 (wd r) t = ![(ck false r (t.val + 1)).val * 128, col false] := by
  decide +kernel

/-! ## Devices -/

/-- The device that the body addresses is the one that the word names. -/
theorem dev1_wd : ∀ d : Fin 32, k0_dev1 (wd d) = d.val := by decide +kernel
/-- The device that the body addresses is the one that the word names. -/
theorem dev2_wd : ∀ d : Fin 32, k0_dev2 (wd d) = d.val := by decide +kernel
/-- The device that the body addresses is the one that the word names. -/
theorem dev3_wd : ∀ d : Fin 32, k0_dev3 (wd d) = d.val := by decide +kernel
/-- The device that the body addresses is the one that the word names. -/
theorem dev4_wd : ∀ d : Fin 32, k0_dev4 (wd d) = d.val := by decide +kernel
/-- The device that the body addresses is the one that the word names. -/
theorem dev5_wd : ∀ d : Fin 32, k0_dev5 (wd d) = d.val := by decide +kernel
/-- The device that the body addresses is the one that the word names. -/
theorem dev6_wd : ∀ d : Fin 32, k0_dev6 (wd d) = d.val := by decide +kernel
/-- The device that the body addresses is the one that the word names. -/
theorem dev7_wd : ∀ d : Fin 32, k0_dev7 (wd d) = d.val := by decide +kernel
/-- The device that the body addresses is the one that the word names. -/
theorem dev8_wd : ∀ d : Fin 32, k0_dev8 (wd d) = d.val := by decide +kernel
/-- The device that the body addresses is the one that the word names. -/
theorem dev9_wd : ∀ d : Fin 32, k0_dev9 (wd d) = d.val := by decide +kernel
/-- The device that the body addresses is the one that the word names. -/
theorem dev10_wd : ∀ d : Fin 32, k0_dev10 (wd d) = d.val := by decide +kernel
/-- The device that the body addresses is the one that the word names. -/
theorem dev11_wd : ∀ d : Fin 32, k0_dev11 (wd d) = d.val := by decide +kernel
/-- The device that the body addresses is the one that the word names. -/
theorem dev12_wd : ∀ d : Fin 32, k0_dev12 (wd d) = d.val := by decide +kernel

/-- A device given by a number that is its own. -/
theorem dev_mk {n : ℕ} (h : n < nD) {d : Dev nD} (e : n = d.val) : (⟨n, h⟩ : Dev nD) = d := Fin.ext e

/-! ## The assumed bounds -/

/-- The assumption on the third word holds when the word is a device. -/
theorem chk1_wd (d : Fin 32) : k0_chk1 (wd d) := by
  refine ⟨?_, ?_, ?_, ?_, ?_, ?_⟩
  · rw [dev1_wd]; exact d.isLt
  · rw [dev4_wd]; exact d.isLt
  · rw [dev5_wd]; exact d.isLt
  · rw [dev8_wd]; exact d.isLt
  · rw [dev10_wd]; exact d.isLt
  · rw [dev11_wd]; exact d.isLt

/-- So does the one on the second word. -/
theorem chk2_wd (d : Fin 32) : k0_chk2 (wd d) := by
  refine ⟨?_, ?_, ?_, ?_, ?_, ?_⟩
  · rw [dev2_wd]; exact d.isLt
  · rw [dev3_wd]; exact d.isLt
  · rw [dev6_wd]; exact d.isLt
  · rw [dev7_wd]; exact d.isLt
  · rw [dev9_wd]; exact d.isLt
  · rw [dev12_wd]; exact d.isLt

/-- A chunk's rectangle is in bounds. -/
theorem inb_of (b : Bool) (j : Fin 32) {off : Fin 2 → ℕ} (h : off = ![j.val * 128, col b]) :
    ∀ a, off a + S128x4096.size a ≤ S4096x8192.size a := by subst h; exact chunk_inb b j

/-- A chunk's rectangle is whole words. -/
theorem words_of (b : Bool) (j : Fin 32) {off : Fin 2 → ℕ} (h : off = ![j.val * 128, col b])
    (hinb : ∀ a, off a + S128x4096.size a ≤ S4096x8192.size a) :
    (Rect.unit (s := S4096x8192) off S128x4096.size hinb).WholeWords (EltTy.packing .bf16) := by
  subst h
  rw [Rect.wholeWords_iff_at]
  refine Or.inl ?_
  revert b j
  decide +kernel

/-- The offsets computed from a position are in bounds and whole words. -/
theorem chk3_wd (r : Fin 32) : k0_chk3 (wd r) :=
  ⟨inb_of _ _ (off1_wd r), words_of _ _ (off1_wd r), inb_of _ _ (off2_wd r), words_of _ _ (off2_wd r),
    fun t => inb_of _ _ (off3_wd r t), fun t => words_of _ _ (off3_wd r t), fun t => inb_of _ _ (off4_wd r t),
    fun t => words_of _ _ (off4_wd r t), inb_of _ _ (off8_wd r), inb_of _ _ (off9_wd r),
    fun t => inb_of _ _ (off14_wd r t), fun t => inb_of _ _ (off15_wd r t)⟩

/-! ## Operands -/

/-- A chunk of the partial products, by its offsets. -/
theorem pSl_of (b : Bool) (j : Fin 32) {off : Fin 2 → ℕ} (h : off = ![j.val * 128, col b])
    (hinb : ∀ a, off a + S128x4096.size a ≤ S4096x8192.size a) (hs) :
    (Memref.whole main_v25).slice (Rect.unit (s := S4096x8192) off S128x4096.size hinb) hs = pSl b j := by subst h; rfl
/-- A chunk of the result, by its offsets. -/
theorem oSl_of (b : Bool) (j : Fin 32) {off : Fin 2 → ℕ} (h : off = ![j.val * 128, col b])
    (hinb : ∀ a, off a + S128x4096.size a ≤ S4096x8192.size a) (hs) :
    (Memref.whole main_v26).slice (Rect.unit (s := S4096x8192) off S128x4096.size hinb) hs = oSl b j := by subst h; rfl
/-- A slot of a receive buffer, by its offsets. -/
theorem slot_of (b : Bool) (s : Fin 2) {off : Fin 3 → ℕ} (h : off = ![s.val, 0, 0])
    (hinb : ∀ a, off a + S1x128x4096.size a ≤ S2x128x4096.size a) (hs) (hq) :
    ((commM b).slice (Rect.unit (s := S2x128x4096) off S1x128x4096.size hinb) hs).squeeze S128x4096 hq = slotM b s := by
  subst h; rfl
/-! The semaphore arrays' elements. -/

/-- The send semaphore of slot 0, as the body names it. -/
theorem sendSemR_0 : ((SemArray.slice cc0_scratch8 (Rect.unit (s := S2) ![0] S1.size (by decide))).squeeze S_ squeezes_S1_S_).sem = sendSem true 0 := rfl
/-- The send semaphore of slot 1. -/
theorem sendSemR_1 : ((SemArray.slice cc0_scratch8 (Rect.unit (s := S2) ![1] S1.size (by decide))).squeeze S_ squeezes_S1_S_).sem = sendSem true 1 := rfl
/-- The receive semaphore of slot 0. -/
theorem recvSemR_0 : ((SemArray.slice cc0_scratch9 (Rect.unit (s := S2) ![0] S1.size (by decide))).squeeze S_ squeezes_S1_S_).sem = recvSem true 0 := rfl
/-- The receive semaphore of slot 1. -/
theorem recvSemR_1 : ((SemArray.slice cc0_scratch9 (Rect.unit (s := S2) ![1] S1.size (by decide))).squeeze S_ squeezes_S1_S_).sem = recvSem true 1 := rfl
/-- The other direction's send semaphore of slot 0. -/
theorem sendSemL_0 : ((SemArray.slice cc0_scratch10 (Rect.unit (s := S2) ![0] S1.size (by decide))).squeeze S_ squeezes_S1_S_).sem = sendSem false 0 := rfl
/-- The other direction's send semaphore of slot 1. -/
theorem sendSemL_1 : ((SemArray.slice cc0_scratch10 (Rect.unit (s := S2) ![1] S1.size (by decide))).squeeze S_ squeezes_S1_S_).sem = sendSem false 1 := rfl
/-- The other direction's receive semaphore of slot 0. -/
theorem recvSemL_0 : ((SemArray.slice cc0_scratch11 (Rect.unit (s := S2) ![0] S1.size (by decide))).squeeze S_ squeezes_S1_S_).sem = recvSem false 0 := rfl
/-- The other direction's receive semaphore of slot 1. -/
theorem recvSemL_1 : ((SemArray.slice cc0_scratch11 (Rect.unit (s := S2) ![1] S1.size (by decide))).squeeze S_ squeezes_S1_S_).sem = recvSem false 1 := rfl

/-- The send semaphore at a computed slot. -/
theorem sendSemR_of (s : Fin 2) {off : Fin 1 → ℕ} (h : off = ![s.val]) (hinb : ∀ a, off a + S1.size a ≤ S2.size a) :
    ((SemArray.slice cc0_scratch8 (Rect.unit (s := S2) off S1.size hinb)).squeeze S_ squeezes_S1_S_).sem = sendSem true s := by
  subst h
  match s with
  | 0 => exact sendSemR_0
  | 1 => exact sendSemR_1
/-- The receive semaphore at a computed slot. -/
theorem recvSemR_of (s : Fin 2) {off : Fin 1 → ℕ} (h : off = ![s.val]) (hinb : ∀ a, off a + S1.size a ≤ S2.size a) :
    ((SemArray.slice cc0_scratch9 (Rect.unit (s := S2) off S1.size hinb)).squeeze S_ squeezes_S1_S_).sem = recvSem true s := by
  subst h
  match s with
  | 0 => exact recvSemR_0
  | 1 => exact recvSemR_1
/-- The other direction's send semaphore at a computed slot. -/
theorem sendSemL_of (s : Fin 2) {off : Fin 1 → ℕ} (h : off = ![s.val]) (hinb : ∀ a, off a + S1.size a ≤ S2.size a) :
    ((SemArray.slice cc0_scratch10 (Rect.unit (s := S2) off S1.size hinb)).squeeze S_ squeezes_S1_S_).sem = sendSem false s := by
  subst h
  match s with
  | 0 => exact sendSemL_0
  | 1 => exact sendSemL_1
/-- The other direction's receive semaphore at a computed slot. -/
theorem recvSemL_of (s : Fin 2) {off : Fin 1 → ℕ} (h : off = ![s.val]) (hinb : ∀ a, off a + S1.size a ≤ S2.size a) :
    ((SemArray.slice cc0_scratch11 (Rect.unit (s := S2) off S1.size hinb)).squeeze S_ squeezes_S1_S_).sem = recvSem false s := by
  subst h
  match s with
  | 0 => exact recvSemL_0
  | 1 => exact recvSemL_1

/-- The slot whose semaphores a trip of the first loop uses. -/
theorem off5_sl (t : Fin k0_t1_loop.trips) : k0_off5 t = ![(sl t.val).val] := k0_off5_eq t
/-- The slot that a trip of the first loop receives in. -/
theorem off6_sl (t : Fin k0_t1_loop.trips) : k0_off6 t = ![(sl t.val).val, 0, 0] := k0_off6_eq t
/-- The slot that it loads from. -/
theorem off7_sl (t : Fin k0_t1_loop.trips) : k0_off7 t = ![(sl t.val).val, 0, 0] := k0_off7_eq t
/-- The slot whose semaphores a trip of the second loop uses. -/
theorem off10_sl (t : Fin k0_t2_loop.trips) : k0_off10 t = ![(sl (t.val + 32)).val] := k0_off10_eq t
/-- The slot that a trip of the second loop receives in. -/
theorem off11_sl (t : Fin k0_t2_loop.trips) : k0_off11 t = ![(sl (t.val + 32)).val, 0, 0] := k0_off11_eq t
/-- The slot that it sends out of. -/
theorem off12_sl (t : Fin k0_t2_loop.trips) : k0_off12 t = ![(sl (t.val + 32 + 1)).val, 0, 0] := k0_off12_eq t
/-- The slot that it loads from when it stores for the result. -/
theorem off13_sl (t : Fin k0_t2_loop.trips) : k0_off13 t = ![(sl (t.val + 32)).val, 0, 0] := k0_off13_eq t

end Cert.KernelIdeal.Proofs
-- ==== Proof.KernelIdeal.State.lean ====
/-
  What a core holds before each step of the two rings, one direction at a time.
-/
module

public import proofs.«01_k».proof.Proof.KernelIdeal.Offs
public import Idealize.ShloMosaic.Lib.ViewIndex
public import Idealize.ShloMosaic.Lib.Pipeline.Value

@[expose] public section

noncomputable section

namespace Cert.KernelIdeal.Proofs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (released readerAt writeTok slotInv USlots)

variable {F : FTy → Type} [FloatOps F]

local notation "𝕄" => MT nD τ sig ℕ (Elt F) ℕ UU ℕ

variable (pv : Dev nD → main_v25.ty.Contents (Elt F)) (K : Dev nD × Kd → ℕ) (KS : KK → ℕ)

/-! ## Shares of a buffer -/

/-- A buffer's elements in two halves. -/
theorem holds_split {sp : Space} {s : Shape} {e : EltTy} (c : Dev nD) (M : Memref sig .tc sp s e) (v : s.Idx → Elt F e) :
    (holds c M fullShare v : sProp 𝕄) ⊢ iprop(holds c M fullShare.left v ∗ holds c M fullShare.right v) := by
  unfold holds
  iintro ⟨%f, %hf, H⟩
  ihave H2 := (pointsTo_share (PosShare.mem_left_op_right fullShare)).1 $$ H
  icases H2 with ⟨H1, H2⟩
  isplitl [H1]
  · iexists f; isplitr; · ipureintro; exact hf
    iexact H1
  · iexists f; isplitr; · ipureintro; exact hf
    iexact H2

/-- The halves together again. -/
theorem holds_join {sp : Space} {s : Shape} {e : EltTy} (c : Dev nD) (M : Memref sig .tc sp s e) (v : s.Idx → Elt F e) :
    iprop(holds c M fullShare.left v ∗ holds c M fullShare.right v) ⊢ (holds c M fullShare v : sProp 𝕄) := by
  unfold holds
  iintro ⟨⟨%f, %hf, H1⟩, ⟨%g, %hg, H2⟩⟩
  have hfg : ∀ i ∈ M.view.set, g i = f i := by
    intro i hi
    obtain ⟨x, -, rfl⟩ := Finset.mem_map.mp hi
    have h1 := congrFun (hf.trans hg.symm) x
    exact View.eq_of_read_eq h1.symm
  have hcv : (M.view.loc (c : Thread nD τ) ↦[M.view.set]{fullShare.right} g : sProp 𝕄) ⊢ (M.view.loc (c : Thread nD τ) ↦[M.view.set]{fullShare.right} f) := by
    rw [pointsTo_congr (f := g) (g := f) hfg]
  ihave H2 := hcv $$ H2
  iexists f
  isplitr; · ipureintro; exact hf
  iapply (pointsTo_share (PosShare.mem_left_op_right fullShare)).2
  isplitl [H1]; · iexact H1
  iexact H2

/-- What comes back from the copy of a step of the first half: the accumulator at half its share. -/
theorem srcRes_acc (c : Dev nD) (b : Bool) {u : ℕ} (h : u ≤ 31) : srcRes pv c b u = holds c (accM b) fullShare.left (msg pv b u c) := by
  unfold srcRes; rw [if_pos h]
/-- Likewise of the second half: the slot received before. -/
theorem srcRes_slot (c : Dev nD) (b : Bool) {u : ℕ} (h : 31 < u) : srcRes pv c b u = holds c (slotM b (sl (u + 1))) fullShare (msg pv b u c) := by
  unfold srcRes; rw [if_neg (by omega)]

/-! ## Tokens -/

/-- The semaphores of the copies into the chunk buffer, and out of the result buffer. -/
def lsem : Bool → DmaSem sig
  | true => cc0_scratch12.sem
  | false => cc0_scratch13.sem
/-- The semaphore of a direction's copies into the result. -/
def osem : Bool → DmaSem sig
  | true => cc0_scratch14.sem
  | false => cc0_scratch15.sem

/-- What a core spends in step `u` of a direction. -/
def stepTok (c : Dev nD) (b : Bool) (u : ℕ) : sProp 𝕄 :=
  iprop(dutyTok ER (sendCell c b (sl u)) (u / 2) 0 ∗ dutyTok ER (recvCell (nx b c) b (sl u)) (u / 2) 0
    ∗ writeTok ES (nx b c, b, sl u) (u / 2 + 1) ∗ cred (tallyAt (credCell c b) (lc u) 1)
    ∗ cred (tallyAt (recvCell c b (sl u)) (la u) N)
    ∗ (if u = 31 then iprop(emp) else dutyTok ER (credCell (frm b c) b) 0 (kc u)))

/-- What a core spends in steps `u` and later of a direction. -/
def toks (c : Dev nD) (b : Bool) (u : ℕ) : sProp 𝕄 := bigSep (Finset.Ico u 62) (stepTok c b)

/-- That is the step's and those after it. -/
theorem toks_succ (c : Dev nD) (b : Bool) {u : ℕ} (h : u < 62) : (toks c b u : sProp 𝕄) = iprop(stepTok c b u ∗ toks c b (u + 1)) := by
  unfold toks
  rw [← Finset.insert_Ico_add_one_left_eq_Ico h, bigSep_insert (by simp)]
  rfl

/-- After the last step nothing is left to spend. -/
theorem toks_end (c : Dev nD) (b : Bool) : (toks c b 62 : sProp 𝕄) = iprop(emp) := by
  unfold toks; rw [Finset.Ico_self, bigSep_empty]; rfl

/-- What a core knows throughout. -/
def Kn (c : Dev nD) : sProp 𝕄 :=
  iprop(Inv pv K KS ∗ reached ER (credCell (frm true c) true) 0 ∗ reached ER (credCell (frm false c) false) 0)

instance Kn_persistent (c : Dev nD) : BI.Persistent (Kn pv K KS c) := by unfold Kn; infer_instance

/-! ## States -/

/-- Before step `u` of a direction: the credits, the positions of the send and the receive cells, the tokens to come. -/
def ringSt (c : Dev nD) (b : Bool) (u : ℕ) : sProp 𝕄 :=
  iprop(credSt pv c b u ∗ posAt (sendCell c b (sl u)) (u / 2) ∗ posAt (sendCell c b (sl (u + 1))) ((u + 1) / 2)
    ∗ posAt (recvCell c b (sl u)) (u / 2) ∗ posAt (recvCell c b (sl (u + 1))) ((u + 1) / 2) ∗ toks c b u)

/-- Before step `u` of the first half: both slots are given away, the accumulator holds the message. -/
def rsSt (c : Dev nD) (b : Bool) (u : ℕ) : sProp 𝕄 :=
  iprop(ringSt pv c b u ∗ readerAt ES (c, b, sl u) (u / 2 + 1) ∗ readerAt ES (c, b, sl (u + 1)) ((u + 1) / 2 + 1)
    ∗ relFacts c b (u + 1) ∗ holds c (accM b) fullShare (msg pv b u c)
    ∗ anyOf c (lbufM b) ∗ pRes pv c b ∗ semVal ((c : Thread nD τ), .dma (lsem b)) 0)

/-- The slot that step `u` fills: given away, or after the last step at hand. -/
def restSlot (c : Dev nD) (b : Bool) (u : ℕ) : sProp 𝕄 :=
  if u < 62 then readerAt ES (c, b, sl u) (u / 2 + 1) else anyOf c (slotM b (sl u))

/-- Before step `u` of the second half: the slot received before holds the message. -/
def agSt (c : Dev nD) (b : Bool) (u : ℕ) : sProp 𝕄 :=
  iprop(ringSt pv c b u ∗ restSlot c b u ∗ readerAt ES (c, b, sl (u + 1)) ((u + 1) / 2)
    ∗ relFacts c b u ∗ holds c (slotM b (sl (u + 1))) fullShare (msg pv b u c))

/-- A cell's position, put together. -/
theorem posAt_intro (g : GSem nD τ sig) (r : ℕ) : iprop(atPos ER g r ∅ 0 ∗ reached ER g r) ⊢ (posAt g r : sProp 𝕄) := by
  unfold posAt; exact BI.Entails.refl _

/-- A cell's position, taken apart. -/
theorem posAt_elim (g : GSem nD τ sig) (r : ℕ) : (posAt g r : sProp 𝕄) ⊢ iprop(atPos ER g r ∅ 0 ∗ reached ER g r) := by
  unfold posAt; exact BI.Entails.refl _

/-- A buffer's value may be replaced by an equal one. -/
theorem holds_of_eq (c : Dev nD) {sp : Space} {s : Shape} {e : EltTy} (M : Memref sig .tc sp s e) {q : PosShare TreeShare}
    {v w : s.Idx → Elt F e} (h : v = w) : (holds c M q v : sProp 𝕄) ⊢ holds c M q w := by rw [h]

/-- Up to step 31 the source of a step's copy is half of the accumulator. -/
theorem srcRes_acc_out (c : Dev nD) (b : Bool) {u : ℕ} (h : u ≤ 31) : srcRes pv c b u ⊢ holds c (accM b) fullShare.left (msg pv b u c) := by
  rw [srcRes_acc pv c b h]

/-- After that it is the slot that the message came in. -/
theorem srcRes_slot_out (c : Dev nD) (b : Bool) {u : ℕ} (h : 31 < u) :
    srcRes pv c b u ⊢ holds c (slotM b (sl (u + 1))) fullShare (msg pv b u c) := by
  rw [srcRes_slot pv c b h]

/-- A copy into or out of a slot, as the program addresses it, counts for the same. -/
theorem slotw_credit (b : Bool) {off : Fin 3 → ℕ} {h : ∀ i, off i + S1x128x4096.size i ≤ S2x128x4096.size i} {hs} :
    (((commM b).slice (Rect.unit (s := S2x128x4096) off S1x128x4096.size h) hs).squeeze S128x4096 squeezes_S1x128x4096_S128x4096).view.dmaCredit = N := by
  cases b <;> rfl

/-- A buffer may be named by an equal view. -/
theorem holds_memref (c : Dev nD) {sp : Space} {s : Shape} {e : EltTy} {M M' : Memref sig .tc sp s e} (h : M = M') {q : PosShare TreeShare}
    {v : s.Idx → Elt F e} : (holds c M q v : sProp 𝕄) ⊢ holds c M' q v := by subst h; exact BI.Entails.refl _

/-- Two steps on, the slot is the same. -/
theorem sl_add2 (u : ℕ) : sl (u + 2) = sl u := Fin.ext (by show (u + 2) % 2 = u % 2; omega)
/-- Two steps on, the round is the next. -/
theorem div_add2 (u : ℕ) : (u + 2) / 2 = u / 2 + 1 := by omega

/-- In the first half the slot just read is released for the step after the next. -/
theorem release_rs {c : Dev nD} (b : Bool) (u : ℕ) (v : Chunk F) :
    iprop(Inv pv K KS ∗ holds c (slotM b (sl u)) fullShare v ∗ readerAt ES (c, b, sl u) (u / 2 + 1) ∗ relFacts c b (u + 1)
        ∗ posAt (recvCell c b (sl (u + 2))) ((u + 2) / 2))
      ⊢ (|={Set.univ}=> (readerAt ES (c, b, sl (u + 2)) ((u + 2) / 2 + 1) ∗ relFacts c b (u + 2)
          ∗ posAt (recvCell c b (sl (u + 2))) ((u + 2) / 2)) : sProp 𝕄) := by
  unfold posAt
  iintro ⟨#HI, Hs, Hr, #Hf, Hat, #Hre⟩
  imod (release_slot pv K KS b (u + 2)) $$ [Hs Hr] with ⟨Hr, #Hf'⟩
  · isplitr; · iexact HI
    rw [sl_add2, div_add2]
    isplitl [Hs]; · iapply (holds_any c (slotM b (sl u)) v); iexact Hs
    isplitl [Hr]; · iexact Hr
    isplitr; · iexact Hf
    rw [← sl_add2 u, ← div_add2]; iexact Hre
  imodintro
  isplitl [Hr]; · iexact Hr
  isplitr; · iexact Hf'
  isplitl [Hat]; · iexact Hat
  iexact Hre

/-- In the second half the slot just sent from is released for the next step; after the last it is kept. -/
theorem release_ag {c : Dev nD} (b : Bool) {u : ℕ} (hu : u < 62) (v : Chunk F) :
    iprop(Inv pv K KS ∗ holds c (slotM b (sl (u + 1))) fullShare v ∗ readerAt ES (c, b, sl (u + 1)) ((u + 1) / 2) ∗ relFacts c b u
        ∗ posAt (recvCell c b (sl (u + 1))) ((u + 1) / 2))
      ⊢ (|={Set.univ}=> (restSlot c b (u + 1) ∗ relFacts c b (u + 1)
          ∗ posAt (recvCell c b (sl (u + 1))) ((u + 1) / 2)) : sProp 𝕄) := by
  unfold posAt restSlot
  by_cases h : u + 1 < 62
  · rw [if_pos h]
    iintro ⟨#HI, Hs, Hr, #Hf, Hat, #Hre⟩
    imod (release_slot pv K KS b (u + 1)) $$ [Hs Hr] with ⟨Hr, #Hf'⟩
    · isplitr; · iexact HI
      isplitl [Hs]; · iapply (holds_any c (slotM b (sl (u + 1))) v); iexact Hs
      isplitl [Hr]; · iexact Hr
      isplitr; · iexact Hf
      iexact Hre
    imodintro
    isplitl [Hr]; · iexact Hr
    isplitr; · iexact Hf'
    isplitl [Hat]; · iexact Hat
    iexact Hre
  · rw [if_neg h]
    have e : u = 61 := by omega
    subst e
    iintro ⟨#HI, Hs, Hr, #Hf, Hat, #Hre⟩
    imodintro
    isplitl [Hs]; · iapply (holds_any c (slotM b (sl (61 + 1))) v); iexact Hs
    isplitr; · iexact Hf
    isplitl [Hat]; · iexact Hat
    iexact Hre

/-- At the start a direction's two slots are released. -/
theorem release_first {c : Dev nD} (b : Bool) :
    iprop(Inv pv K KS ∗ anyOf c (slotM b 0) ∗ anyOf c (slotM b 1) ∗ readerAt ES (c, b, 0) 0 ∗ readerAt ES (c, b, 1) 0
        ∗ posAt (recvCell c b 0) 0 ∗ posAt (recvCell c b 1) 0)
      ⊢ (|={Set.univ}=> (readerAt ES (c, b, 0) 1 ∗ readerAt ES (c, b, 1) 1 ∗ relFacts c b 1
          ∗ posAt (recvCell c b 0) 0 ∗ posAt (recvCell c b 1) 0) : sProp 𝕄) := by
  unfold posAt
  iintro ⟨#HI, Hs0, Hs1, Hr0, Hr1, ⟨Hat0, #Hre0⟩, Hat1, #Hre1⟩
  ihave #Hsl := (Inv_slot pv K KS (c, b, (0 : Fin 2))) $$ HI
  imod (Release.slot_release ES (Set.mem_univ (KS (c, b, (0 : Fin 2)))) (slotRes_excl (c, b, (0 : Fin 2))) 0) $$ [Hs0 Hr0] with ⟨Hr0, #Hw0⟩
  · isplitr; · iexact Hsl
    isplitl [Hr0]; · iexact Hr0
    unfold slotRes; iexact Hs0
  have h0 : iprop(released ES (c, b, (0 : Fin 2)) 1 ∗ reached ER (recvCell c b 0) 0) ⊢ (relFacts c b 0 : sProp 𝕄) := by
    unfold relFacts
    rw [show min 0 61 + 1 = 0 + 1 from rfl, Finset.range_one, bigSep_singleton]
    exact BI.Entails.refl _
  imod (release_slot pv K KS b 1) $$ [Hs1 Hr1] with ⟨Hr1, #Hf1⟩
  · isplitr; · iexact HI
    isplitl [Hs1]; · iexact Hs1
    isplitl [Hr1]; · iexact Hr1
    isplitr
    · iapply h0; isplitr; · iexact Hw0
      iexact Hre0
    iexact Hre1
  imodintro
  isplitl [Hr0]; · iexact Hr0
  isplitl [Hr1]; · iexact Hr1
  isplitr; · iexact Hf1
  isplitl [Hat0]; · isplitl [Hat0]; · iexact Hat0
                    iexact Hre0
  isplitl [Hat1]; · iexact Hat1
  iexact Hre1

/-! ## What is owed, one step at a time -/

/-- What a device owes before a step's arrival is what it owes after, and that arrival. -/
theorem own_A (c : Dev nD) {i : ℕ} (h : i < 62) (j i' j' : ℕ) : own c i j i' j' = own c (i + 1) j i' j' + tA true c i := by
  unfold own; rw [oA_succ true c h]; abel
/-- The same for a credit. -/
theorem own_C (c : Dev nD) {j : ℕ} (h : j < 62) (i i' j' : ℕ) : own c i j i' j' = own c i (j + 1) i' j' + tC true c j := by
  unfold own; rw [oC_succ true c h]; abel
/-- The same for an arrival of the other direction. -/
theorem own_A' (c : Dev nD) {i' : ℕ} (h : i' < 62) (i j j' : ℕ) : own c i j i' j' = own c i j (i' + 1) j' + tA false c i' := by
  unfold own; rw [oA_succ false c h]; abel
/-- The same for a credit of the other direction. -/
theorem own_C' (c : Dev nD) {j' : ℕ} (h : j' < 62) (i j i' : ℕ) : own c i j i' j' = own c i j i' (j' + 1) + tC false c j' := by
  unfold own; rw [oC_succ false c h]; abel
/-- Step 31 owes no credit, in either direction. -/
theorem own_31 (c : Dev nD) : own c 32 31 32 31 = own c 32 32 32 32 := by
  unfold own; rw [oC_31, oC_31]
/-- After all steps nothing is owed. -/
theorem own_end (c : Dev nD) : own c 62 62 62 62 = 0 := by
  unfold own; rw [oA_end, oC_end, oA_end, oC_end]; simp

/-! ## The kernel's functions of what it loads -/

/-- What the first loop stores in one direction is the sum of what came and the device's own chunk. -/
theorem pay2_eq {w : Vec F S1x128x4096 .bf16} {v : Chunk F} (h : shapeCast S128x4096 w shapeCasts_S1x128x4096_S128x4096 = v) (l : Chunk F) :
    k0_pay2 w l = addC v l := by
  subst h; unfold k0_pay2 addC; exact shapeCast_self _ _
/-- The same in the other direction. -/
theorem pay5_eq {w : Vec F S1x128x4096 .bf16} {v : Chunk F} (h : shapeCast S128x4096 w shapeCasts_S1x128x4096_S128x4096 = v) (l : Chunk F) :
    k0_pay5 w l = addC v l := by
  subst h; unfold k0_pay5 addC; exact shapeCast_self _ _
/-- What is stored for the result of a finished chunk is the kernel's function of it. -/
theorem pay7_eq (v : Chunk F) : k0_pay7 v = epiC v := rfl
/-- The same out of a slot. -/
theorem pay1_eq {w : Vec F S1x128x4096 .bf16} {v : Chunk F} (h : shapeCast S128x4096 w shapeCasts_S1x128x4096_S128x4096 = v) :
    k0_pay1 w = epiC v := by subst h; rfl
/-- The same out of a slot. -/
theorem pay3_eq {w : Vec F S1x128x4096 .bf16} {v : Chunk F} (h : shapeCast S128x4096 w shapeCasts_S1x128x4096_S128x4096 = v) :
    k0_pay3 w = epiC v := by subst h; rfl
/-- The same out of a slot. -/
theorem pay4_eq {w : Vec F S1x128x4096 .bf16} {v : Chunk F} (h : shapeCast S128x4096 w shapeCasts_S1x128x4096_S128x4096 = v) :
    k0_pay4 w = epiC v := by subst h; rfl
/-- The same out of a slot. -/
theorem pay8_eq {w : Vec F S1x128x4096 .bf16} {v : Chunk F} (h : shapeCast S128x4096 w shapeCasts_S1x128x4096_S128x4096 = v) :
    k0_pay8 w = epiC v := by subst h; rfl

/-- A copy into the buffer for the device's own chunk counts for as much as a remote copy. -/
theorem lbuf_credit (b : Bool) : (lbufM b).view.dmaCredit = N := by cases b <;> rfl

end Cert.KernelIdeal.Proofs

end
-- ==== Proof.KernelIdeal.Trip1.lean ====
/-
  One trip of the first loop: a step of both directions' reduce-scatter.
-/
module

public import proofs.«01_k».proof.Proof.KernelIdeal.State

@[expose] public section

noncomputable section

namespace Cert.KernelIdeal.Proofs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (released readerAt writeTok slotInv USlots)

variable {F : FTy → Type} [FloatOps F]

local notation "𝕄" => MT nD τ sig ℕ (Elt F) ℕ UU ℕ

variable (pv : Dev nD → main_v25.ty.Contents (Elt F)) (K : Dev nD × Kd → ℕ) (KS : KK → ℕ)

/-- The invariant of the first loop. -/
def inv1 (c : Dev nD) (u : ℕ) : sProp 𝕄 :=
  iprop(Kn pv K KS c ∗ rsSt pv c true u ∗ rsSt pv c false u ∗ owesE c (own c u u u u))

set_option maxHeartbeats 4000000 in
set_option maxRecDepth 16384 in
/-- A trip of the first loop. -/
theorem trip1 (c : Dev nD) (arg0 : Memref sig .tc .smem S3 .i32) (harg0 : arg0.IsWhole) (harg1 : pM.IsWhole) (harg2 : oM.IsWhole) (harg3 : (commM true).IsWhole) (harg4 : (commM false).IsWhole) (harg5 : (accM true).IsWhole) (harg6 : (accM false).IsWhole) (harg7 : (lbufM true).IsWhole) (harg8 : (lbufM false).IsWhole) (harg9 : (obufM true).IsWhole) (harg10 : (obufM false).IsWhole)
    (hw3 : k0_chk3 (wd (pos c))) (hw2 : k0_chk2 (wd (rgt c))) (hw1 : k0_chk1 (wd (lft c))) (t : Fin k0_t1_loop.trips) :
    inv1 pv K KS c t.val ⊢ wp frame (wpE (defs₀ (F := F)) 𝒱₀ (c : Thread nD τ) none) Set.univ (k0_t1_body (F := F) arg0 harg0 pM harg1 oM harg2 (commM true) harg3 (commM false) harg4 (accM true) harg5 (accM false) harg6 (lbufM true) harg7 (lbufM false) harg8 (obufM true) harg9 (obufM false) harg10 cc0_scratch8 cc0_scratch9 cc0_scratch10 cc0_scratch11 cc0_scratch12 cc0_scratch13 cc0_scratch14 cc0_scratch15 cc0_scratch16 cc0_scratch17 (wd (pos c)) hw3 (wd (rgt c)) hw2 (wd (lft c)) hw1 t ()) fun _ => inv1 pv K KS c (t.val + 1) := by
  have ht : t.val < 31 := t.isLt
  have hu : t.val < 62 := by omega
  have hkc : kc t.val = t.val + 2 := by unfold kc; rw [if_pos ht]
  unfold k0_t1_body
  simp only [k0_part1_eq_skeleton, k0_part2_eq_skeleton]
  unfold k0_part1_skel k0_part2_skel
  simp only [semSignalWord, semWaitWord, Prog.lift, Prog.bind_op, Prog.bind_ret, Prog.pure_eq_ret, wp_deviceId]
  unfold inv1 Kn rsSt ringSt
  rw [toks_succ c true hu, toks_succ c false hu]
  unfold stepTok
  simp only [if_neg (show ¬ t.val = 31 by omega)]
  iintro ⟨⟨#HI, #HgR, #HgL⟩, ⟨⟨HcsR, HsaR, HsbR, HraR, HrbR, ⟨HtSR, HtVR, HtWR, HcCR, HcVR, HtCR⟩, HtkR⟩, HdaR, HdbR, #HrfR, HacR, HlbR, HpR, HlsR⟩, ⟨⟨HcsL, HsaL, HsbL, HraL, HrbL, ⟨HtSL, HtVL, HtWL, HcCL, HcVL, HtCL⟩, HtkL⟩, HdaL, HdbL, #HrfL, HacL, HlbL, HpL, HlsL⟩, HO⟩
  iapply (wp_fetch pv true (ck true (pos c) (t.val + 1)) (pSl_of true _ (off3_wd (pos c) t) _ _) (dst := lbufM true) (lbuf_credit true) N_pos) $$ [HpR HlbR HlsR]
  · isplitl [HpR]; · iexact HpR
    isplitl [HlbR]; · iexact HlbR
    iexact HlsR
  iintro HflR
  iapply (wp_fetch pv false (ck false (pos c) (t.val + 1)) (pSl_of false _ (off4_wd (pos c) t) _ _) (dst := lbufM false) (lbuf_credit false) N_pos) $$ [HpL HlbL HlsL]
  · isplitl [HpL]; · iexact HpL
    isplitl [HlbL]; · iexact HlbL
    iexact HlsL
  iintro HflL
  iapply (wp_credit pv K KS true hu (above_own c (i := t.val) (j := t.val) (i' := t.val) (j' := t.val) (by unfold lc; split <;> omega) (by unfold lc; split <;> omega) (by unfold lc; split <;> omega) (by unfold lc; split <;> omega)) rfl rfl) $$ [HcsR HcCR HO]
  · isplitr; · iexact HI
    isplitl [HcsR]; · iexact HcsR
    isplitl [HcCR]; · iexact HcCR
    iexact HO
  iintro ⟨HcsR, #HwR, HO⟩
  iapply (wp_credit pv K KS false hu (above_own c (i := t.val) (j := t.val) (i' := t.val) (j' := t.val) (by unfold lc; split <;> omega) (by unfold lc; split <;> omega) (by unfold lc; split <;> omega) (by unfold lc; split <;> omega)) rfl rfl) $$ [HcsL HcCL HO]
  · isplitr; · iexact HI
    isplitl [HcsL]; · iexact HcsL
    isplitl [HcCL]; · iexact HcCL
    iexact HO
  iintro ⟨HcsL, #HwL, HO⟩
  ihave Hac2 := (holds_split c (accM true) _) $$ HacR
  icases Hac2 with ⟨HacR, HbcR⟩
  ihave HsaR := (posAt_elim _ _) $$ HsaR
  icases HsaR with ⟨HsaR, #HsrR⟩
  iapply (wp_msg pv K KS true hu (own_A c hu _ _ _) fullShare.left (by rw [srcRes_acc pv c true (by omega)]) (slot_of true _ (off6_sl t) _ _ _) (dev_mk _ (dev3_wd _)) (sendSemR_of _ (off5_sl t) _) (recvSemR_of _ (off5_sl t) _)) $$ [HacR HtWR HtSR HtVR HO]
  · isplitr; · iexact HI
    isplitl [HacR]; · iexact HacR
    isplitr; · iexact HwR
    isplitl [HtWR]; · iexact HtWR
    isplitl [HtSR]; · iexact HtSR
    isplitr; · iexact HsrR
    isplitl [HtVR]; · iexact HtVR
    iexact HO
  iintro ⟨HcSR, HO⟩
  ihave HsaR := (posAt_intro _ _) $$ [HsaR]
  · isplitl [HsaR]; · iexact HsaR
    iexact HsrR
  ihave Hac2 := (holds_split c (accM false) _) $$ HacL
  icases Hac2 with ⟨HacL, HbcL⟩
  ihave HsaL := (posAt_elim _ _) $$ HsaL
  icases HsaL with ⟨HsaL, #HsrL⟩
  iapply (wp_msg pv K KS false hu (own_A' c hu _ _ _) fullShare.left (by rw [srcRes_acc pv c false (by omega)]) (slot_of false _ (off6_sl t) _ _ _) (dev_mk _ (dev4_wd _)) (sendSemL_of _ (off5_sl t) _) (recvSemL_of _ (off5_sl t) _)) $$ [HacL HtWL HtSL HtVL HO]
  · isplitr; · iexact HI
    isplitl [HacL]; · iexact HacL
    isplitr; · iexact HwL
    isplitl [HtWL]; · iexact HtWL
    isplitl [HtSL]; · iexact HtSL
    isplitr; · iexact HsrL
    isplitl [HtVL]; · iexact HtVL
    iexact HO
  iintro ⟨HcSL, HO⟩
  ihave HsaL := (posAt_intro _ _) $$ [HsaL]
  · isplitl [HsaL]; · iexact HsaL
    iexact HsrL
  iapply (wp_sent pv K KS true hu (above_own c (i := t.val + 1) (j := t.val) (i' := t.val + 1) (j' := t.val) (by omega) (by omega) (by omega) (by omega)) (sendSemR_of _ (off5_sl t) _) (acc_credit true)) $$ [HsaR HcSR HO]
  · isplitr; · iexact HI
    isplitl [HsaR]; · iexact HsaR
    isplitl [HcSR]; · iexact HcSR
    iexact HO
  iintro ⟨HsaR, HacR, HO⟩
  ihave HacR := (srcRes_acc_out pv c true (show t.val ≤ 31 by omega)) $$ HacR
  ihave HacR := (holds_join c (accM true) _) $$ [HacR HbcR]
  · isplitl [HacR]; · iexact HacR
    iexact HbcR
  iapply (wp_got pv K KS true hu (above_own c (i := t.val + 1) (j := t.val) (i' := t.val + 1) (j' := t.val) (by unfold la; omega) (by unfold la; omega) (by unfold la; omega) (by unfold la; omega)) (recvSemR_of _ (off5_sl t) _) (slotw_credit true)) $$ [HraR HcVR HO]
  · isplitr; · iexact HI
    isplitl [HraR]; · iexact HraR
    isplitl [HcVR]; · iexact HcVR
    iexact HO
  iintro ⟨HraR, HstR, HO⟩
  iapply (wp_landed pv K KS (above_own c (i := t.val + 1) (j := t.val) (i' := t.val + 1) (j' := t.val) (by omega) (by omega) (by omega) (by omega)) (lbuf_credit true)) $$ [HflR HO]
  · isplitr; · iexact HI
    isplitl [HflR]; · iexact HflR
    iexact HO
  iintro ⟨⟨HlbR, HpR⟩, HlsR, HO⟩
  iapply (wp_ld_slot true (sl t.val) _ (off7_sl t)) $$ HstR
  iintro %wR %hwR HstR
  iapply (wp_ld_lbuf true fullShare _) $$ HlbR
  iintro HlbR
  iapply (wp_ld_acc true fullShare _) $$ HacR
  iintro HacR
  ihave HacR := (holds_any c (accM true) _) $$ HacR
  iapply (wp_st_acc true _) $$ HacR
  iintro HacR
  ihave HacR := (holds_of_eq c (accM true) ((pay2_eq hwR _).trans (msg_add pv true ht c).symm)) $$ HacR
  iapply (wp_sent pv K KS false hu (above_own c (i := t.val + 1) (j := t.val) (i' := t.val + 1) (j' := t.val) (by omega) (by omega) (by omega) (by omega)) (sendSemL_of _ (off5_sl t) _) (acc_credit false)) $$ [HsaL HcSL HO]
  · isplitr; · iexact HI
    isplitl [HsaL]; · iexact HsaL
    isplitl [HcSL]; · iexact HcSL
    iexact HO
  iintro ⟨HsaL, HacL, HO⟩
  ihave HacL := (srcRes_acc_out pv c false (show t.val ≤ 31 by omega)) $$ HacL
  ihave HacL := (holds_join c (accM false) _) $$ [HacL HbcL]
  · isplitl [HacL]; · iexact HacL
    iexact HbcL
  iapply (wp_got pv K KS false hu (above_own c (i := t.val + 1) (j := t.val) (i' := t.val + 1) (j' := t.val) (by unfold la; omega) (by unfold la; omega) (by unfold la; omega) (by unfold la; omega)) (recvSemL_of _ (off5_sl t) _) (slotw_credit false)) $$ [HraL HcVL HO]
  · isplitr; · iexact HI
    isplitl [HraL]; · iexact HraL
    isplitl [HcVL]; · iexact HcVL
    iexact HO
  iintro ⟨HraL, HstL, HO⟩
  iapply (wp_landed pv K KS (above_own c (i := t.val + 1) (j := t.val) (i' := t.val + 1) (j' := t.val) (by omega) (by omega) (by omega) (by omega)) (lbuf_credit false)) $$ [HflL HO]
  · isplitr; · iexact HI
    isplitl [HflL]; · iexact HflL
    iexact HO
  iintro ⟨⟨HlbL, HpL⟩, HlsL, HO⟩
  iapply (wp_ld_slot false (sl t.val) _ (off7_sl t)) $$ HstL
  iintro %wL %hwL HstL
  iapply (wp_ld_lbuf false fullShare _) $$ HlbL
  iintro HlbL
  iapply (wp_ld_acc false fullShare _) $$ HacL
  iintro HacL
  ihave HacL := (holds_any c (accM false) _) $$ HacL
  iapply (wp_st_acc false _) $$ HacL
  iintro HacL
  ihave HacL := (holds_of_eq c (accM false) ((pay5_eq hwL _).trans (msg_add pv false ht c).symm)) $$ HacL
  imod (release_rs pv K KS true t.val _) $$ [HstR HdaR HraR] with ⟨HdaR, #HrgR, HraR⟩
  · isplitr; · iexact HI
    isplitl [HstR]; · iexact HstR
    isplitl [HdaR]; · iexact HdaR
    isplitr; · iexact HrfR
    iexact HraR
  imod (release_rs pv K KS false t.val _) $$ [HstL HdaL HraL] with ⟨HdaL, #HrgL, HraL⟩
  · isplitr; · iexact HI
    isplitl [HstL]; · iexact HstL
    isplitl [HdaL]; · iexact HdaL
    isplitr; · iexact HrfL
    iexact HraL
  have hkR : (relFacts c true (t.val + 2) : sProp 𝕄) ⊢ relFacts c true (kc t.val) := by rw [hkc]
  ihave #HrkR := hkR $$ HrgR
  iapply (wp_give pv K KS true hu (by omega) (own_C c hu _ _ _) (dev_mk _ (dev5_wd _)) rfl rfl) $$ [HtCR HO]
  · isplitr; · iexact HI
    isplitr; · iexact HrkR
    isplitl [HtCR]; · iexact HtCR
    isplitr; · iexact HgR
    iexact HO
  iintro HO
  have hkL : (relFacts c false (t.val + 2) : sProp 𝕄) ⊢ relFacts c false (kc t.val) := by rw [hkc]
  ihave #HrkL := hkL $$ HrgL
  iapply (wp_give pv K KS false hu (by omega) (own_C' c hu _ _ _) (dev_mk _ (dev6_wd _)) rfl rfl) $$ [HtCL HO]
  · isplitr; · iexact HI
    isplitr; · iexact HrkL
    isplitl [HtCL]; · iexact HtCL
    isplitr; · iexact HgL
    iexact HO
  iintro HO
  rw [wp_ret]
  imodintro
  isplitr
  · isplitr; · iexact HI
    isplitr; · iexact HgR
    iexact HgL
  isplitl [HcsR HsaR HsbR HraR HrbR HtkR HdbR HdaR HacR HlbR HpR HlsR]
  · isplitl [HcsR HsaR HsbR HraR HrbR HtkR]
    · isplitl [HcsR]; · iexact HcsR
      isplitl [HsbR]; · iexact HsbR
      isplitl [HsaR]; · iexact HsaR
      isplitl [HrbR]; · iexact HrbR
      isplitl [HraR]; · iexact HraR
      iexact HtkR
    isplitl [HdbR]; · iexact HdbR
    isplitl [HdaR]; · iexact HdaR
    isplitr; · iexact HrgR
    isplitl [HacR]; · iexact HacR
    isplitl [HlbR]; · iapply (holds_any c (lbufM true) _); iexact HlbR
    isplitl [HpR]; · iexact HpR
    iexact HlsR
  isplitl [HcsL HsaL HsbL HraL HrbL HtkL HdbL HdaL HacL HlbL HpL HlsL]
  · isplitl [HcsL HsaL HsbL HraL HrbL HtkL]
    · isplitl [HcsL]; · iexact HcsL
      isplitl [HsbL]; · iexact HsbL
      isplitl [HsaL]; · iexact HsaL
      isplitl [HrbL]; · iexact HrbL
      isplitl [HraL]; · iexact HraL
      iexact HtkL
    isplitl [HdbL]; · iexact HdbL
    isplitl [HdaL]; · iexact HdaL
    isplitr; · iexact HrgL
    isplitl [HacL]; · iexact HacL
    isplitl [HlbL]; · iapply (holds_any c (lbufM false) _); iexact HlbL
    isplitl [HpL]; · iexact HpL
    iexact HlsL
  iexact HO

end Cert.KernelIdeal.Proofs

end
-- ==== Proof.KernelIdeal.Done.lean ====
/-
  Which chunks of the result are written, and whose sums they are.
-/
module

public import proofs.«01_k».proof.Proof.KernelIdeal.State

@[expose] public section

noncomputable section

namespace Cert.KernelIdeal.Proofs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (released readerAt writeTok slotInv USlots)

variable {F : FTy → Type} [FloatOps F]

local notation "𝕄" => MT nD τ sig ℕ (Elt F) ℕ UU ℕ

variable (pv : Dev nD → main_v25.ty.Contents (Elt F)) (K : Dev nD × Kd → ℕ) (KS : KK → ℕ)

/-- The chunks written of direction `b`'s half: the device's own, and the first `n` received. -/
def Dn (r : Fin 32) (n : ℕ) (b : Bool) (j : Fin 32) : Prop := j = ck b r 31 ∨ ∃ k, k < n ∧ j = ck b r k

/-- The number of the chunk that a position handles in a step. -/
theorem ck_val (b : Bool) (r : Fin 32) (u : ℕ) : (ck b r u).val = if b then (r.val + 64 - u % 64) % 32 else (r.val + u) % 32 := rfl

/-- In the end all of them are. -/
theorem Dn_all (r : Fin 32) (b : Bool) (j : Fin 32) : Dn r 31 b j := by
  have hj := j.isLt
  have hr := r.isLt
  by_cases h : j = ck b r 31
  · exact Or.inl h
  · refine Or.inr ?_
    cases b
    · refine ⟨(j.val + 32 - r.val) % 32, ?_, Fin.ext ?_⟩
      · have hn : j.val ≠ (ck false r 31).val := fun e => h (Fin.ext e)
        rw [ck_val] at hn
        simp only [Bool.false_eq_true, if_false] at hn
        omega
      · rw [ck_val]; simp only [Bool.false_eq_true, if_false]; omega
    · refine ⟨(r.val + 32 - j.val) % 32, ?_, Fin.ext ?_⟩
      · have hn : j.val ≠ (ck true r 31).val := fun e => h (Fin.ext e)
        rw [ck_val] at hn
        simp only [if_true] at hn
        omega
      · rw [ck_val]; simp only [if_true]; omega

/-- One more chunk done is the one of the step, or was done before. -/
theorem Dn_succ {r : Fin 32} {n : ℕ} {b : Bool} {j : Fin 32} (h : Dn r (n + 1) b j) : Dn r n b j ∨ j = ck b r n := by
  rcases h with h | ⟨k, hk, h⟩
  · exact Or.inl (Or.inl h)
  · rcases Nat.lt_succ_iff_lt_or_eq.mp hk with hk | rfl
    · exact Or.inl (Or.inr ⟨k, hk, h⟩)
    · exact Or.inr h

/-- The device that the one at a position receives from. -/
theorem frm_dev (b : Bool) (r : Fin 32) : frm b (dev r) = dev (if b then r - 1 else r + 1) := by revert b r; decide

/-- A message of the second half is a finished sum. -/
theorem msg_iter (b : Bool) (k : ℕ) (c : Dev nD) : msg pv b (31 + k) c = msg pv b 31 ((frm b)^[k] c) := by
  induction k generalizing c with
  | zero => rfl
  | succ k ih => rw [← Nat.add_assoc, msg_fwd pv b (by omega), ih, Function.iterate_succ_apply]

/-- The chunk of the next step belongs to the device before. -/
theorem ownr_step (b : Bool) (r : Fin 32) {k : ℕ} (hk : k < 63) : ownr b (ck b r (k + 1)) = frm b (ownr b (ck b r k)) := by
  unfold ownr
  rw [frm_dev]
  refine congrArg dev ?_
  have hr := r.isLt
  have key : ck b r (k + 1) = if b then ck b r k - 1 else ck b r k + 1 := by
    cases b
    · simp only [Bool.false_eq_true, if_false]
      refine Fin.ext ?_
      rw [Fin.val_add, ck_val, ck_val]
      simp only [Bool.false_eq_true, if_false]
      show _ = (_ + 1) % 32
      omega
    · simp only [if_true]
      refine Fin.ext ?_
      rw [Fin.sub_def]
      show _ = (32 - 1 + (ck true r k).val) % 32
      rw [ck_val, ck_val]
      simp only [if_true]
      omega
  cases b
  · simp only [Bool.false_eq_true, if_false] at key ⊢; rw [key]
  · simp only [if_true] at key ⊢; rw [key]

/-- Whose sum the chunk received `k` steps into the second half is. -/
theorem ownr_ck (b : Bool) (c : Dev nD) {k : ℕ} (hk : k < 63) : ownr b (ck b (pos c) k) = (frm b)^[k + 1] c := by
  induction k with
  | zero => show _ = frm b c; revert b c; decide
  | succ k ih => exact (ownr_step b (pos c) (by omega)).trans ((congrArg (frm b) (ih (by omega))).trans (Function.iterate_succ_apply' (frm b) (k + 1) c).symm)

/-- The chunk received in step `31 + k`. -/
theorem got_out (b : Bool) (c : Dev nD) {u k : ℕ} (hk : k < 63) (hu : u = 31 + k) : msg pv b u (frm b c) = msg pv b 31 (ownr b (ck b (pos c) k)) := by
  subst hu
  rw [msg_iter, ownr_ck b c hk, Function.iterate_succ_apply]

/-- The device's own chunk. -/
theorem own_out (b : Bool) (c : Dev nD) : msg pv b 31 c = msg pv b 31 (ownr b (ck b (pos c) 31)) := by
  have h : ownr b (ck b (pos c) 31) = c := by revert b c; decide
  rw [h]

/-! ## From one step of the second half to the next -/

/-- After a step of the second half the slot is the reader's for two steps on. -/
theorem ag_reader (c : Dev nD) (b : Bool) {u : ℕ} (hu : u < 62) :
    (restSlot c b u : sProp 𝕄) ⊢ readerAt ES (c, b, sl (u + 2)) ((u + 2) / 2) := by
  unfold restSlot
  rw [if_pos hu, sl_add2, div_add2]

/-- A message forwarded lies where the step after next will look for it. -/
theorem ag_slot (c : Dev nD) (b : Bool) {u : ℕ} (hu : 31 ≤ u) :
    (holds c (slotM b (sl u)) fullShare (msg pv b u (frm b c)) : sProp 𝕄) ⊢ holds c (slotM b (sl (u + 2))) fullShare (msg pv b (u + 1) c) := by
  rw [sl_add2, msg_fwd pv b hu]

end Cert.KernelIdeal.Proofs

end
-- ==== Proof.KernelIdeal.Trip2.lean ====
/-
  One trip of the second loop: a step of both directions' all-gather, and its two chunks of the result.
-/
module

public import proofs.«01_k».proof.Proof.KernelIdeal.Done

@[expose] public section

noncomputable section

namespace Cert.KernelIdeal.Proofs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (released readerAt writeTok slotInv USlots)

variable {F : FTy → Type} [FloatOps F]

local notation "𝕄" => MT nD τ sig ℕ (Elt F) ℕ UU ℕ

variable (pv : Dev nD → main_v25.ty.Contents (Elt F)) (K : Dev nD × Kd → ℕ) (KS : KK → ℕ)

/-- The invariant of the second loop. -/
def inv2 (c : Dev nD) (u : ℕ) : sProp 𝕄 :=
  iprop(Kn pv K KS c ∗ agSt pv c true u ∗ agSt pv c false u ∗ anyOf c (obufM true) ∗ anyOf c (obufM false)
    ∗ outSt pv c (Dn (pos c) (u - 31)) ∗ semVal ((c : Thread nD τ), .dma (osem true)) 0 ∗ semVal ((c : Thread nD τ), .dma (osem false)) 0
    ∗ owesE c (own c u u u u))

set_option maxHeartbeats 4000000 in
set_option maxRecDepth 16384 in
/-- A trip of the second loop. -/
theorem trip2 (c : Dev nD) (arg0 : Memref sig .tc .smem S3 .i32) (harg0 : arg0.IsWhole) (harg1 : pM.IsWhole) (harg2 : oM.IsWhole) (harg3 : (commM true).IsWhole) (harg4 : (commM false).IsWhole) (harg5 : (accM true).IsWhole) (harg6 : (accM false).IsWhole) (harg7 : (lbufM true).IsWhole) (harg8 : (lbufM false).IsWhole) (harg9 : (obufM true).IsWhole) (harg10 : (obufM false).IsWhole)
    (hw3 : k0_chk3 (wd (pos c))) (hw2 : k0_chk2 (wd (rgt c))) (hw1 : k0_chk1 (wd (lft c))) (t : Fin k0_t2_loop.trips) :
    inv2 pv K KS c (t.val + 32) ⊢ wp frame (wpE (defs₀ (F := F)) 𝒱₀ (c : Thread nD τ) none) Set.univ (k0_t2_body (F := F) arg0 harg0 pM harg1 oM harg2 (commM true) harg3 (commM false) harg4 (accM true) harg5 (accM false) harg6 (lbufM true) harg7 (lbufM false) harg8 (obufM true) harg9 (obufM false) harg10 cc0_scratch8 cc0_scratch9 cc0_scratch10 cc0_scratch11 cc0_scratch12 cc0_scratch13 cc0_scratch14 cc0_scratch15 cc0_scratch16 cc0_scratch17 (wd (pos c)) hw3 (wd (rgt c)) hw2 (wd (lft c)) hw1 t ()) fun _ => inv2 pv K KS c (t.val + 32 + 1) := by
  have ht : t.val < 30 := t.isLt
  have hu : t.val + 32 < 62 := by omega
  have hkc : kc (t.val + 32) = t.val + 32 + 1 := by unfold kc; rw [if_neg (by omega)]
  unfold k0_t2_body
  simp only [k0_part3_eq_skeleton, k0_part4_eq_skeleton, k0_part5_eq_skeleton]
  unfold k0_part3_skel k0_part4_skel k0_part5_skel
  simp only [semSignalWord, semWaitWord, Prog.lift, Prog.bind_op, Prog.bind_ret, Prog.pure_eq_ret, wp_deviceId]
  unfold inv2 Kn agSt ringSt
  rw [toks_succ c true hu, toks_succ c false hu]
  unfold stepTok
  simp only [if_neg (show ¬ t.val + 32 = 31 by omega)]
  iintro ⟨⟨#HI, #HgR, #HgL⟩, ⟨⟨HcsR, HsaR, HsbR, HraR, HrbR, ⟨HtSR, HtVR, HtWR, HcCR, HcVR, HtCR⟩, HtkR⟩, HrsR, HdbR, #HrfR, HslR⟩, ⟨⟨HcsL, HsaL, HsbL, HraL, HrbL, ⟨HtSL, HtVL, HtWL, HcCL, HcVL, HtCL⟩, HtkL⟩, HrsL, HdbL, #HrfL, HslL⟩, HobR, HobL, Hout, HosR, HosL, HO⟩
  iapply (wp_credit pv K KS true hu (above_own c (i := t.val + 32) (j := t.val + 32) (i' := t.val + 32) (j' := t.val + 32) (by unfold lc; split <;> omega) (by unfold lc; split <;> omega) (by unfold lc; split <;> omega) (by unfold lc; split <;> omega)) rfl rfl) $$ [HcsR HcCR HO]
  · isplitr; · iexact HI
    isplitl [HcsR]; · iexact HcsR
    isplitl [HcCR]; · iexact HcCR
    iexact HO
  iintro ⟨HcsR, #HwR, HO⟩
  iapply (wp_credit pv K KS false hu (above_own c (i := t.val + 32) (j := t.val + 32) (i' := t.val + 32) (j' := t.val + 32) (by unfold lc; split <;> omega) (by unfold lc; split <;> omega) (by unfold lc; split <;> omega) (by unfold lc; split <;> omega)) rfl rfl) $$ [HcsL HcCL HO]
  · isplitr; · iexact HI
    isplitl [HcsL]; · iexact HcsL
    isplitl [HcCL]; · iexact HcCL
    iexact HO
  iintro ⟨HcsL, #HwL, HO⟩
  ihave HsaR := (posAt_elim _ _) $$ HsaR
  icases HsaR with ⟨HsaR, #HsrR⟩
  have hsR := slot_of true _ (off12_sl t) (k0_off12_inb t) (fun _ => rfl) squeezes_S1x128x4096_S128x4096
  ihave HslR := (holds_memref c hsR.symm) $$ HslR
  iapply (wp_msg pv K KS true hu (own_A c hu _ _ _) fullShare (by rw [srcRes_slot pv c true (by omega)]; exact holds_memref c hsR) (slot_of true _ (off11_sl t) _ _ _) (dev_mk _ (dev9_wd _)) (sendSemR_of _ (off10_sl t) _) (recvSemR_of _ (off10_sl t) _)) $$ [HslR HtWR HtSR HtVR HO]
  · isplitr; · iexact HI
    isplitl [HslR]; · iexact HslR
    isplitr; · iexact HwR
    isplitl [HtWR]; · iexact HtWR
    isplitl [HtSR]; · iexact HtSR
    isplitr; · iexact HsrR
    isplitl [HtVR]; · iexact HtVR
    iexact HO
  iintro ⟨HcSR, HO⟩
  ihave HsaR := (posAt_intro _ _) $$ [HsaR]
  · isplitl [HsaR]; · iexact HsaR
    iexact HsrR
  ihave HsaL := (posAt_elim _ _) $$ HsaL
  icases HsaL with ⟨HsaL, #HsrL⟩
  have hsL := slot_of false _ (off12_sl t) (k0_off12_inb t) (fun _ => rfl) squeezes_S1x128x4096_S128x4096
  ihave HslL := (holds_memref c hsL.symm) $$ HslL
  iapply (wp_msg pv K KS false hu (own_A' c hu _ _ _) fullShare (by rw [srcRes_slot pv c false (by omega)]; exact holds_memref c hsL) (slot_of false _ (off11_sl t) _ _ _) (dev_mk _ (dev10_wd _)) (sendSemL_of _ (off10_sl t) _) (recvSemL_of _ (off10_sl t) _)) $$ [HslL HtWL HtSL HtVL HO]
  · isplitr; · iexact HI
    isplitl [HslL]; · iexact HslL
    isplitr; · iexact HwL
    isplitl [HtWL]; · iexact HtWL
    isplitl [HtSL]; · iexact HtSL
    isplitr; · iexact HsrL
    isplitl [HtVL]; · iexact HtVL
    iexact HO
  iintro ⟨HcSL, HO⟩
  ihave HsaL := (posAt_intro _ _) $$ [HsaL]
  · isplitl [HsaL]; · iexact HsaL
    iexact HsrL
  iapply (wp_sent pv K KS true hu (above_own c (i := t.val + 32 + 1) (j := t.val + 32) (i' := t.val + 32 + 1) (j' := t.val + 32) (by omega) (by omega) (by omega) (by omega)) (sendSemR_of _ (off10_sl t) _) (slotw_credit true)) $$ [HsaR HcSR HO]
  · isplitr; · iexact HI
    isplitl [HsaR]; · iexact HsaR
    isplitl [HcSR]; · iexact HcSR
    iexact HO
  iintro ⟨HsaR, HslR, HO⟩
  ihave HslR := (srcRes_slot_out pv c true (show 31 < t.val + 32 by omega)) $$ HslR
  iapply (wp_got pv K KS true hu (above_own c (i := t.val + 32 + 1) (j := t.val + 32) (i' := t.val + 32 + 1) (j' := t.val + 32) (by unfold la; omega) (by unfold la; omega) (by unfold la; omega) (by unfold la; omega)) (recvSemR_of _ (off10_sl t) _) (slotw_credit true)) $$ [HraR HcVR HO]
  · isplitr; · iexact HI
    isplitl [HraR]; · iexact HraR
    isplitl [HcVR]; · iexact HcVR
    iexact HO
  iintro ⟨HraR, HstR, HO⟩
  iapply (wp_sent pv K KS false hu (above_own c (i := t.val + 32 + 1) (j := t.val + 32) (i' := t.val + 32 + 1) (j' := t.val + 32) (by omega) (by omega) (by omega) (by omega)) (sendSemL_of _ (off10_sl t) _) (slotw_credit false)) $$ [HsaL HcSL HO]
  · isplitr; · iexact HI
    isplitl [HsaL]; · iexact HsaL
    isplitl [HcSL]; · iexact HcSL
    iexact HO
  iintro ⟨HsaL, HslL, HO⟩
  ihave HslL := (srcRes_slot_out pv c false (show 31 < t.val + 32 by omega)) $$ HslL
  iapply (wp_got pv K KS false hu (above_own c (i := t.val + 32 + 1) (j := t.val + 32) (i' := t.val + 32 + 1) (j' := t.val + 32) (by unfold la; omega) (by unfold la; omega) (by unfold la; omega) (by unfold la; omega)) (recvSemL_of _ (off10_sl t) _) (slotw_credit false)) $$ [HraL HcVL HO]
  · isplitr; · iexact HI
    isplitl [HraL]; · iexact HraL
    isplitl [HcVL]; · iexact HcVL
    iexact HO
  iintro ⟨HraL, HstL, HO⟩
  imod (release_ag pv K KS true hu _) $$ [HslR HdbR HrbR] with ⟨HrnR, #HrgR, HrbR⟩
  · isplitr; · iexact HI
    isplitl [HslR]; · iexact HslR
    isplitl [HdbR]; · iexact HdbR
    isplitr; · iexact HrfR
    iexact HrbR
  imod (release_ag pv K KS false hu _) $$ [HslL HdbL HrbL] with ⟨HrnL, #HrgL, HrbL⟩
  · isplitr; · iexact HI
    isplitl [HslL]; · iexact HslL
    isplitl [HdbL]; · iexact HdbL
    isplitr; · iexact HrfL
    iexact HrbL
  have hkR : (relFacts c true (t.val + 32 + 1) : sProp 𝕄) ⊢ relFacts c true (kc (t.val + 32)) := by rw [hkc]
  ihave #HrkR := hkR $$ HrgR
  iapply (wp_give pv K KS true hu (by omega) (own_C c hu _ _ _) (dev_mk _ (dev11_wd _)) rfl rfl) $$ [HtCR HO]
  · isplitr; · iexact HI
    isplitr; · iexact HrkR
    isplitl [HtCR]; · iexact HtCR
    isplitr; · iexact HgR
    iexact HO
  iintro HO
  have hkL : (relFacts c false (t.val + 32 + 1) : sProp 𝕄) ⊢ relFacts c false (kc (t.val + 32)) := by rw [hkc]
  ihave #HrkL := hkL $$ HrgL
  iapply (wp_give pv K KS false hu (by omega) (own_C' c hu _ _ _) (dev_mk _ (dev12_wd _)) rfl rfl) $$ [HtCL HO]
  · isplitr; · iexact HI
    isplitr; · iexact HrkL
    isplitl [HtCL]; · iexact HtCL
    isplitr; · iexact HgL
    iexact HO
  iintro HO
  iapply (wp_ld_slot true (sl (t.val + 32)) _ (off13_sl t)) $$ HstR
  iintro %wR %hwR HstR
  iapply (wp_ld_obuf true) $$ HobR
  iintro %zR HobR
  iapply (wp_st_obuf true _) $$ HobR
  iintro HobR
  iapply (wp_put pv true (ck true (pos c) (t.val + 1)) (oSl_of true _ (off14_wd (pos c) t) _ _) true ((pay3_eq hwR).trans (congrArg epiC (got_out pv true c (by omega) (by omega))))) $$ [HobR Hout HosR]
  · isplitl [HobR]; · iexact HobR
    isplitl [Hout]; · iexact Hout
    iexact HosR
  iintro HflR
  iapply (wp_landed pv K KS (above_own c (i := t.val + 32 + 1) (j := t.val + 32 + 1) (i' := t.val + 32 + 1) (j' := t.val + 32 + 1) (by omega) (by omega) (by omega) (by omega)) rfl) $$ [HflR HO]
  · isplitr; · iexact HI
    isplitl [HflR]; · iexact HflR
    iexact HO
  iintro ⟨⟨Hout, HobR⟩, HosR, HO⟩
  iapply (wp_ld_slot false (sl (t.val + 32)) _ (off13_sl t)) $$ HstL
  iintro %wL %hwL HstL
  iapply (wp_ld_obuf false) $$ HobL
  iintro %zL HobL
  iapply (wp_st_obuf false _) $$ HobL
  iintro HobL
  iapply (wp_put pv false (ck false (pos c) (t.val + 1)) (oSl_of false _ (off15_wd (pos c) t) _ _) false ((pay4_eq hwL).trans (congrArg epiC (got_out pv false c (by omega) (by omega))))) $$ [HobL Hout HosL]
  · isplitl [HobL]; · iexact HobL
    isplitl [Hout]; · iexact Hout
    iexact HosL
  iintro HflL
  iapply (wp_landed pv K KS (above_own c (i := t.val + 32 + 1) (j := t.val + 32 + 1) (i' := t.val + 32 + 1) (j' := t.val + 32 + 1) (by omega) (by omega) (by omega) (by omega)) rfl) $$ [HflL HO]
  · isplitr; · iexact HI
    isplitl [HflL]; · iexact HflL
    iexact HO
  iintro ⟨⟨Hout, HobL⟩, HosL, HO⟩
  rw [wp_ret]
  imodintro
  isplitr
  · isplitr; · iexact HI
    isplitr; · iexact HgR
    iexact HgL
  isplitl [HcsR HsaR HsbR HraR HrbR HtkR HrnR HrsR HstR]
  · isplitl [HcsR HsaR HsbR HraR HrbR HtkR]
    · isplitl [HcsR]; · iexact HcsR
      isplitl [HsbR]; · iexact HsbR
      isplitl [HsaR]; · iexact HsaR
      isplitl [HrbR]; · iexact HrbR
      isplitl [HraR]; · iexact HraR
      iexact HtkR
    isplitl [HrnR]; · iexact HrnR
    isplitl [HrsR]; · iapply (ag_reader c true hu); iexact HrsR
    isplitr; · iexact HrgR
    iapply (ag_slot pv c true (show 31 ≤ t.val + 32 by omega)); iexact HstR
  isplitl [HcsL HsaL HsbL HraL HrbL HtkL HrnL HrsL HstL]
  · isplitl [HcsL HsaL HsbL HraL HrbL HtkL]
    · isplitl [HcsL]; · iexact HcsL
      isplitl [HsbL]; · iexact HsbL
      isplitl [HsaL]; · iexact HsaL
      isplitl [HrbL]; · iexact HrbL
      isplitl [HraL]; · iexact HraL
      iexact HtkL
    isplitl [HrnL]; · iexact HrnL
    isplitl [HrsL]; · iapply (ag_reader c false hu); iexact HrsL
    isplitr; · iexact HrgL
    iapply (ag_slot pv c false (show 31 ≤ t.val + 32 by omega)); iexact HstL
  isplitl [HobR]; · iexact HobR
  isplitl [HobL]; · iexact HobL
  isplitl [Hout]
  · iapply (outSt_mono pv c (P := fun b₁ j₁ => (Dn (pos c) (t.val + 32 - 31) b₁ j₁ ∨ (b₁ = true ∧ j₁ = ck true (pos c) (t.val + 1))) ∨ (b₁ = false ∧ j₁ = ck false (pos c) (t.val + 1))) (fun b j h => by
      have h' : Dn (pos c) (t.val + 1 + 1) b j := by
        have e : t.val + 32 + 1 - 31 = t.val + 1 + 1 := by omega
        rw [← e]; exact h
      have e : t.val + 32 - 31 = t.val + 1 := by omega
      rw [e]
      rcases Dn_succ h' with h | h
      · exact Or.inl (Or.inl h)
      · cases b
        · exact Or.inr ⟨rfl, h⟩
        · exact Or.inl (Or.inr ⟨rfl, h⟩)))
    iexact Hout
  isplitl [HosR]; · iexact HosR
  isplitl [HosL]; · iexact HosL
  iexact HO

end Cert.KernelIdeal.Proofs

end
-- ==== Proof.KernelIdeal.Entry.lean ====
/-
  The body of the kernel on one core: entry, the first loop, the step between the loops, the second loop, the end.
-/
module

public import proofs.«01_k».proof.Proof.KernelIdeal.Trip1
public import proofs.«01_k».proof.Proof.KernelIdeal.Trip2

@[expose] public section

noncomputable section

namespace Cert.KernelIdeal.Proofs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (released readerAt writeTok slotInv USlots)

variable {F : FTy → Type} [FloatOps F]

local notation "𝕄" => MT nD τ sig ℕ (Elt F) ℕ UU ℕ

variable (pv : Dev nD → main_v25.ty.Contents (Elt F)) (K : Dev nD × Kd → ℕ) (KS : KK → ℕ)

/-! ## What the body starts from and ends in -/

/-- What a direction starts from. -/
def dirPre (c : Dev nD) (b : Bool) : sProp 𝕄 :=
  iprop(anyOf c (slotM b 0) ∗ anyOf c (slotM b 1) ∗ readerAt ES (c, b, (0 : Fin 2)) 0 ∗ readerAt ES (c, b, (1 : Fin 2)) 0
    ∗ posAt (recvCell c b 0) 0 ∗ posAt (recvCell c b 1) 0 ∗ posAt (sendCell c b 0) 0 ∗ posAt (sendCell c b 1) 0 ∗ posAt (credCell c b) 0
    ∗ dutyTok ER (credCell c b) 0 0 ∗ dutyTok ER (barCell (frm b c)) 0 b.toNat ∗ reached ER (barCell (frm b c)) 0 ∗ toks c b 0
    ∗ anyOf c (accM b) ∗ anyOf c (lbufM b) ∗ pRes pv c b ∗ semVal ((c : Thread nD τ), .dma (lsem b)) 0)

/-- A direction at step 31, its credit at hand. -/
def mid31 (c : Dev nD) (b : Bool) : sProp 𝕄 :=
  iprop(credSt pv c b 32 ∗ relFact (nx b c) b 31
    ∗ (posAt (sendCell c b (sl 31)) (31 / 2) ∗ posAt (sendCell c b (sl (31 + 1))) ((31 + 1) / 2)
    ∗ posAt (recvCell c b (sl 31)) (31 / 2) ∗ posAt (recvCell c b (sl (31 + 1))) ((31 + 1) / 2))
    ∗ (dutyTok ER (sendCell c b (sl 31)) (31 / 2) 0 ∗ dutyTok ER (recvCell (nx b c) b (sl 31)) (31 / 2) 0
      ∗ writeTok ES (nx b c, b, sl 31) (31 / 2 + 1) ∗ cred (tallyAt (recvCell c b (sl 31)) (la 31) N))
    ∗ toks c b 32 ∗ readerAt ES (c, b, sl 31) (31 / 2 + 1) ∗ readerAt ES (c, b, sl (31 + 1)) ((31 + 1) / 2 + 1)
    ∗ relFacts c b 32 ∗ holds c (accM b) fullShare (msg pv b 31 c)
    ∗ anyOf c (lbufM b) ∗ pRes pv c b ∗ semVal ((c : Thread nD τ), .dma (lsem b)) 0)

/-- What a direction ends in. -/
def dirPost (c : Dev nD) (b : Bool) : sProp 𝕄 :=
  iprop(anyOf c (slotM b 0) ∗ anyOf c (slotM b 1) ∗ semVal (recvCell c b 0) 0 ∗ semVal (recvCell c b 1) 0
    ∗ semVal (sendCell c b 0) 0 ∗ semVal (sendCell c b 1) 0 ∗ semVal (credCell c b) 0
    ∗ anyOf c (accM b) ∗ anyOf c (lbufM b) ∗ pRes pv c b ∗ semVal ((c : Thread nD τ), .dma (lsem b)) 0)

/-- After the barrier a core has heard that the first slots are free. -/
theorem credSt_start (c : Dev nD) (b : Bool) :
    iprop(relFacts (nx b c) b 1 ∗ atPos ER (credCell c b) 0 ∅ 0) ⊢ credSt pv c b 0 := by
  unfold credSt
  iintro ⟨H, Ha⟩
  isplitl [H]; · iexact H
  iexists ∅
  isplitr; · ipureintro; exact Finset.empty_subset _
  isplitl [Ha]; · iexact Ha
  rw [bigSep_empty]
  iempintro

/-- What a core holds after the barrier is the first loop's invariant at its start. -/
theorem rs_start (c : Dev nD) (b : Bool) :
    iprop((credSt pv c b 0 ∗ posAt (sendCell c b 0) 0 ∗ posAt (sendCell c b 1) 0 ∗ posAt (recvCell c b 0) 0 ∗ posAt (recvCell c b 1) 0 ∗ toks c b 0)
      ∗ readerAt ES (c, b, (0 : Fin 2)) 1 ∗ readerAt ES (c, b, (1 : Fin 2)) 1 ∗ relFacts c b 1
      ∗ holds c (accM b) fullShare (part pv b c (ck b (pos c) 0)) ∗ anyOf c (lbufM b) ∗ pRes pv c b ∗ semVal ((c : Thread nD τ), .dma (lsem b)) 0)
      ⊢ rsSt pv c b 0 := by
  unfold rsSt ringSt
  exact BI.Entails.refl _

/-- The state after the first loop, the tokens of step 31 apart. -/
theorem rs_end (c : Dev nD) (b : Bool) :
    rsSt pv c b 31 ⊢ iprop(credSt pv c b 31 ∗ cred (tallyAt (credCell c b) (lc 31) 1)
    ∗ (posAt (sendCell c b (sl 31)) (31 / 2) ∗ posAt (sendCell c b (sl (31 + 1))) ((31 + 1) / 2)
    ∗ posAt (recvCell c b (sl 31)) (31 / 2) ∗ posAt (recvCell c b (sl (31 + 1))) ((31 + 1) / 2))
    ∗ (dutyTok ER (sendCell c b (sl 31)) (31 / 2) 0 ∗ dutyTok ER (recvCell (nx b c) b (sl 31)) (31 / 2) 0
      ∗ writeTok ES (nx b c, b, sl 31) (31 / 2 + 1) ∗ cred (tallyAt (recvCell c b (sl 31)) (la 31) N))
    ∗ toks c b 32 ∗ readerAt ES (c, b, sl 31) (31 / 2 + 1) ∗ readerAt ES (c, b, sl (31 + 1)) ((31 + 1) / 2 + 1)
    ∗ relFacts c b 32 ∗ holds c (accM b) fullShare (msg pv b 31 c)
    ∗ anyOf c (lbufM b) ∗ pRes pv c b ∗ semVal ((c : Thread nD τ), .dma (lsem b)) 0) := by
  unfold rsSt ringSt
  rw [toks_succ c b (show 31 < 62 by decide)]
  unfold stepTok
  rw [if_pos rfl]
  iintro ⟨⟨Hcs, Hsa, Hsb, Hra, Hrb, ⟨HtS, HtV, HtW, HcC, HcV, -⟩, Htk⟩, Hda, Hdb, Hrf, Hac, Hlb, Hp, Hls⟩
  isplitl [Hcs]; · iexact Hcs
  isplitl [HcC]; · iexact HcC
  isplitl [Hsa Hsb Hra Hrb]
  · isplitl [Hsa]; · iexact Hsa
    isplitl [Hsb]; · iexact Hsb
    isplitl [Hra]; · iexact Hra
    iexact Hrb
  isplitl [HtS HtV HtW HcV]
  · isplitl [HtS]; · iexact HtS
    isplitl [HtV]; · iexact HtV
    isplitl [HtW]; · iexact HtW
    iexact HcV
  isplitl [Htk]; · iexact Htk
  isplitl [Hda]; · iexact Hda
  isplitl [Hdb]; · iexact Hdb
  isplitl [Hrf]; · iexact Hrf
  isplitl [Hac]; · iexact Hac
  isplitl [Hlb]; · iexact Hlb
  isplitl [Hp]; · iexact Hp
  iexact Hls

/-- At the start of the second half the slot of step 30 has been given away, that of step 31 holds a finished sum. -/
theorem ag_start (c : Dev nD) (b : Bool) :
    iprop((credSt pv c b 32 ∗ posAt (sendCell c b (sl (31 + 1))) ((31 + 1) / 2) ∗ posAt (sendCell c b (sl (31 + 2))) ((31 + 2) / 2)
        ∗ posAt (recvCell c b (sl (31 + 1))) ((31 + 1) / 2) ∗ posAt (recvCell c b (sl (31 + 2))) ((31 + 2) / 2) ∗ toks c b 32)
      ∗ readerAt ES (c, b, sl (31 + 1)) ((31 + 1) / 2 + 1) ∗ readerAt ES (c, b, sl 31) (31 / 2 + 1) ∗ relFacts c b 32
      ∗ holds c (slotM b (sl 31)) fullShare (msg pv b 31 (frm b c)))
      ⊢ agSt pv c b 32 := by
  unfold agSt ringSt restSlot
  rw [if_pos (show 32 < 62 by decide)]
  iintro ⟨H, H1, H2, H3, H4⟩
  isplitl [H]; · iexact H
  isplitl [H1]; · iexact H1
  isplitl [H2]
  · have e : readerAt ES (c, b, sl 31) (31 / 2 + 1) ⊢ (readerAt ES (c, b, sl (32 + 1)) ((32 + 1) / 2) : sProp 𝕄) := BI.Entails.refl _
    iapply e; iexact H2
  isplitl [H3]; · iexact H3
  iapply (ag_slot pv c b (show 31 ≤ 31 from le_refl _)); iexact H4

/-- The cells of a direction closed. -/
theorem ring_close (c : Dev nD) (b : Bool) :
    iprop(Inv pv K KS ∗ posAt (sendCell c b (sl 62)) (62 / 2) ∗ posAt (sendCell c b (sl (62 + 1))) ((62 + 1) / 2)
        ∗ posAt (recvCell c b (sl 62)) (62 / 2) ∗ posAt (recvCell c b (sl (62 + 1))) ((62 + 1) / 2))
      ⊢ (|={Set.univ}=> (semVal (recvCell c b 0) 0 ∗ semVal (recvCell c b 1) 0 ∗ semVal (sendCell c b 0) 0 ∗ semVal (sendCell c b 1) 0) : sProp 𝕄) := by
  have e : iprop(posAt (sendCell c b (sl 62)) (62 / 2) ∗ posAt (sendCell c b (sl (62 + 1))) ((62 + 1) / 2)
        ∗ posAt (recvCell c b (sl 62)) (62 / 2) ∗ posAt (recvCell c b (sl (62 + 1))) ((62 + 1) / 2))
      ⊢ (iprop(posAt (sendCell c b 0) 31 ∗ posAt (sendCell c b 1) 31 ∗ posAt (recvCell c b 0) 31 ∗ posAt (recvCell c b 1) 31) : sProp 𝕄) := BI.Entails.refl _
  iintro ⟨#HI, H0⟩
  ihave H := e $$ H0
  unfold posAt
  icases H with ⟨⟨Hs0, -⟩, ⟨Hs1, -⟩, ⟨Hr0, -⟩, Hr1, -⟩
  ihave #Hcs0 := (Inv_cell pv K KS c (.send b 0)) $$ HI
  imod (Rounds.cell_close ER (Rd pv) (Set.mem_univ (K (c, .send b 0))) (fun h => h) (R := 31) (fun r hr => duties_send_end pv c b 0 hr)) $$ [Hs0] with Hs0
  · isplitr; · iexact Hcs0
    iexact Hs0
  ihave #Hcs1 := (Inv_cell pv K KS c (.send b 1)) $$ HI
  imod (Rounds.cell_close ER (Rd pv) (Set.mem_univ (K (c, .send b 1))) (fun h => h) (R := 31) (fun r hr => duties_send_end pv c b 1 hr)) $$ [Hs1] with Hs1
  · isplitr; · iexact Hcs1
    iexact Hs1
  ihave #Hcr0 := (Inv_cell pv K KS c (.recv b 0)) $$ HI
  imod (Rounds.cell_close ER (Rd pv) (Set.mem_univ (K (c, .recv b 0))) (fun h => h) (R := 31) (fun r hr => duties_recv_end pv c b 0 hr)) $$ [Hr0] with Hr0
  · isplitr; · iexact Hcr0
    iexact Hr0
  ihave #Hcr1 := (Inv_cell pv K KS c (.recv b 1)) $$ HI
  imod (Rounds.cell_close ER (Rd pv) (Set.mem_univ (K (c, .recv b 1))) (fun h => h) (R := 31) (fun r hr => duties_recv_end pv c b 1 hr)) $$ [Hr1] with Hr1
  · isplitr; · iexact Hcr1
    iexact Hr1
  imodintro
  isplitl [Hr0]; · iexact Hr0
  isplitl [Hr1]; · iexact Hr1
  isplitl [Hs0]; · iexact Hs0
  iexact Hs1

/-! ## The words of the device -/

/-- The place of a word. -/
def ix3 (i : Fin 3) : S3.Idx := fun
  | 0 => ⟨i.val, i.isLt⟩

/-- A load of one word of the ring's words. -/
theorem wp_ld_id {c : Dev nD} {arg0 : Memref sig .tc .smem S3 .i32} {q : PosShare TreeShare} {ids : S3.Idx → Elt F .i32} (i : Fin 3) {v : Elt F .i32}
    (hv : ids (ix3 i) = v)
    {inb : ∀ a, (![i.val] : Fin 1 → ℕ) a + S1.size a ≤ S3.size a}
    {hl : arg0.view.LoadsAt (Rect.unit (s := S3) ![i.val] S1.size inb).toLoadRect}
    {α : Type} {Q : α → sProp 𝕄} {k : Vec F S1 .i32 → Prog (TpuEff nD τ sig (Elt F) Λ₀ .tc) α} :
    (holds c arg0 q ids : sProp 𝕄)
      ⊢ iprop((holds c arg0 q ids -∗ wp frame (wpE (defs₀ (F := F)) 𝒱₀ (c : Thread nD τ) none) Set.univ (k (fun _ => v)) Q)
          -∗ wp frame (wpE (defs₀ (F := F)) 𝒱₀ (c : Thread nD τ) none) Set.univ
              (.op (.load arg0 (Rect.unit (s := S3) ![i.val] S1.size inb).toLoadRect hl) k) Q) := by
  unfold holds
  iintro ⟨%f, %hf, H⟩ Hk
  have hk : arg0.view.readAt (Elt F) (Rect.unit (s := S3) ![i.val] S1.size inb).toLoadRect f = fun _ => v := by
    funext x
    show arg0.view.read (Elt F) f _ = v
    rw [hf, ← hv]
    refine congrArg ids ?_
    funext a
    refine Fin.ext ?_
    have hx : (x a).val < 1 := by
      have := (x a).isLt
      have ha : a = 0 := by fin_cases a; rfl
      subst ha; exact this
    have ha : a = 0 := by fin_cases a; rfl
    subst ha
    show i.val + 1 * (x 0).val = i.val
    omega
  iapply (wp_load 𝒱₀ (c : Thread nD τ) none Set.univ (m := arg0) (q := q) (f := f) (S := arg0.view.set) (View.setOn_subset_set _ _)) $$ H
  iintro H
  rw [hk]
  iapply Hk
  iexists f
  isplitr; · ipureintro; exact hf
  iexact H

set_option maxHeartbeats 4000000 in
set_option maxRecDepth 16384 in
/-- The entry of the body: the words, the barrier, the first chunks, the first loop, the credits of step 31. -/
theorem part6_ok (c : Dev nD) (arg0 : Memref sig .tc .smem S3 .i32) (harg0 : arg0.IsWhole) (harg1 : pM.IsWhole) (harg2 : oM.IsWhole) (harg3 : (commM true).IsWhole) (harg4 : (commM false).IsWhole) (harg5 : (accM true).IsWhole) (harg6 : (accM false).IsWhole) (harg7 : (lbufM true).IsWhole) (harg8 : (lbufM false).IsWhole) (harg9 : (obufM true).IsWhole) (harg10 : (obufM false).IsWhole)
    {q : PosShare TreeShare} {ids : S3.Idx → Elt F .i32} (h0 : ids (ix3 0) = wd (pos c)) (h1 : ids (ix3 1) = wd (rgt c)) (h2 : ids (ix3 2) = wd (lft c)) :
    iprop(Inv pv K KS ∗ holds c arg0 q ids ∗ dirPre pv c true ∗ dirPre pv c false ∗ atPos ER (barCell c) 0 ∅ 0 ∗ cred (tallyAt (barCell c) 1 2) ∗ owesE c (O₀ c))
      ⊢ wp frame (wpE (defs₀ (F := F)) 𝒱₀ (c : Thread nD τ) none) Set.univ (k0_part6 (F := F) arg0 harg0 pM harg1 oM harg2 (commM true) harg3 (commM false) harg4 (accM true) harg5 (accM false) harg6 (lbufM true) harg7 (lbufM false) harg8 (obufM true) harg9 (obufM false) harg10 cc0_scratch8 cc0_scratch9 cc0_scratch10 cc0_scratch11 cc0_scratch12 cc0_scratch13 cc0_scratch14 cc0_scratch15 cc0_scratch16 cc0_scratch17) fun w => iprop(⌜w = ⟨wd (pos c), chk3_wd (pos c), wd (rgt c), chk2_wd (rgt c), wd (lft c), chk1_wd (lft c)⟩⌝ ∗ Kn pv K KS c ∗ holds c arg0 q ids ∗ semVal (barCell c) 0 ∗ mid31 pv c true ∗ mid31 pv c false ∗ owesE c (own c 31 31 31 31)) := by
  simp only [k0_part6_eq_skeleton]
  unfold k0_part6_skel
  simp only [smemLoad, smemLoadElt, semSignalWord, semSignalHereWord, semWaitWord, Prog.lift, Prog.bind_op, Prog.bind_ret, Prog.pure_eq_ret, wp_deviceId]
  unfold dirPre
  iintro ⟨#HI, Hid, ⟨Hq0R, Hq1R, Hd0R, Hd1R, Hr0R, Hr1R, Hs0R, Hs1R, HcpR, HtcR, HtbR, #HbrR, HtkR, HacR, HlbR, HpR, HlsR⟩, ⟨Hq0L, Hq1L, Hd0L, Hd1L, Hr0L, Hr1L, Hs0L, Hs1L, HcpL, HtcL, HtbL, #HbrL, HtkL, HacL, HlbL, HpL, HlsL⟩, Hbar, Hbc, HO⟩
  iapply (wp_ld_id 0 h0) $$ Hid
  iintro Hid
  iapply (wp_assume 𝒱₀ (c : Thread nD τ) none Set.univ (chk3_wd (pos c)))
  iapply (wp_ld_id 1 h1) $$ Hid
  iintro Hid
  iapply (wp_assume 𝒱₀ (c : Thread nD τ) none Set.univ (chk2_wd (rgt c)))
  iapply (wp_ld_id 2 h2) $$ Hid
  iintro Hid
  iapply (wp_assume 𝒱₀ (c : Thread nD τ) none Set.univ (chk1_wd (lft c)))
  imod (release_first pv K KS true) $$ [Hq0R Hq1R Hd0R Hd1R Hr0R Hr1R] with ⟨Hd0R, Hd1R, #HrfR, Hr0R, Hr1R⟩
  · isplitr; · iexact HI
    isplitl [Hq0R]; · iexact Hq0R
    isplitl [Hq1R]; · iexact Hq1R
    isplitl [Hd0R]; · iexact Hd0R
    isplitl [Hd1R]; · iexact Hd1R
    isplitl [Hr0R]; · iexact Hr0R
    iexact Hr1R
  ihave HcpR := (posAt_elim _ _) $$ HcpR
  icases HcpR with ⟨HcpR, #HcrR⟩
  imod (release_first pv K KS false) $$ [Hq0L Hq1L Hd0L Hd1L Hr0L Hr1L] with ⟨Hd0L, Hd1L, #HrfL, Hr0L, Hr1L⟩
  · isplitr; · iexact HI
    isplitl [Hq0L]; · iexact Hq0L
    isplitl [Hq1L]; · iexact Hq1L
    isplitl [Hd0L]; · iexact Hd0L
    isplitl [Hd1L]; · iexact Hd1L
    isplitl [Hr0L]; · iexact Hr0L
    iexact Hr1L
  ihave HcpL := (posAt_elim _ _) $$ HcpL
  icases HcpL with ⟨HcpL, #HcrL⟩
  have hO : O₀ c = own c 0 0 0 0 + tallyAt (credCell c false) 2 2 + tallyAt (credCell c true) 2 2 + tallyAt (barCell (frm false c)) 1 1 + tallyAt (barCell (frm true c)) 1 1 := rfl
  iapply (wp_bar_signal pv K KS true hO (dev_mk _ (dev1_wd _)) rfl rfl) $$ [HtbR HO]
  · isplitr; · iexact HI
    isplitr; · iexact HrfR
    isplitr; · iexact HcrL
    isplitl [HtbR]; · iexact HtbR
    isplitr; · iexact HbrR
    iexact HO
  iintro HO
  iapply (wp_bar_signal pv K KS false rfl (dev_mk _ (dev2_wd _)) rfl rfl) $$ [HtbL HO]
  · isplitr; · iexact HI
    isplitr; · iexact HrfL
    isplitr; · iexact HcrR
    isplitl [HtbL]; · iexact HtbL
    isplitr; · iexact HbrL
    iexact HO
  iintro HO
  iapply (wp_bar_wait pv K KS (((above_own c (i := 0) (j := 0) (i' := 0) (j' := 0) (by decide) (by decide) (by decide) (by decide)).add (Above.tally (ι := 2) _ _ (by decide) (by decide))).add (Above.tally (ι := 2) _ _ (by decide) (by decide))) rfl rfl) $$ [Hbar Hbc HO]
  · isplitr; · iexact HI
    isplitl [Hbar]; · iexact Hbar
    isplitl [Hbc]; · iexact Hbc
    iexact HO
  iintro ⟨Hbz, #HnR, #HnL, #HgR, #HgL, HO⟩
  iapply (wp_fetch pv true (ck true (pos c) 0) (pSl_of true _ (off1_wd (pos c)) _ _) (dst := accM true) (acc_credit true) N_pos) $$ [HpR HacR HlsR]
  · isplitl [HpR]; · iexact HpR
    isplitl [HacR]; · iexact HacR
    iexact HlsR
  iintro HflR
  iapply (wp_fetch pv false (ck false (pos c) 0) (pSl_of false _ (off2_wd (pos c)) _ _) (dst := accM false) (acc_credit false) N_pos) $$ [HpL HacL HlsL]
  · isplitl [HpL]; · iexact HpL
    isplitl [HacL]; · iexact HacL
    iexact HlsL
  iintro HflL
  iapply (wp_landed pv K KS (((above_own c (i := 0) (j := 0) (i' := 0) (j' := 0) (by decide) (by decide) (by decide) (by decide)).add (Above.tally (ι := 2) _ _ (by decide) (by decide))).add (Above.tally (ι := 2) _ _ (by decide) (by decide))) (acc_credit true)) $$ [HflR HO]
  · isplitr; · iexact HI
    isplitl [HflR]; · iexact HflR
    iexact HO
  iintro ⟨⟨HacR, HpR⟩, HlsR, HO⟩
  iapply (wp_landed pv K KS (((above_own c (i := 0) (j := 0) (i' := 0) (j' := 0) (by decide) (by decide) (by decide) (by decide)).add (Above.tally (ι := 2) _ _ (by decide) (by decide))).add (Above.tally (ι := 2) _ _ (by decide) (by decide))) (acc_credit false)) $$ [HflL HO]
  · isplitr; · iexact HI
    isplitl [HflL]; · iexact HflL
    iexact HO
  iintro ⟨⟨HacL, HpL⟩, HlsL, HO⟩
  rw [wp_deviceId]
  iapply (wp_self pv K KS true rfl rfl rfl rfl) $$ [HtcR HO]
  · isplitr; · iexact HI
    isplitl [HtcR]; · iexact HtcR
    isplitr; · iexact HcrR
    iexact HO
  iintro HO
  rw [wp_deviceId]
  iapply (wp_self pv K KS false rfl rfl rfl rfl) $$ [HtcL HO]
  · isplitr; · iexact HI
    isplitl [HtcL]; · iexact HtcL
    isplitr; · iexact HcrL
    iexact HO
  iintro HO
  ihave HcsR := (credSt_start pv c true) $$ [HcpR]
  · isplitr; · iexact HnR
    iexact HcpR
  ihave HrsR := (rs_start pv c true) $$ [HcsR Hs0R Hs1R Hr0R Hr1R HtkR Hd0R Hd1R HacR HlbR HpR HlsR]
  · isplitl [HcsR Hs0R Hs1R Hr0R Hr1R HtkR]
    · isplitl [HcsR]; · iexact HcsR
      isplitl [Hs0R]; · iexact Hs0R
      isplitl [Hs1R]; · iexact Hs1R
      isplitl [Hr0R]; · iexact Hr0R
      isplitl [Hr1R]; · iexact Hr1R
      iexact HtkR
    isplitl [Hd0R]; · iexact Hd0R
    isplitl [Hd1R]; · iexact Hd1R
    isplitr; · iexact HrfR
    isplitl [HacR]; · iexact HacR
    isplitl [HlbR]; · iexact HlbR
    isplitl [HpR]; · iexact HpR
    iexact HlsR
  ihave HcsL := (credSt_start pv c false) $$ [HcpL]
  · isplitr; · iexact HnL
    iexact HcpL
  ihave HrsL := (rs_start pv c false) $$ [HcsL Hs0L Hs1L Hr0L Hr1L HtkL Hd0L Hd1L HacL HlbL HpL HlsL]
  · isplitl [HcsL Hs0L Hs1L Hr0L Hr1L HtkL]
    · isplitl [HcsL]; · iexact HcsL
      isplitl [Hs0L]; · iexact Hs0L
      isplitl [Hs1L]; · iexact Hs1L
      isplitl [Hr0L]; · iexact Hr0L
      isplitl [Hr1L]; · iexact Hr1L
      iexact HtkL
    isplitl [Hd0L]; · iexact Hd0L
    isplitl [Hd1L]; · iexact Hd1L
    isplitr; · iexact HrfL
    isplitl [HacL]; · iexact HacL
    isplitl [HlbL]; · iexact HlbL
    isplitl [HpL]; · iexact HpL
    iexact HlsL
  have hb := fun (t : Fin k0_t1_loop.trips) (_ : PUnit) => trip1 pv K KS c arg0 harg0 harg1 harg2 harg3 harg4 harg5 harg6 harg7 harg8 harg9 harg10 (chk3_wd (pos c)) (chk2_wd (rgt c)) (chk1_wd (lft c)) t
  iapply (Scf.wp_for_bind frame (wpE (defs₀ (F := F)) 𝒱₀ (c : Thread nD τ) none) Set.univ _ _ _ k0_t1_ok ⟨⟩ _ (fun k _ => inv1 pv K KS c k) hb) $$ [HrsR HrsL HO]
  · unfold inv1 Kn
    isplitr
    · isplitr; · iexact HI
      isplitr; · iexact HgR
      iexact HgL
    isplitl [HrsR]; · iexact HrsR
    isplitl [HrsL]; · iexact HrsL
    iexact HO
  iintro %acc HV
  have e31 : inv1 pv K KS c (Scf.trips k0_t1_loop.lb k0_t1_loop.ub k0_t1_loop.st) ⊢ iprop(Kn pv K KS c ∗ rsSt pv c true 31 ∗ rsSt pv c false 31 ∗ owesE c (own c 31 31 31 31)) := BI.Entails.refl _
  ihave HV := e31 $$ HV
  icases HV with ⟨-, HrsR, HrsL, HO⟩
  ihave HrsR := (rs_end pv c true) $$ HrsR
  icases HrsR with ⟨HcsR, HcCR, HrestR⟩
  ihave HrsL := (rs_end pv c false) $$ HrsL
  icases HrsL with ⟨HcsL, HcCL, HrestL⟩
  iapply (wp_credit pv K KS true (show 31 < 62 by decide) (above_own c (i := 31) (j := 31) (i' := 31) (j' := 31) (by decide) (by decide) (by decide) (by decide)) rfl rfl) $$ [HcsR HcCR HO]
  · isplitr; · iexact HI
    isplitl [HcsR]; · iexact HcsR
    isplitl [HcCR]; · iexact HcCR
    iexact HO
  iintro ⟨HcsR, #HwR, HO⟩
  iapply (wp_credit pv K KS false (show 31 < 62 by decide) (above_own c (i := 31) (j := 31) (i' := 31) (j' := 31) (by decide) (by decide) (by decide) (by decide)) rfl rfl) $$ [HcsL HcCL HO]
  · isplitr; · iexact HI
    isplitl [HcsL]; · iexact HcsL
    isplitl [HcCL]; · iexact HcCL
    iexact HO
  iintro ⟨HcsL, #HwL, HO⟩
  rw [wp_ret]
  imodintro
  isplitr; · ipureintro; rfl
  isplitr
  · unfold Kn
    isplitr; · iexact HI
    isplitr; · iexact HgR
    iexact HgL
  isplitl [Hid]; · iexact Hid
  isplitl [Hbz]; · iexact Hbz
  unfold mid31
  isplitl [HcsR HrestR]
  · isplitl [HcsR]; · iexact HcsR
    isplitr; · iexact HwR
    iexact HrestR
  isplitl [HcsL HrestL]
  · isplitl [HcsL]; · iexact HcsL
    isplitr; · iexact HwL
    iexact HrestL
  iexact HO

end Cert.KernelIdeal.Proofs

end
-- ==== Proof.KernelIdeal.Body.lean ====
/-
  The body of the kernel on one core, from the entry to the end.
-/
module

public import proofs.«01_k».proof.Proof.KernelIdeal.Entry

@[expose] public section

noncomputable section

namespace Cert.KernelIdeal.Proofs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (released readerAt writeTok slotInv USlots)

variable {F : FTy → Type} [FloatOps F]

local notation "𝕄" => MT nD τ sig ℕ (Elt F) ℕ UU ℕ

variable (pv : Dev nD → main_v25.ty.Contents (Elt F)) (K : Dev nD × Kd → ℕ) (KS : KK → ℕ)

/-- Of the result's chunks, the two done when one step of the second half is over are those of steps 31 and 0. -/
theorem Dn_one {c : Dev nD} {b : Bool} {j : Fin 32} (h : Dn (pos c) 1 b j) : j = ck b (pos c) 31 ∨ j = ck b (pos c) 0 := by
  rcases h with h | ⟨k, hk, h⟩
  · exact Or.inl h
  · obtain rfl : k = 0 := by omega
    exact Or.inr h

/-- What the body holds between the loops is the second loop's invariant at its start. -/
theorem inv2_start (c : Dev nD) :
    iprop(Kn pv K KS c ∗ agSt pv c true 32 ∗ agSt pv c false 32 ∗ anyOf c (obufM true) ∗ anyOf c (obufM false)
      ∗ outSt pv c (Dn (pos c) 1) ∗ semVal ((c : Thread nD τ), .dma (osem true)) 0 ∗ semVal ((c : Thread nD τ), .dma (osem false)) 0
      ∗ owesE c (own c 32 31 32 31)) ⊢ inv2 pv K KS c 32 := by
  rw [own_31]
  unfold inv2
  exact BI.Entails.refl _

/-- What the second loop leaves. -/
theorem inv2_end (c : Dev nD) :
    inv2 pv K KS c 62 ⊢ iprop(Kn pv K KS c ∗ agSt pv c true 62 ∗ agSt pv c false 62 ∗ anyOf c (obufM true) ∗ anyOf c (obufM false)
      ∗ outSt pv c (fun _ _ => True) ∗ semVal ((c : Thread nD τ), .dma (osem true)) 0 ∗ semVal ((c : Thread nD τ), .dma (osem false)) 0
      ∗ owesE c 0) := by
  unfold inv2
  rw [own_end]
  iintro ⟨HK, HR, HL, H1, H2, Ho, H⟩
  isplitl [HK]; · iexact HK
  isplitl [HR]; · iexact HR
  isplitl [HL]; · iexact HL
  isplitl [H1]; · iexact H1
  isplitl [H2]; · iexact H2
  isplitl [Ho]
  · iapply (outSt_mono pv c (fun b j _ => Dn_all (pos c) b j)); iexact Ho
  iexact H

/-- A direction's slots in the end. -/
theorem ag_end (c : Dev nD) (b : Bool) :
    agSt pv c b 62 ⊢ iprop(credSt pv c b 62 ∗ (posAt (sendCell c b (sl 62)) (62 / 2) ∗ posAt (sendCell c b (sl (62 + 1))) ((62 + 1) / 2)
        ∗ posAt (recvCell c b (sl 62)) (62 / 2) ∗ posAt (recvCell c b (sl (62 + 1))) ((62 + 1) / 2)) ∗ anyOf c (slotM b 0) ∗ anyOf c (slotM b 1)) := by
  unfold agSt ringSt restSlot
  rw [if_neg (show ¬ 62 < 62 by decide)]
  iintro ⟨⟨Hcs, Hsa, Hsb, Hra, Hrb, -⟩, H0, -, -, H1⟩
  isplitl [Hcs]; · iexact Hcs
  isplitl [Hsa Hsb Hra Hrb]
  · isplitl [Hsa]; · iexact Hsa
    isplitl [Hsb]; · iexact Hsb
    isplitl [Hra]; · iexact Hra
    iexact Hrb
  isplitl [H0]; · iexact H0
  have e : (holds c (slotM b (sl (62 + 1))) fullShare (msg pv b 62 c) : sProp 𝕄) ⊢ anyOf c (slotM b 1) := holds_any c (slotM b 1) _
  iapply e; iexact H1

/-- The inner state the body starts from, beside the directions. -/
def bodyPre (c : Dev nD) : sProp 𝕄 :=
  iprop(dirPre pv c true ∗ dirPre pv c false ∗ atPos ER (barCell c) 0 ∅ 0 ∗ cred (tallyAt (barCell c) 1 2)
    ∗ cred (tallyAt (credCell c true) (lc 62) 1) ∗ cred (tallyAt (credCell c false) (lc 62) 1)
    ∗ anyOf c (obufM true) ∗ anyOf c (obufM false) ∗ outSt pv c (fun _ _ => False)
    ∗ semVal ((c : Thread nD τ), .dma (osem true)) 0 ∗ semVal ((c : Thread nD τ), .dma (osem false)) 0 ∗ owesE c (O₀ c))

/-- What it ends in. -/
def bodyPost (c : Dev nD) : sProp 𝕄 :=
  iprop(dirPost pv c true ∗ dirPost pv c false ∗ semVal (barCell c) 0
    ∗ anyOf c (obufM true) ∗ anyOf c (obufM false) ∗ outSt pv c (fun _ _ => True)
    ∗ semVal ((c : Thread nD τ), .dma (osem true)) 0 ∗ semVal ((c : Thread nD τ), .dma (osem false)) 0 ∗ owesE c 0)

set_option maxHeartbeats 4000000 in
set_option maxRecDepth 16384 in
/-- The whole body: every wait is met, every copy lands where it should, and the result array holds the result. -/
theorem body_ok (c : Dev nD) (arg0 : Memref sig .tc .smem S3 .i32) (harg0 : arg0.IsWhole) (harg1 : pM.IsWhole) (harg2 : oM.IsWhole) (harg3 : (commM true).IsWhole) (harg4 : (commM false).IsWhole) (harg5 : (accM true).IsWhole) (harg6 : (accM false).IsWhole) (harg7 : (lbufM true).IsWhole) (harg8 : (lbufM false).IsWhole) (harg9 : (obufM true).IsWhole) (harg10 : (obufM false).IsWhole)
    {q : PosShare TreeShare} {ids : S3.Idx → Elt F .i32} (h0 : ids (ix3 0) = wd (pos c)) (h1 : ids (ix3 1) = wd (rgt c)) (h2 : ids (ix3 2) = wd (lft c)) :
    iprop(Inv pv K KS ∗ holds c arg0 q ids ∗ bodyPre pv c)
      ⊢ wp frame (wpE (defs₀ (F := F)) 𝒱₀ (c : Thread nD τ) none) Set.univ (cc0_body (F := F) arg0 harg0 pM harg1 oM harg2 (commM true) harg3 (commM false) harg4 (accM true) harg5 (accM false) harg6 (lbufM true) harg7 (lbufM false) harg8 (obufM true) harg9 (obufM false) harg10 cc0_scratch8 cc0_scratch9 cc0_scratch10 cc0_scratch11 cc0_scratch12 cc0_scratch13 cc0_scratch14 cc0_scratch15 cc0_scratch16 cc0_scratch17) fun _ => iprop(holds c arg0 q ids ∗ bodyPost pv c) := by
  rw [cc0_body_eq_skeleton]
  unfold cc0_body_skel bodyPre
  rw [wp_bind]
  iintro ⟨#HI, Hid, HdR, HdL, Hbar, Hbc, HclR, HclL, HobR, HobL, Hout, HosR, HosL, HO⟩
  iapply (wp_wand_r frame (wpE (defs₀ (F := F)) 𝒱₀ (c : Thread nD τ) none) Set.univ)
  isplitl [Hid HdR HdL Hbar Hbc HO]
  · iapply (part6_ok pv K KS c arg0 harg0 harg1 harg2 harg3 harg4 harg5 harg6 harg7 harg8 harg9 harg10 h0 h1 h2)
    isplitr; · iexact HI
    isplitl [Hid]; · iexact Hid
    isplitl [HdR]; · iexact HdR
    isplitl [HdL]; · iexact HdL
    isplitl [Hbar]; · iexact Hbar
    isplitl [Hbc]; · iexact Hbc
    iexact HO
  iintro %w ⟨%hw, #HK, Hid, Hbz, HmR, HmL, HO⟩
  subst hw
  simp only [k0_part7_eq_skeleton, k0_part8_eq_skeleton, k0_part9_eq_skeleton]
  unfold k0_part7_skel k0_part8_skel k0_part9_skel
  simp only [semSignalWord, semWaitWord, Prog.lift, Prog.bind_op, Prog.bind_ret, Prog.pure_eq_ret]
  unfold mid31
  icases HmR with ⟨HcsR, #HwR, ⟨HsaR, HsbR, HraR, HrbR⟩, ⟨HtSR, HtVR, HtWR, HcVR⟩, HtkR, HdaR, HdbR, #HrfR, HacR, HlbR, HpR, HlsR⟩
  icases HmL with ⟨HcsL, #HwL, ⟨HsaL, HsbL, HraL, HrbL⟩, ⟨HtSL, HtVL, HtWL, HcVL⟩, HtkL, HdaL, HdbL, #HrfL, HacL, HlbL, HpL, HlsL⟩
  ihave Hac2 := (holds_split c (accM true) _) $$ HacR
  icases Hac2 with ⟨HacR, HbcR⟩
  ihave HsaR := (posAt_elim _ _) $$ HsaR
  icases HsaR with ⟨HsaR, #HsrR⟩
  iapply (wp_msg pv K KS true (show 31 < 62 by decide) (own_A c (show 31 < 62 by decide) _ _ _) fullShare.left (by rw [srcRes_acc pv c true (by omega)]) (slot_of true (sl 31) (off := ![1, 0, 0]) rfl _ _ _) (dev_mk _ (dev7_wd _)) (sendSemR_of (sl 31) (off := ![1]) rfl _) (recvSemR_of (sl 31) (off := ![1]) rfl _)) $$ [HacR HtWR HtSR HtVR HO]
  · isplitr; · iexact HI
    isplitl [HacR]; · iexact HacR
    isplitr; · iexact HwR
    isplitl [HtWR]; · iexact HtWR
    isplitl [HtSR]; · iexact HtSR
    isplitr; · iexact HsrR
    isplitl [HtVR]; · iexact HtVR
    iexact HO
  iintro ⟨HcSR, HO⟩
  ihave HsaR := (posAt_intro _ _) $$ [HsaR]
  · isplitl [HsaR]; · iexact HsaR
    iexact HsrR
  ihave Hac2 := (holds_split c (accM false) _) $$ HacL
  icases Hac2 with ⟨HacL, HbcL⟩
  ihave HsaL := (posAt_elim _ _) $$ HsaL
  icases HsaL with ⟨HsaL, #HsrL⟩
  iapply (wp_msg pv K KS false (show 31 < 62 by decide) (own_A' c (show 31 < 62 by decide) _ _ _) fullShare.left (by rw [srcRes_acc pv c false (by omega)]) (slot_of false (sl 31) (off := ![1, 0, 0]) rfl _ _ _) (dev_mk _ (dev8_wd _)) (sendSemL_of (sl 31) (off := ![1]) rfl _) (recvSemL_of (sl 31) (off := ![1]) rfl _)) $$ [HacL HtWL HtSL HtVL HO]
  · isplitr; · iexact HI
    isplitl [HacL]; · iexact HacL
    isplitr; · iexact HwL
    isplitl [HtWL]; · iexact HtWL
    isplitl [HtSL]; · iexact HtSL
    isplitr; · iexact HsrL
    isplitl [HtVL]; · iexact HtVL
    iexact HO
  iintro ⟨HcSL, HO⟩
  ihave HsaL := (posAt_intro _ _) $$ [HsaL]
  · isplitl [HsaL]; · iexact HsaL
    iexact HsrL
  iapply (wp_ld_acc true fullShare.right _) $$ HbcR
  iintro HbcR
  iapply (wp_ld_obuf true) $$ HobR
  iintro %zR HobR
  iapply (wp_st_obuf true _) $$ HobR
  iintro HobR
  iapply (wp_put pv true (ck true (pos c) 31) (oSl_of true _ (off8_wd (pos c)) _ _) true (v := epiC (msg pv true 31 c)) (congrArg epiC (own_out pv true c))) $$ [HobR Hout HosR]
  · isplitl [HobR]; · iexact HobR
    isplitl [Hout]; · iexact Hout
    iexact HosR
  iintro HflR
  iapply (wp_landed pv K KS (above_own c (i := 32) (j := 31) (i' := 32) (j' := 31) (by decide) (by decide) (by decide) (by decide)) rfl) $$ [HflR HO]
  · isplitr; · iexact HI
    isplitl [HflR]; · iexact HflR
    iexact HO
  iintro ⟨⟨Hout, HobR⟩, HosR, HO⟩
  iapply (wp_ld_acc false fullShare.right _) $$ HbcL
  iintro HbcL
  iapply (wp_ld_obuf false) $$ HobL
  iintro %zL HobL
  iapply (wp_st_obuf false _) $$ HobL
  iintro HobL
  iapply (wp_put pv false (ck false (pos c) 31) (oSl_of false _ (off9_wd (pos c)) _ _) false (v := epiC (msg pv false 31 c)) (congrArg epiC (own_out pv false c))) $$ [HobL Hout HosL]
  · isplitl [HobL]; · iexact HobL
    isplitl [Hout]; · iexact Hout
    iexact HosL
  iintro HflL
  iapply (wp_landed pv K KS (above_own c (i := 32) (j := 31) (i' := 32) (j' := 31) (by decide) (by decide) (by decide) (by decide)) rfl) $$ [HflL HO]
  · isplitr; · iexact HI
    isplitl [HflL]; · iexact HflL
    iexact HO
  iintro ⟨⟨Hout, HobL⟩, HosL, HO⟩
  iapply (wp_sent pv K KS true (show 31 < 62 by decide) (above_own c (i := 32) (j := 31) (i' := 32) (j' := 31) (by decide) (by decide) (by decide) (by decide)) (sendSemR_of (sl 31) (off := ![1]) rfl _) (acc_credit true)) $$ [HsaR HcSR HO]
  · isplitr; · iexact HI
    isplitl [HsaR]; · iexact HsaR
    isplitl [HcSR]; · iexact HcSR
    iexact HO
  iintro ⟨HsaR, HacR, HO⟩
  ihave HacR := (srcRes_acc_out pv c true (show 31 ≤ 31 by omega)) $$ HacR
  ihave HacR := (holds_join c (accM true) _) $$ [HacR HbcR]
  · isplitl [HacR]; · iexact HacR
    iexact HbcR
  iapply (wp_got pv K KS true (show 31 < 62 by decide) (above_own c (i := 32) (j := 31) (i' := 32) (j' := 31) (by decide) (by decide) (by decide) (by decide)) (recvSemR_of (sl 31) (off := ![1]) rfl _) (slotw_credit true)) $$ [HraR HcVR HO]
  · isplitr; · iexact HI
    isplitl [HraR]; · iexact HraR
    isplitl [HcVR]; · iexact HcVR
    iexact HO
  iintro ⟨HraR, HstR, HO⟩
  iapply (wp_ld_slot true (sl 31) _ (off := ![1, 0, 0]) rfl) $$ HstR
  iintro %wR %hwR HstR
  iapply (wp_ld_obuf true) $$ HobR
  iintro %yR HobR
  iapply (wp_st_obuf true _) $$ HobR
  iintro HobR
  iapply (wp_put pv true (ck true (pos c) 0) (oSl_of true _ (off1_wd (pos c)) _ _) true ((pay8_eq hwR).trans (congrArg epiC (got_out pv true c (u := 31) (k := 0) (by omega) rfl)))) $$ [HobR Hout HosR]
  · isplitl [HobR]; · iexact HobR
    isplitl [Hout]; · iexact Hout
    iexact HosR
  iintro HflR
  iapply (wp_landed pv K KS (above_own c (i := 32) (j := 31) (i' := 32) (j' := 31) (by decide) (by decide) (by decide) (by decide)) rfl) $$ [HflR HO]
  · isplitr; · iexact HI
    isplitl [HflR]; · iexact HflR
    iexact HO
  iintro ⟨⟨Hout, HobR⟩, HosR, HO⟩
  iapply (wp_sent pv K KS false (show 31 < 62 by decide) (above_own c (i := 32) (j := 31) (i' := 32) (j' := 31) (by decide) (by decide) (by decide) (by decide)) (sendSemL_of (sl 31) (off := ![1]) rfl _) (acc_credit false)) $$ [HsaL HcSL HO]
  · isplitr; · iexact HI
    isplitl [HsaL]; · iexact HsaL
    isplitl [HcSL]; · iexact HcSL
    iexact HO
  iintro ⟨HsaL, HacL, HO⟩
  ihave HacL := (srcRes_acc_out pv c false (show 31 ≤ 31 by omega)) $$ HacL
  ihave HacL := (holds_join c (accM false) _) $$ [HacL HbcL]
  · isplitl [HacL]; · iexact HacL
    iexact HbcL
  iapply (wp_got pv K KS false (show 31 < 62 by decide) (above_own c (i := 32) (j := 31) (i' := 32) (j' := 31) (by decide) (by decide) (by decide) (by decide)) (recvSemL_of (sl 31) (off := ![1]) rfl _) (slotw_credit false)) $$ [HraL HcVL HO]
  · isplitr; · iexact HI
    isplitl [HraL]; · iexact HraL
    isplitl [HcVL]; · iexact HcVL
    iexact HO
  iintro ⟨HraL, HstL, HO⟩
  iapply (wp_ld_slot false (sl 31) _ (off := ![1, 0, 0]) rfl) $$ HstL
  iintro %wL %hwL HstL
  iapply (wp_ld_obuf false) $$ HobL
  iintro %yL HobL
  iapply (wp_st_obuf false _) $$ HobL
  iintro HobL
  iapply (wp_put pv false (ck false (pos c) 0) (oSl_of false _ (off2_wd (pos c)) _ _) false ((pay1_eq hwL).trans (congrArg epiC (got_out pv false c (u := 31) (k := 0) (by omega) rfl)))) $$ [HobL Hout HosL]
  · isplitl [HobL]; · iexact HobL
    isplitl [Hout]; · iexact Hout
    iexact HosL
  iintro HflL
  iapply (wp_landed pv K KS (above_own c (i := 32) (j := 31) (i' := 32) (j' := 31) (by decide) (by decide) (by decide) (by decide)) rfl) $$ [HflL HO]
  · isplitr; · iexact HI
    isplitl [HflL]; · iexact HflL
    iexact HO
  iintro ⟨⟨Hout, HobL⟩, HosL, HO⟩
  ihave HagR := (ag_start pv c true) $$ [HcsR HsaR HsbR HraR HrbR HtkR HdaR HdbR HstR]
  · isplitl [HcsR HsaR HsbR HraR HrbR HtkR]
    · isplitl [HcsR]; · iexact HcsR
      isplitl [HsbR]; · iexact HsbR
      isplitl [HsaR]; · iexact HsaR
      isplitl [HrbR]; · iexact HrbR
      isplitl [HraR]; · iexact HraR
      iexact HtkR
    isplitl [HdbR]; · iexact HdbR
    isplitl [HdaR]; · iexact HdaR
    isplitr; · iexact HrfR
    iexact HstR
  ihave HagL := (ag_start pv c false) $$ [HcsL HsaL HsbL HraL HrbL HtkL HdaL HdbL HstL]
  · isplitl [HcsL HsaL HsbL HraL HrbL HtkL]
    · isplitl [HcsL]; · iexact HcsL
      isplitl [HsbL]; · iexact HsbL
      isplitl [HsaL]; · iexact HsaL
      isplitl [HrbL]; · iexact HrbL
      isplitl [HraL]; · iexact HraL
      iexact HtkL
    isplitl [HdbL]; · iexact HdbL
    isplitl [HdaL]; · iexact HdaL
    isplitr; · iexact HrfL
    iexact HstL
  ihave HV := (inv2_start pv K KS c) $$ [HagR HagL HobR HobL Hout HosR HosL HO]
  · isplitr; · iexact HK
    isplitl [HagR]; · iexact HagR
    isplitl [HagL]; · iexact HagL
    isplitl [HobR]; · iexact HobR
    isplitl [HobL]; · iexact HobL
    isplitl [Hout]
    · iapply (outSt_mono pv c ?_) $$ Hout
      intro b j h
      rcases Dn_one h with h | h
      · cases b
        · exact Or.inl (Or.inl (Or.inr ⟨rfl, h⟩))
        · exact Or.inl (Or.inl (Or.inl (Or.inr ⟨rfl, h⟩)))
      · cases b
        · exact Or.inr ⟨rfl, h⟩
        · exact Or.inl (Or.inr ⟨rfl, h⟩)
    isplitl [HosR]; · iexact HosR
    isplitl [HosL]; · iexact HosL
    iexact HO
  have hb := fun (t : Fin k0_t2_loop.trips) (_ : PUnit) => (trip2 pv K KS c arg0 harg0 harg1 harg2 harg3 harg4 harg5 harg6 harg7 harg8 harg9 harg10 (chk3_wd (pos c)) (chk2_wd (rgt c)) (chk1_wd (lft c)) t :
    (fun (k : ℕ) (_ : PUnit) => inv2 pv K KS c (k + 32)) t.val ⟨⟩ ⊢ _)
  iapply (Scf.wp_for_bind frame (wpE (defs₀ (F := F)) 𝒱₀ (c : Thread nD τ) none) Set.univ _ _ _ k0_t2_ok ⟨⟩ _ (fun k _ => inv2 pv K KS c (k + 32))
    (fun t a => (hb t a).trans (wp_mono frame _ Set.univ fun _ => by rw [show t.val + 32 + 1 = t.val + 1 + 32 by omega]))) $$ [HV]
  · iexact HV
  iintro %acc HV
  have e62 : inv2 pv K KS c (Scf.trips k0_t2_loop.lb k0_t2_loop.ub k0_t2_loop.st + 32) ⊢ inv2 pv K KS c 62 := BI.Entails.refl _
  ihave HV := e62 $$ HV
  ihave HV := (inv2_end pv K KS c) $$ HV
  icases HV with ⟨-, HagR, HagL, HobR, HobL, Hout, HosR, HosL, HO⟩
  ihave HagR := (ag_end pv c true) $$ HagR
  icases HagR with ⟨HcsR, HposR, Hq0R, Hq1R⟩
  ihave HagL := (ag_end pv c false) $$ HagL
  icases HagL with ⟨HcsL, HposL, Hq0L, Hq1L⟩
  iapply (wp_credit_last pv K KS true (Above.zero _) rfl rfl) $$ [HcsR HclR HO]
  · isplitr; · iexact HI
    isplitl [HcsR]; · iexact HcsR
    isplitl [HclR]; · iexact HclR
    iexact HO
  iintro ⟨HczR, HO⟩
  iapply (wp_credit_last pv K KS false (Above.zero _) rfl rfl) $$ [HcsL HclL HO]
  · isplitr; · iexact HI
    isplitl [HcsL]; · iexact HcsL
    isplitl [HclL]; · iexact HclL
    iexact HO
  iintro ⟨HczL, HO⟩
  imod (ring_close pv K KS c true) $$ [HposR] with ⟨Hr0R, Hr1R, Hs0R, Hs1R⟩
  · isplitr; · iexact HI
    iexact HposR
  imod (ring_close pv K KS c false) $$ [HposL] with ⟨Hr0L, Hr1L, Hs0L, Hs1L⟩
  · isplitr; · iexact HI
    iexact HposL
  rw [wp_ret]
  imodintro
  isplitl [Hid]; · iexact Hid
  unfold bodyPost dirPost
  isplitl [Hq0R Hq1R Hr0R Hr1R Hs0R Hs1R HczR HacR HlbR HpR HlsR]
  · isplitl [Hq0R]; · iexact Hq0R
    isplitl [Hq1R]; · iexact Hq1R
    isplitl [Hr0R]; · iexact Hr0R
    isplitl [Hr1R]; · iexact Hr1R
    isplitl [Hs0R]; · iexact Hs0R
    isplitl [Hs1R]; · iexact Hs1R
    isplitl [HczR]; · iexact HczR
    isplitl [HacR]; · iapply (holds_any c (accM true) _); iexact HacR
    isplitl [HlbR]; · iexact HlbR
    isplitl [HpR]; · iexact HpR
    iexact HlsR
  isplitl [Hq0L Hq1L Hr0L Hr1L Hs0L Hs1L HczL HacL HlbL HpL HlsL]
  · isplitl [Hq0L]; · iexact Hq0L
    isplitl [Hq1L]; · iexact Hq1L
    isplitl [Hr0L]; · iexact Hr0L
    isplitl [Hr1L]; · iexact Hr1L
    isplitl [Hs0L]; · iexact Hs0L
    isplitl [Hs1L]; · iexact Hs1L
    isplitl [HczL]; · iexact HczL
    isplitl [HacL]; · iapply (holds_any c (accM false) _); iexact HacL
    isplitl [HlbL]; · iexact HlbL
    isplitl [HpL]; · iexact HpL
    iexact HlsL
  isplitl [Hbz]; · iexact Hbz
  isplitl [HobR]; · iexact HobR
  isplitl [HobL]; · iexact HobL
  isplitl [Hout]; · iexact Hout
  isplitl [HosR]; · iexact HosR
  isplitl [HosL]; · iexact HosL
  iexact HO

end Cert.KernelIdeal.Proofs

end
-- ==== Proof.KernelIdeal.Deal.lean ====
/-
  What each core starts with: the credits its neighbours owe it, and the tokens of the protocol, dealt around the ring.
-/
module

public import proofs.«01_k».proof.Proof.KernelIdeal.Body

@[expose] public section

noncomputable section

namespace Cert.KernelIdeal.Proofs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (released readerAt writeTok slotInv USlots)

variable {F : FTy → Type} [FloatOps F]

local notation "𝕄" => MT nD τ sig ℕ (Elt F) ℕ UU ℕ

variable (pv : Dev nD → main_v25.ty.Contents (Elt F)) (K : Dev nD × Kd → ℕ) (KS : KK → ℕ)

/-! ## Sums over steps -/

/-- A sum over a set with one more element, and over two sets apart. -/
theorem bigSep_ins {I : Type} [DecidableEq I] {s : Finset I} {i : I} (hi : i ∉ s) {Φ : I → sProp 𝕄} :
    bigSep (insert i s) Φ = iprop(Φ i ∗ bigSep s Φ) := bigSep_insert hi

/-- The credits given in the steps other than 31 are the credits 2 to 62, once each. -/
theorem bigSep_kc (X : ℕ → sProp 𝕄) :
    bigSep (Finset.Ico 0 62) (fun u => if u = 31 then iprop(emp) else X (kc u)) = bigSep (Finset.Icc 2 62) X := by
  have h1 : (Finset.Ico 0 62 : Finset ℕ) = (Finset.Ico 0 31 ∪ {31}) ∪ Finset.Ico 32 62 := by decide
  have h2 : (Finset.Icc 2 62 : Finset ℕ) = (Finset.Ico 0 31).map (addRightEmbedding 2) ∪ (Finset.Ico 32 62).map (addRightEmbedding 1) := by decide
  rw [h1, h2, bigSep_union (by decide), bigSep_union (by decide), bigSep_union (by decide), bigSep_singleton, bigSep_map, bigSep_map, if_pos rfl]
  have e1 : bigSep (Finset.Ico 0 31) (fun u => if u = 31 then iprop(emp) else X (kc u)) = bigSep (Finset.Ico 0 31) (fun u => X (addRightEmbedding 2 u)) := by
    refine bigSep_congr fun u hu => ?_
    have := (Finset.mem_Ico.mp hu).2
    rw [if_neg (by omega)]; unfold kc; rw [if_pos this]; rfl
  have e2 : bigSep (Finset.Ico 32 62) (fun u => if u = 31 then iprop(emp) else X (kc u)) = bigSep (Finset.Ico 32 62) (fun u => X (addRightEmbedding 1 u)) := by
    refine bigSep_congr fun u hu => ?_
    have := (Finset.mem_Ico.mp hu).1
    rw [if_neg (by omega)]; unfold kc; rw [if_neg (by omega)]; rfl
  rw [e1, e2]
  exact congrArg (fun z => BI.sep z _) (equiv_iff.mp sep_emp)

/-- The even and the odd steps together are the steps. -/
theorem bigSep_parity (f : Fin 2 → ℕ → sProp 𝕄) (n : ℕ) :
    iprop(bigSep (Finset.range n) (f 0) ∗ bigSep (Finset.range n) (f 1)) ⊢ bigSep (Finset.range (2 * n)) (fun u => f (sl u) (u / 2)) := by
  induction n with
  | zero => iintro -; rw [Nat.mul_zero, Finset.range_zero, bigSep_empty]; iempintro
  | succ n ih =>
    have e0 : sl (2 * n) = 0 := by unfold sl; simp
    have e1 : sl (2 * n + 1) = 1 := by unfold sl; simp [Nat.add_mod]
    have q0 : (2 * n) / 2 = n := by omega
    have q1 : (2 * n + 1) / 2 = n := by omega
    rw [show 2 * (n + 1) = 2 * n + 1 + 1 by ring, Finset.range_add_one, Finset.range_add_one, Finset.range_add_one,
      bigSep_ins (by simp), bigSep_ins (by simp), bigSep_ins (by simp), bigSep_ins (by simp), e0, e1, q0, q1]
    iintro ⟨⟨Ha, Hx⟩, ⟨Hb, Hy⟩⟩
    isplitl [Hb]; · iexact Hb
    isplitl [Ha]; · iexact Ha
    iapply ih
    isplitl [Hx] <;> iassumption

/-! ## Credits -/

/-- The credits of one direction: what pays for its waits. -/
def Cr (c : Dev nD) (b : Bool) : sProp 𝕄 :=
  iprop(bigSep (Finset.Ico 0 62) (fun u => cred (tallyAt (recvCell c b (sl u)) (la u) N))
    ∗ bigSep (Finset.Ico 0 62) (fun u => cred (tallyAt (credCell c b) (lc u) 1)) ∗ cred (tallyAt (credCell c b) (lc 62) 1))

/-- At launch a core has the arrival credits that its neighbour owes it. -/
theorem launch_oA (b : Bool) (c : Dev nD) : (Pipeline.launchCred (fun d => oA b d 0) c : sProp 𝕄)
    ⊢ bigSep (Finset.Ico 0 62) (fun u => cred (tallyAt (recvCell c b (sl u)) (la u) N)) := by
  rw [show (fun d => oA b d 0) = fun d : Dev nD => ∑ u ∈ Finset.Ico 0 62, (fun u d => tA b d u) u d from rfl, Pipeline.launchCred_sum]
  refine bigSep_mono fun u _ => ?_
  exact Pipeline.launchCred_tallyAt (Kd.recv b (sl u)).sem (nx b) (frm b) (nx_frm b) (frm_nx b) (la u) N c

/-- At launch a core has the slot credits that its neighbour owes it. -/
theorem launch_oC (b : Bool) (c : Dev nD) : (Pipeline.launchCred (fun d => oC b d 0) c : sProp 𝕄)
    ⊢ bigSep (Finset.Icc 2 62) (fun k => cred (tallyAt (credCell c b) (lc k) 1)) := by
  rw [show (fun d => oC b d 0) = fun d : Dev nD => ∑ u ∈ Finset.Ico 0 62, (fun u d => tC b d u) u d from rfl, Pipeline.launchCred_sum, ← bigSep_kc]
  refine bigSep_mono fun u _ => ?_
  unfold tC
  split
  · rw [Pipeline.launchCred_zero]; exact Entails.refl _
  · exact Pipeline.launchCred_tallyAt (Kd.cred b).sem (frm b) (nx b) (frm_nx b) (nx_frm b) (lc (kc u)) 1 c

/-- The credits 0 and 1 out of a device's own two, and those from its neighbour. -/
theorem cr_join (b : Bool) (c : Dev nD) :
    iprop(cred (tallyAt (credCell c b) 2 2) ∗ bigSep (Finset.Icc 2 62) (fun k => cred (tallyAt (credCell c b) (lc k) 1)))
      ⊢ (iprop(bigSep (Finset.Ico 0 62) (fun u => cred (tallyAt (credCell c b) (lc u) 1)) ∗ cred (tallyAt (credCell c b) (lc 62) 1)) : sProp 𝕄) := by
  have h1 : (Finset.Icc 2 62 : Finset ℕ) = insert 62 (Finset.Ico 2 62) := by decide
  have h2 : (Finset.Ico 0 62 : Finset ℕ) = insert 0 (insert 1 (Finset.Ico 2 62)) := by decide
  rw [h1, h2, bigSep_ins (by decide), bigSep_ins (by decide), bigSep_ins (by decide),
    show lc 0 = 2 from rfl, show lc 1 = 2 from rfl, ← tallyAt_add (credCell c b) 2 1 1]
  iintro ⟨H2, ⟨Hl, Hr⟩⟩
  ihave H2' := (cred_add _ _).1 $$ H2
  icases H2' with ⟨Ha, Hb⟩
  isplitr [Hl]
  · isplitl [Ha]; · iexact Ha
    isplitl [Hb]; · iexact Hb
    iexact Hr
  · iexact Hl

/-- A core's launch credit is what its waits take. -/
theorem launch_cred (c : Dev nD) : (Pipeline.launchCred O₀ c : sProp 𝕄) ⊢ iprop(Cr c true ∗ Cr c false ∗ cred (tallyAt (barCell c) 1 2)) := by
  have e : (O₀ : Dev nD → CellTallies nD τ sig ℕ) = fun d => (((((((oA true d 0 + oC true d 0) + oA false d 0) + oC false d 0)
      + tallyAt (credCell d false) 2 2) + tallyAt (credCell d true) 2 2) + tallyAt (barCell (rgt d)) 1 1) + tallyAt (barCell (lft d)) 1 1) := rfl
  rw [e]
  rw [Pipeline.launchCred_add (fun d => ((((((oA true d 0 + oC true d 0) + oA false d 0) + oC false d 0)
      + tallyAt (credCell d false) 2 2) + tallyAt (credCell d true) 2 2) + tallyAt (barCell (rgt d)) 1 1)) (fun d => tallyAt (barCell (lft d)) 1 1),
    Pipeline.launchCred_add (fun d => (((((oA true d 0 + oC true d 0) + oA false d 0) + oC false d 0)
      + tallyAt (credCell d false) 2 2) + tallyAt (credCell d true) 2 2)) (fun d => tallyAt (barCell (rgt d)) 1 1),
    Pipeline.launchCred_add (fun d => ((((oA true d 0 + oC true d 0) + oA false d 0) + oC false d 0)
      + tallyAt (credCell d false) 2 2)) (fun d => tallyAt (credCell d true) 2 2),
    Pipeline.launchCred_add (fun d => (((oA true d 0 + oC true d 0) + oA false d 0) + oC false d 0)) (fun d => tallyAt (credCell d false) 2 2),
    Pipeline.launchCred_add (fun d => ((oA true d 0 + oC true d 0) + oA false d 0)) (fun d => oC false d 0),
    Pipeline.launchCred_add (fun d => (oA true d 0 + oC true d 0)) (fun d => oA false d 0),
    Pipeline.launchCred_add (fun d => oA true d 0) (fun d => oC true d 0)]
  iintro ⟨⟨⟨⟨⟨⟨⟨HAt, HCt⟩, HAf⟩, HCf⟩, Hsf⟩, Hst⟩, Hbr⟩, Hbl⟩
  ihave HAt := (launch_oA true c) $$ HAt
  ihave HAf := (launch_oA false c) $$ HAf
  ihave HCt := (launch_oC true c) $$ HCt
  ihave HCf := (launch_oC false c) $$ HCf
  ihave Hsf := (Pipeline.launchCred_tallyAt (Kd.cred false).sem (fun d => d) (fun d => d) (fun _ => rfl) (fun _ => rfl) 2 2 c) $$ Hsf
  ihave Hst := (Pipeline.launchCred_tallyAt (Kd.cred true).sem (fun d => d) (fun d => d) (fun _ => rfl) (fun _ => rfl) 2 2 c) $$ Hst
  ihave Hbr := (Pipeline.launchCred_tallyAt Kd.bar.sem rgt lft (nx_frm true) (frm_nx true) 1 1 c) $$ Hbr
  ihave Hbl := (Pipeline.launchCred_tallyAt Kd.bar.sem lft rgt (nx_frm false) (frm_nx false) 1 1 c) $$ Hbl
  ihave Ht := (cr_join true c) $$ [Hst HCt]
  · isplitl [Hst]; · iexact Hst
    iexact HCt
  ihave Hf := (cr_join false c) $$ [Hsf HCf]
  · isplitl [Hsf]; · iexact Hsf
    iexact HCf
  unfold Cr
  isplitl [HAt Ht]
  · isplitl [HAt]; · iexact HAt
    iexact Ht
  isplitl [HAf Hf]
  · isplitl [HAf]; · iexact HAf
    iexact Hf
  rw [← tallyAt_add (barCell c) 1 1 1]
  iapply (cred_add _ _).2
  isplitl [Hbr] <;> iassumption

end Cert.KernelIdeal.Proofs

end
-- ==== Proof.KernelIdeal.Tokens.lean ====
/-
  The protocol's tokens, made at launch and dealt to the cores around the ring.
-/
module

public import proofs.«01_k».proof.Proof.KernelIdeal.Deal

@[expose] public section

noncomputable section

namespace Cert.KernelIdeal.Proofs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (released readerAt writeTok slotInv USlots)

variable {F : FTy → Type} [FloatOps F]

local notation "𝕄" => MT nD τ sig ℕ (Elt F) ℕ UU ℕ

variable (pv : Dev nD → main_v25.ty.Contents (Elt F)) (K : Dev nD × Kd → ℕ) (KS : KK → ℕ)

/-- A sum over pairs is a sum of sums. -/
theorem bigSep_times {I J : Type} [DecidableEq I] [DecidableEq J] (s : Finset I) (t : Finset J) (X : I × J → sProp 𝕄) :
    bigSep (s ×ˢ t) X = bigSep s fun i => bigSep t fun j => X (i, j) := by
  induction s using Finset.induction_on with
  | empty => rw [Finset.empty_product, bigSep_empty, bigSep_empty]
  | insert i s hi ih =>
    have hd : Disjoint (({i} : Finset I) ×ˢ t) (s ×ˢ t) := Finset.disjoint_product.mpr (Or.inl (Finset.disjoint_singleton_left.mpr hi))
    rw [bigSep_insert hi, Finset.insert_eq, Finset.union_product, bigSep_union hd, ih, Finset.singleton_product, bigSep_map]
    rfl

/-- The kinds of cell, listed. -/
def kdList : List Kd := [.bar, .cred true, .cred false, .send true 0, .send true 1, .send false 0, .send false 1, .recv true 0, .recv true 1, .recv false 0, .recv false 1]

instance : Fintype Kd := ⟨kdList.toFinset, fun k => by
  cases k with
  | bar => decide
  | cred b => cases b <;> decide
  | send b s => cases b <;> fin_cases s <;> decide
  | recv b s => cases b <;> fin_cases s <;> decide⟩

/-- A sum over the kinds of cell. -/
theorem bigSep_kd (X : Kd → sProp 𝕄) : bigSep Finset.univ X = iprop(X .bar ∗ X (.cred true) ∗ X (.cred false) ∗ X (.send true 0) ∗ X (.send true 1)
    ∗ X (.send false 0) ∗ X (.send false 1) ∗ X (.recv true 0) ∗ X (.recv true 1) ∗ X (.recv false 0) ∗ X (.recv false 1)) :=
  bigSep_univ_eq_bigSepL kdList (by decide) (by decide) X

/-- The cells live from the start, and those that come alive as a core takes its scoped semaphores. -/
def cellEmb : Dev nD × Kd ↪ GSem nD τ sig := ⟨fun p => cell p.1 p.2, fun p q h => Prod.ext (cell_inj h).1 (cell_inj h).2⟩
/-- The barrier cells. -/
def barCells : Finset (GSem nD τ sig) := (Finset.univ ×ˢ ({.bar} : Finset Kd)).map cellEmb
/-- The cells of the call. -/
def scCells : Finset (GSem nD τ sig) := (Finset.univ ×ˢ (Finset.univ.erase Kd.bar)).map cellEmb

/-- No cell is both. -/
theorem cells_disjoint : Disjoint barCells scCells := by
  unfold barCells scCells
  rw [Finset.disjoint_map]
  exact Finset.disjoint_product.mpr (Or.inr (by decide))

/-- Every cell of the protocol is one or the other. -/
theorem cell_mem (p : Dev nD × Kd) : cell p.1 p.2 ∈ barCells ∪ scCells := by
  by_cases h : p.2 = .bar
  · exact Finset.mem_union_left _ (Finset.mem_map_of_mem cellEmb (a := p) (Finset.mem_product.mpr ⟨Finset.mem_univ _, Finset.mem_singleton.mpr h⟩))
  · exact Finset.mem_union_right _ (Finset.mem_map_of_mem cellEmb (a := p) (Finset.mem_product.mpr ⟨Finset.mem_univ _, Finset.mem_erase.mpr ⟨h, Finset.mem_univ _⟩⟩))

/-- The duties' tokens: every cell's, for 31 rounds and 63 duties. -/
def tokEmb : (Dev nD × Kd) × ℕ × ℕ ↪ GSem nD τ sig × ℕ × ℕ := ⟨fun x => (cell x.1.1 x.1.2, x.2), fun x y h => by
  obtain ⟨h1, h2⟩ := Prod.mk.inj h
  exact Prod.ext (Prod.ext (cell_inj h1).1 (cell_inj h1).2) h2⟩
/-- The tokens made at launch: for every cell, 31 rounds of 63. -/
def tokSet : Finset (GSem nD τ sig × ℕ × ℕ) := (Finset.univ ×ˢ (Finset.range 31 ×ˢ Finset.range 63)).map tokEmb

/-- One cell's tokens. -/
def cellToks (c : Dev nD) (k : Kd) : sProp 𝕄 := bigSep (Finset.range 31) fun r => bigSep (Finset.range 63) fun d => dutyTok ER (cell c k) r d

/-- They are dealt by device and kind of cell. -/
theorem tokSet_split : bigSep tokSet (fun x => (dutyTok ER x.1 x.2.1 x.2.2 : sProp 𝕄))
    = bigSep Finset.univ fun c : Dev nD => bigSep Finset.univ fun k : Kd => cellToks c k := by
  unfold tokSet
  rw [bigSep_map, bigSep_times, bigSep_univ_prod]
  refine bigSep_congr fun c _ => bigSep_congr fun k _ => ?_
  rw [bigSep_times]
  rfl

/-- The tokens of the arrivals and of the departures of a direction, by steps. -/
def H1 (c : Dev nD) (b : Bool) : sProp 𝕄 := bigSep (Finset.Ico 0 62) fun u => dutyTok ER (sendCell c b (sl u)) (u / 2) 0
/-- The tokens for the arrivals at a device. -/
def H2 (c : Dev nD) (b : Bool) : sProp 𝕄 := bigSep (Finset.Ico 0 62) fun u => dutyTok ER (recvCell c b (sl u)) (u / 2) 0
/-- The tokens of the writes to a device's slots. -/
def H3 (c : Dev nD) (b : Bool) : sProp 𝕄 := bigSep (Finset.Ico 0 62) fun u => writeTok ES (c, b, sl u) (u / 2 + 1)
/-- The tokens of the credits a device is given. -/
def H5 (c : Dev nD) (b : Bool) : sProp 𝕄 := bigSep (Finset.Ico 0 62) fun u => if u = 31 then iprop(emp) else dutyTok ER (credCell c b) 0 (kc u)

/-- A cell's tokens have the first of each round. -/
theorem cellToks_zero (c : Dev nD) (k : Kd) : (cellToks c k : sProp 𝕄) ⊢ bigSep (Finset.range 31) fun r => dutyTok ER (cell c k) r 0 := by
  unfold cellToks
  exact bigSep_mono fun r _ => bigSep_elim (Finset.mem_range.mpr (by decide))

/-- The tokens of two send cells are those of a device's departures. -/
theorem cellToks_H1 (c : Dev nD) (b : Bool) : iprop(cellToks c (.send b 0) ∗ cellToks c (.send b 1)) ⊢ (H1 c b : sProp 𝕄) := by
  iintro ⟨Ha, Hb⟩
  ihave Ha := (cellToks_zero c (.send b 0)) $$ Ha
  ihave Hb := (cellToks_zero c (.send b 1)) $$ Hb
  iapply (show _ ⊢ (H1 c b : sProp 𝕄) from (bigSep_parity (fun s r => (dutyTok ER (sendCell c b s) r 0 : sProp 𝕄)) 31).trans (Entails.of_eq (by unfold H1; rw [Finset.range_eq_Ico])))
  isplitl [Ha] <;> iassumption

/-- The tokens of two receive cells are those of the arrivals at a device. -/
theorem cellToks_H2 (c : Dev nD) (b : Bool) : iprop(cellToks c (.recv b 0) ∗ cellToks c (.recv b 1)) ⊢ (H2 c b : sProp 𝕄) := by
  iintro ⟨Ha, Hb⟩
  ihave Ha := (cellToks_zero c (.recv b 0)) $$ Ha
  ihave Hb := (cellToks_zero c (.recv b 1)) $$ Hb
  iapply (show _ ⊢ (H2 c b : sProp 𝕄) from (bigSep_parity (fun s r => (dutyTok ER (recvCell c b s) r 0 : sProp 𝕄)) 31).trans (Entails.of_eq (by unfold H2; rw [Finset.range_eq_Ico])))
  isplitl [Ha] <;> iassumption

/-- The tokens of a credit cell are the device's own and its neighbour's. -/
theorem cellToks_cred (c : Dev nD) (b : Bool) : (cellToks c (.cred b) : sProp 𝕄) ⊢ iprop(dutyTok ER (credCell c b) 0 0 ∗ H5 c b) := by
  unfold cellToks H5
  rw [bigSep_kc (fun k => dutyTok ER (credCell c b) 0 k)]
  refine (bigSep_elim (Finset.mem_range.mpr (by decide : 0 < 31))).trans ?_
  refine (bigSep_subset (show insert 0 (Finset.Icc 2 62) ⊆ Finset.range 63 by decide)).trans ?_
  rw [bigSep_ins (by decide)]
  exact Entails.refl _

/-- The tokens of a barrier are its two neighbours'. -/
theorem cellToks_bar (c : Dev nD) : (cellToks c .bar : sProp 𝕄) ⊢ iprop(dutyTok ER (barCell c) 0 0 ∗ dutyTok ER (barCell c) 0 1) := by
  unfold cellToks
  refine (bigSep_elim (Finset.mem_range.mpr (by decide : 0 < 31))).trans ?_
  refine (bigSep_subset (show insert 0 {1} ⊆ Finset.range 63 by decide)).trans ?_
  rw [bigSep_ins (by decide), bigSep_singleton]
  exact Entails.refl _

/-- A direction's tokens, at the device whose cells they are of. -/
def Home (c : Dev nD) (b : Bool) : sProp 𝕄 :=
  iprop(H1 c b ∗ H2 c b ∗ H3 c b ∗ H5 c b ∗ dutyTok ER (credCell c b) 0 0 ∗ dutyTok ER (barCell c) 0 b.toNat ∗ reached ER (barCell c) 0
    ∗ readerAt ES (c, b, 0) 0 ∗ readerAt ES (c, b, 1) 0)
/-- A direction's tokens, at the device that spends them. -/
def Deal (c : Dev nD) (b : Bool) : sProp 𝕄 :=
  iprop(H1 c b ∗ H2 (nx b c) b ∗ H3 (nx b c) b ∗ H5 (frm b c) b ∗ dutyTok ER (credCell c b) 0 0 ∗ dutyTok ER (barCell (frm b c)) 0 b.toNat ∗ reached ER (barCell (frm b c)) 0
    ∗ readerAt ES (c, b, 0) 0 ∗ readerAt ES (c, b, 1) 0)

/-- Every device's tokens are passed to the devices that spend them. -/
theorem turn (b : Bool) : bigSep Finset.univ (fun c : Dev nD => (Home c b : sProp 𝕄)) ⊢ bigSep Finset.univ (fun c : Dev nD => Deal c b) := by
  unfold Home Deal
  rw [bigSep_sep', bigSep_sep', bigSep_sep', bigSep_sep', bigSep_sep', bigSep_sep', bigSep_sep', bigSep_sep',
    bigSep_sep', bigSep_sep', bigSep_sep', bigSep_sep', bigSep_sep', bigSep_sep', bigSep_sep', bigSep_sep',
    bigSep_univ_equiv (ring b) (fun c : Dev nD => (H2 c b : sProp 𝕄)), bigSep_univ_equiv (ring b) (fun c : Dev nD => (H3 c b : sProp 𝕄)),
    bigSep_univ_equiv (ring b).symm (fun c : Dev nD => (H5 c b : sProp 𝕄)), bigSep_univ_equiv (ring b).symm (fun c : Dev nD => (dutyTok ER (barCell c) 0 b.toNat : sProp 𝕄)),
    bigSep_univ_equiv (ring b).symm (fun c : Dev nD => (reached ER (barCell c) 0 : sProp 𝕄))]
  exact Entails.refl _

/-- What a core spends over the steps, out of its tokens and credits. -/
theorem toks_join (c : Dev nD) (b : Bool) :
    iprop(H1 c b ∗ H2 (nx b c) b ∗ H3 (nx b c) b ∗ H5 (frm b c) b ∗ bigSep (Finset.Ico 0 62) (fun u => cred (tallyAt (recvCell c b (sl u)) (la u) N))
      ∗ bigSep (Finset.Ico 0 62) (fun u => cred (tallyAt (credCell c b) (lc u) 1))) ⊢ (toks c b 0 : sProp 𝕄) := by
  unfold toks stepTok H1 H2 H3 H5
  rw [bigSep_sep', bigSep_sep', bigSep_sep', bigSep_sep', bigSep_sep']
  iintro ⟨H1, H2, H3, H5, Hr, Hc⟩
  isplitl [H1]; · iexact H1
  isplitl [H2]; · iexact H2
  isplitl [H3]; · iexact H3
  isplitl [Hc]; · iexact Hc
  isplitl [Hr]; · iexact Hr
  iexact H5

/-! ## The launch -/

/-- The slots, by device and direction: the readers' positions and the tokens of the writes. -/
theorem slots_split (c : Dev nD) (b : Bool) :
    iprop((bigSep (Finset.range 31) fun r => writeTok ES (c, b, (0 : Fin 2)) (r + 1)) ∗ bigSep (Finset.range 31) fun r => writeTok ES (c, b, (1 : Fin 2)) (r + 1))
      ⊢ (H3 c b : sProp 𝕄) :=
  (bigSep_parity (fun s r => (writeTok ES (c, b, s) (r + 1) : sProp 𝕄)) 31).trans (Entails.of_eq (by unfold H3; rw [Finset.range_eq_Ico]))

/-- The scoped cells of a core, not yet alive. -/
def Opens (c : Dev nD) : sProp 𝕄 := bigSep (Finset.univ.erase Kd.bar) fun k => openTok ER (cell c k)

/-- Over the two directions is one and the other. -/
theorem bigSep_bool (X : Bool → sProp 𝕄) : bigSep Finset.univ X = iprop(X true ∗ X false) :=
  bigSep_univ_eq_bigSepL [true, false] (by decide) (by decide) X

/-- The slots' part of the launch, device by device. -/
def SlotHome (c : Dev nD) (b : Bool) : sProp 𝕄 := iprop(H3 c b ∗ readerAt ES (c, b, 0) 0 ∗ readerAt ES (c, b, 1) 0)

/-- The slots' state at launch, dealt by device and direction. -/
theorem slots_home : iprop(bigSep (Finset.univ : Finset KK) (fun k => readerAt ES k 0) ∗ bigSep ((Finset.univ : Finset KK) ×ˢ Finset.range 31) (fun x => writeTok ES x.1 (x.2 + 1)))
    ⊢ (bigSep Finset.univ fun c : Dev nD => iprop(SlotHome c true ∗ SlotHome c false) : sProp 𝕄) := by
  rw [bigSep_times, ← bigSep_sep', bigSep_univ_prod]
  refine bigSep_mono fun c _ => ?_
  rw [bigSep_univ_prod, bigSep_bool, BI.bigSep_fin_two, BI.bigSep_fin_two]
  show (iprop(((_ ∗ _) ∗ (_ ∗ _)) ∗ ((_ ∗ _) ∗ (_ ∗ _))) : sProp 𝕄) ⊢ _
  iintro ⟨⟨⟨Ra, Wa⟩, ⟨Rb, Wb⟩⟩, ⟨⟨Ra', Wa'⟩, ⟨Rb', Wb'⟩⟩⟩
  unfold SlotHome
  isplitl [Ra Wa Rb Wb]
  · isplitl [Wa Wb]
    · iapply (slots_split c true)
      isplitl [Wa] <;> iassumption
    isplitl [Ra] <;> iassumption
  · isplitl [Wa' Wb']
    · iapply (slots_split c false)
      isplitl [Wa'] <;> iassumption
    isplitl [Ra'] <;> iassumption

/-- The cells' part of the launch, device by device. -/
theorem toks_home (c : Dev nD) :
    iprop((bigSep Finset.univ fun k : Kd => cellToks c k) ∗ reached ER (barCell c) 0 ∗ SlotHome c true ∗ SlotHome c false)
      ⊢ (iprop(Home c true ∗ Home c false) : sProp 𝕄) := by
  rw [bigSep_kd]
  unfold SlotHome
  iintro ⟨⟨Hb, Ct, Cf, St0, St1, Sf0, Sf1, Rt0, Rt1, Rf0, Rf1⟩, #Hr, ⟨W, Ra, Rb⟩, ⟨W', Ra', Rb'⟩⟩
  ihave Hb := (cellToks_bar c) $$ Hb
  icases Hb with ⟨B0, B1⟩
  ihave Ct := (cellToks_cred c true) $$ Ct
  icases Ct with ⟨Z, Ct⟩
  ihave Cf := (cellToks_cred c false) $$ Cf
  icases Cf with ⟨Z', Cf⟩
  ihave St := (cellToks_H1 c true) $$ [St0 St1]
  · isplitl [St0] <;> iassumption
  ihave Sf := (cellToks_H1 c false) $$ [Sf0 Sf1]
  · isplitl [Sf0] <;> iassumption
  ihave Rt := (cellToks_H2 c true) $$ [Rt0 Rt1]
  · isplitl [Rt0] <;> iassumption
  ihave Rf := (cellToks_H2 c false) $$ [Rf0 Rf1]
  · isplitl [Rf0] <;> iassumption
  unfold Home
  isplitl [St Rt W Ct Z B1 Ra Rb]
  · isplitl [St]; · iexact St
    isplitl [Rt]; · iexact Rt
    isplitl [W]; · iexact W
    isplitl [Ct]; · iexact Ct
    isplitl [Z]; · iexact Z
    isplitl [B1]; · iexact B1
    isplitr; · iexact Hr
    isplitl [Ra] <;> iassumption
  · isplitl [Sf]; · iexact Sf
    isplitl [Rf]; · iexact Rf
    isplitl [W']; · iexact W'
    isplitl [Cf]; · iexact Cf
    isplitl [Z']; · iexact Z'
    isplitl [B0]; · iexact B0
    isplitr; · iexact Hr
    isplitl [Ra'] <;> iassumption

/-- What a core has of the protocol when the kernel is called. -/
def Dealt (c : Dev nD) : sProp 𝕄 := iprop(Deal c true ∗ Deal c false ∗ atPos ER (barCell c) 0 ∅ 0 ∗ Opens c)

/-- The invariants, without the levels. -/
def Invs : sProp 𝕄 :=
  iprop((∀ p : Dev nD × Kd, cellInv ER (Rd pv) (K p) (cell p.1 p.2)) ∗ (∀ k : KK, slotInv ES (KS k) k (slotRes k)))

instance Invs_persistent : BI.Persistent (Invs pv K KS) := by unfold Invs; infer_instance

/-- The protocol made: from the barriers' counters at zero and the tokens' element. -/
theorem fund {Es : Set ℕ} :
    iprop((bigSep Finset.univ fun c : Dev nD => semVal (barCell c) 0) ∗ BI.own (ER (Rounds.launchOf barCells scCells tokSet)) ∗ BI.own (ES (Release.initSlots (Finset.univ : Finset KK) 31)))
      ⊢ (iprop(|={Es}=> ∃ K KS, Invs pv K KS ∗ bigSep Finset.univ fun c : Dev nD => Dealt c) : sProp 𝕄) := by
  iintro ⟨Hs, HR, HS⟩
  have hsv : (bigSep Finset.univ fun c : Dev nD => semVal (barCell c) 0) ⊢ (bigSep barCells (fun g => semVal g 0) : sProp 𝕄) := by
    unfold barCells
    rw [bigSep_map, bigSep_times]
    refine bigSep_mono fun c _ => ?_
    rw [bigSep_singleton]
    exact Entails.refl _
  ihave Hs := hsv $$ Hs
  imod (Rounds.fund_launch ER (Rd pv) cells_disjoint (fun g _ h => h) tokSet) $$ [Hs HR] with HF
  · isplitl [Hs] <;> iassumption
  icases HF with ⟨%κ, -, #HI, Hre, Hat, Hop, HT⟩
  imod (Release.slots_init ES (Finset.univ : Finset KK) 31 (slotRes (F := F))) $$ HS with HF
  icases HF with ⟨%ιs, -, #HJ, Hrd, Hwr⟩
  imodintro
  iexists (fun p : Dev nD × Kd => κ (cell p.1 p.2)), ιs
  isplitr
  · unfold Invs
    isplitr
    · iintro %p
      iapply (show bigSep (barCells ∪ scCells) (fun g => cellInv ER (Rd pv) (κ g) g) ⊢ cellInv ER (Rd pv) (κ (cell p.1 p.2)) (cell p.1 p.2) from bigSep_elim (cell_mem p))
      iexact HI
    · iintro %k
      iapply (show bigSep Finset.univ (fun k : KK => slotInv ES (ιs k) k (slotRes k)) ⊢ slotInv ES (ιs k) k (slotRes k) from bigSep_elim (Finset.mem_univ k))
      iexact HJ
  have hre : bigSep barCells (fun g => (reached ER g 0 : sProp 𝕄)) ⊢ bigSep Finset.univ fun c : Dev nD => reached ER (barCell c) 0 := by
    unfold barCells
    rw [bigSep_map, bigSep_times]
    refine bigSep_mono fun c _ => ?_
    rw [bigSep_singleton]
    exact Entails.refl _
  have hat : bigSep barCells (fun g => (atPos ER g 0 ∅ 0 : sProp 𝕄)) ⊢ bigSep Finset.univ fun c : Dev nD => atPos ER (barCell c) 0 ∅ 0 := by
    unfold barCells
    rw [bigSep_map, bigSep_times]
    refine bigSep_mono fun c _ => ?_
    rw [bigSep_singleton]
    exact Entails.refl _
  have hop : bigSep scCells (fun g => (openTok ER g : sProp 𝕄)) ⊢ bigSep Finset.univ fun c : Dev nD => Opens c := by
    unfold scCells
    rw [bigSep_map, bigSep_times]
    exact Entails.refl _
  have hho : iprop((bigSep Finset.univ fun c : Dev nD => bigSep Finset.univ fun k : Kd => cellToks c k) ∗ (bigSep Finset.univ fun c : Dev nD => reached ER (barCell c) 0)
      ∗ (bigSep Finset.univ fun c : Dev nD => iprop(SlotHome c true ∗ SlotHome c false)))
        ⊢ (iprop((bigSep Finset.univ fun c : Dev nD => Deal c true) ∗ (bigSep Finset.univ fun c : Dev nD => Deal c false)) : sProp 𝕄) := by
    rw [← bigSep_sep', ← bigSep_sep']
    refine (bigSep_mono fun c _ => toks_home c).trans ?_
    rw [bigSep_sep']
    exact BI.sep_mono (turn true) (turn false)
  ihave Hre := hre $$ Hre
  ihave Hat := hat $$ Hat
  ihave Hop := hop $$ Hop
  ihave HT := (Entails.of_eq tokSet_split) $$ HT
  ihave Hsl := slots_home $$ [Hrd Hwr]
  · isplitl [Hrd] <;> iassumption
  ihave HD := hho $$ [HT Hre Hsl]
  · isplitl [HT]; · iexact HT
    isplitl [Hre] <;> iassumption
  icases HD with ⟨Dt, Df⟩
  unfold Dealt
  rw [bigSep_sep', bigSep_sep', bigSep_sep']
  isplitl [Dt]; · iexact Dt
  isplitl [Df]; · iexact Df
  isplitl [Hat] <;> iassumption

end Cert.KernelIdeal.Proofs

end
-- ==== Proof.KernelIdeal.Host.lean ====
/-
  What the host code before the kernel leaves: the partial product, and the three words the kernel reads.
-/
module

public import proofs.«01_k».proof.Proof.KernelIdeal.Body
public import proofs.«01_k».proof.Proof.Gen.KernelIdeal.Regions
public import Idealize.ShloMosaic.Lib.Pointwise.SelectCore

@[expose] public section

noncomputable section

namespace Cert.KernelIdeal.Proofs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (released readerAt writeTok slotInv USlots)

variable {F : FTy → Type} [FloatOps F]

local notation "𝕄" => MT nD τ sig ℕ (Elt F) ℕ UU ℕ

variable (pv : Dev nD → main_v25.ty.Contents (Elt F)) (K : Dev nD × Kd → ℕ) (KS : KK → ℕ)

variable (m : (ℓ : Loc nD τ sig) → Buf (Elt F) ℓ)

/-- A device's partial product. -/
def pvOf (c : Dev nD) : main_v25.ty.Contents (Elt F) :=
  truncf .bf16 (Host.dotGeneral dot_S4096x128_S128x8192_S4096x8192_1_0_0_1_n_n none (m ((c : Thread nD τ).loc main_arg0)) (m ((c : Thread nD τ).loc main_arg1)) : FVec F S4096x8192 .f32) bitsLt_bf16_f32

/-- Before the call, the kernel's operand is the partial product. -/
theorem V1_v25 (c : Dev nD) : Gen.V1 m c main_v25 = pvOf m c := by
  show StableHlo.after (hostOps0 c) (Gen.V0 m c) (Proc.devRef .tc main_v25) = _
  after_results
  rfl

/-- The index of a device, as the host code computes it. -/
def hw (c : Dev nD) : BitVec 32 := IntOp.remui .host (IntOp.divui .host (Dev.word c) 1#32) 32#32
/-- The place in a table of 32 it reads for an index. -/
def hx (w : BitVec 32) : BitVec 32 := if IntOp.cmpi .slt w 0#32 = 1#1 then IntOp.addi w 32#32 else w
/-- A table's word at that place. -/
def hr (t : S32.Idx → BitVec 32) (w : BitVec 32) : BitVec 32 :=
  Host.dynamicSlice S1 t (fun _ => (hx w).toInt) sliceFits_S32_S1 (Shape.Idx.first (by decide))

/-- The host line in pieces: the index, the three reads of a table, the gathering. -/
def hA (c : Dev nD) : List (HloOp τ sig (Elt F)) :=
  [ StableHlo.nullary main_c (fun i => lit0 (S32.rowMajor i)),
    StableHlo.nullary main_c_0 (fun i => lit1 (S32.rowMajor i)),
    StableHlo.nullary main_c_1 (fun i => lit2 (S32.rowMajor i)),
    StableHlo.binary main_arg0 main_arg1 main_v1 ((fun l r => Host.dotGeneral dot_S4096x128_S128x8192_S4096x8192_1_0_0_1_n_n none l r) : (⟨S4096x128, .bf16⟩ : BufTy).Contents (Elt F) → (⟨S128x8192, .bf16⟩ : BufTy).Contents (Elt F) → (⟨S4096x8192, .f32⟩ : BufTy).Contents (Elt F)),
    StableHlo.nullary main_c_2 (constantI S_ 32 1#32),
    StableHlo.nullary main_c_3 (constantI S_ 32 32#32),
    StableHlo.nullary main_v2 (constantI S_ 32 (Dev.word c)),
    StableHlo.binary main_v2 main_c_2 main_v3 (Host.divui : (⟨S_, .i32⟩ : BufTy).Contents (Elt F) → (⟨S_, .i32⟩ : BufTy).Contents (Elt F) → (⟨S_, .i32⟩ : BufTy).Contents (Elt F)),
    StableHlo.binary main_v3 main_c_3 main_v4 (Host.remui : (⟨S_, .i32⟩ : BufTy).Contents (Elt F) → (⟨S_, .i32⟩ : BufTy).Contents (Elt F) → (⟨S_, .i32⟩ : BufTy).Contents (Elt F)),
    StableHlo.unary main_v4 main_v5 (id : (⟨S_, .i32⟩ : BufTy).Contents (Elt F) → (⟨S_, .i32⟩ : BufTy).Contents (Elt F)) ]
/-- The read of table 0. -/
def hB0 : List (HloOp τ sig (Elt F)) :=
  [ StableHlo.nullary main_c_4 (constantI S_ 32 0#32),
    StableHlo.binary main_v5 main_c_4 main_v6 (cmpi .slt : (⟨S_, .i32⟩ : BufTy).Contents (Elt F) → (⟨S_, .i32⟩ : BufTy).Contents (Elt F) → (⟨S_, .i1⟩ : BufTy).Contents (Elt F)),
    StableHlo.nullary main_c_5 (constantI S_ 32 32#32),
    StableHlo.binary main_v5 main_c_5 main_v7 (addi : (⟨S_, .i32⟩ : BufTy).Contents (Elt F) → (⟨S_, .i32⟩ : BufTy).Contents (Elt F) → (⟨S_, .i32⟩ : BufTy).Contents (Elt F)),
    StableHlo.ternary main_v6 main_v7 main_v5 main_v8 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_c ![main_v8] ⟨S_, .i32⟩ main_v9 ((fun x i => Host.dynamicSlice S1 x (fun k => (i k (Shape.Idx.first h_S_)).toInt) sliceFits_S32_S1) : (⟨S32, .i32⟩ : BufTy).Contents (Elt F) → (Fin 1 → (⟨S_, .i32⟩ : BufTy).Contents (Elt F)) → (⟨S1, .i32⟩ : BufTy).Contents (Elt F)),
    StableHlo.reshape main_v9 main_v10 (rfl : (.i32 : EltTy) = .i32) shapeCasts_S1_S_ ]
/-- The read of table 1. -/
def hB1 : List (HloOp τ sig (Elt F)) :=
  [ StableHlo.nullary main_c_6 (constantI S_ 32 0#32),
    StableHlo.binary main_v5 main_c_6 main_v11 (cmpi .slt : (⟨S_, .i32⟩ : BufTy).Contents (Elt F) → (⟨S_, .i32⟩ : BufTy).Contents (Elt F) → (⟨S_, .i1⟩ : BufTy).Contents (Elt F)),
    StableHlo.nullary main_c_7 (constantI S_ 32 32#32),
    StableHlo.binary main_v5 main_c_7 main_v12 (addi : (⟨S_, .i32⟩ : BufTy).Contents (Elt F) → (⟨S_, .i32⟩ : BufTy).Contents (Elt F) → (⟨S_, .i32⟩ : BufTy).Contents (Elt F)),
    StableHlo.ternary main_v11 main_v12 main_v5 main_v13 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_c_0 ![main_v13] ⟨S_, .i32⟩ main_v14 ((fun x i => Host.dynamicSlice S1 x (fun k => (i k (Shape.Idx.first h_S_)).toInt) sliceFits_S32_S1) : (⟨S32, .i32⟩ : BufTy).Contents (Elt F) → (Fin 1 → (⟨S_, .i32⟩ : BufTy).Contents (Elt F)) → (⟨S1, .i32⟩ : BufTy).Contents (Elt F)),
    StableHlo.reshape main_v14 main_v15 (rfl : (.i32 : EltTy) = .i32) shapeCasts_S1_S_ ]
/-- The read of table 2. -/
def hB2 : List (HloOp τ sig (Elt F)) :=
  [ StableHlo.nullary main_c_8 (constantI S_ 32 0#32),
    StableHlo.binary main_v5 main_c_8 main_v16 (cmpi .slt : (⟨S_, .i32⟩ : BufTy).Contents (Elt F) → (⟨S_, .i32⟩ : BufTy).Contents (Elt F) → (⟨S_, .i1⟩ : BufTy).Contents (Elt F)),
    StableHlo.nullary main_c_9 (constantI S_ 32 32#32),
    StableHlo.binary main_v5 main_c_9 main_v17 (addi : (⟨S_, .i32⟩ : BufTy).Contents (Elt F) → (⟨S_, .i32⟩ : BufTy).Contents (Elt F) → (⟨S_, .i32⟩ : BufTy).Contents (Elt F)),
    StableHlo.ternary main_v16 main_v17 main_v5 main_v18 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_c_1 ![main_v18] ⟨S_, .i32⟩ main_v19 ((fun x i => Host.dynamicSlice S1 x (fun k => (i k (Shape.Idx.first h_S_)).toInt) sliceFits_S32_S1) : (⟨S32, .i32⟩ : BufTy).Contents (Elt F) → (Fin 1 → (⟨S_, .i32⟩ : BufTy).Contents (Elt F)) → (⟨S1, .i32⟩ : BufTy).Contents (Elt F)),
    StableHlo.reshape main_v19 main_v20 (rfl : (.i32 : EltTy) = .i32) shapeCasts_S1_S_ ]
/-- The gathering. -/
def hC : List (HloOp τ sig (Elt F)) :=
  [ StableHlo.unary main_v10 main_v21 (broadcastInDim S1 ![] bcast_S_S1 : (⟨S_, .i32⟩ : BufTy).Contents (Elt F) → (⟨S1, .i32⟩ : BufTy).Contents (Elt F)),
    StableHlo.unary main_v15 main_v22 (broadcastInDim S1 ![] bcast_S_S1 : (⟨S_, .i32⟩ : BufTy).Contents (Elt F) → (⟨S1, .i32⟩ : BufTy).Contents (Elt F)),
    StableHlo.unary main_v20 main_v23 (broadcastInDim S1 ![] bcast_S_S1 : (⟨S_, .i32⟩ : BufTy).Contents (Elt F) → (⟨S1, .i32⟩ : BufTy).Contents (Elt F)),
    StableHlo.nary ![main_v21, main_v22, main_v23] main_v24 (fun u => (concatenate S3 0 [⟨S1, (u 0 : (⟨S1, .i32⟩ : BufTy).Contents (Elt F))⟩, ⟨S1, (u 1 : (⟨S1, .i32⟩ : BufTy).Contents (Elt F))⟩, ⟨S1, (u 2 : (⟨S1, .i32⟩ : BufTy).Contents (Elt F))⟩] concatenates_S1_S1_S1_S3_d0 : (⟨S3, .i32⟩ : BufTy).Contents (Elt F))),
    StableHlo.unary main_v1 main_v25 ((truncf .bf16 · bitsLt_bf16_f32) : (⟨S4096x8192, .f32⟩ : BufTy).Contents (Elt F) → (⟨S4096x8192, .bf16⟩ : BufTy).Contents (Elt F)) ]

/-- The host operations, in five groups. -/
theorem hostOps0_eq (c : Dev nD) : (hostOps0 c : List (HloOp τ sig (Elt F))) = hA c ++ (hB0 ++ (hB1 ++ (hB2 ++ hC))) := rfl

/-- A line in two pieces. -/
theorem after_two (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

/-- An array of one element has one index. -/
theorem s1_one (i j : S1.Idx) : i = j := by
  funext k
  fin_cases k
  exact Fin.ext (by have h : (i 0).val < 1 := (i 0).isLt; have h' : (j 0).val < 1 := (j 0).isLt; exact (Nat.lt_one_iff.mp h).trans (Nat.lt_one_iff.mp h').symm)

/-- A scalar has one index. -/
theorem s0_one (i j : S_.Idx) : i = j := by
  funext k
  exact k.elim0

private theorem cat3 {α : Type} (a b d : S1.Idx → α) :
    (concatenate S3 0 [⟨S1, a⟩, ⟨S1, b⟩, ⟨S1, d⟩] concatenates_S1_S1_S1_S3_d0 : S3.Idx → α) (ix3 0) = a (Shape.Idx.first (by decide))
    ∧ (concatenate S3 0 [⟨S1, a⟩, ⟨S1, b⟩, ⟨S1, d⟩] concatenates_S1_S1_S1_S3_d0 : S3.Idx → α) (ix3 1) = b (Shape.Idx.first (by decide))
    ∧ (concatenate S3 0 [⟨S1, a⟩, ⟨S1, b⟩, ⟨S1, d⟩] concatenates_S1_S1_S1_S3_d0 : S3.Idx → α) (ix3 2) = d (Shape.Idx.first (by decide)) := by
  refine ⟨?_, ?_, ?_⟩ <;> rw [concatenate_apply] <;> simp only [concatenateAt_cons, concatenateAt_singleton]
  · rw [dif_pos (by show _ < 1; exact Nat.zero_lt_one)]; congr 1; exact s1_one _ _
  · rw [dif_neg (by show ¬ _ < 1; decide), dif_pos (by show _ < 1; exact Nat.zero_lt_one)]; congr 1; exact s1_one _ _
  · rw [dif_neg (by show ¬ _ < 1; decide), dif_neg (by show ¬ 2 - 1 < 1; decide)]; congr 1; exact s1_one _ _

section
variable (W : Valuation τ sig (Elt F))
/-- The last group puts the three words into one array. -/
theorem hC_v24 : (StableHlo.after hC W (Proc.devRef (sig := sig) Proc.tc main_v24) : S3.Idx → BitVec 32) (ix3 0) = (W (Proc.devRef (sig := sig) Proc.tc main_v10) : S_.Idx → BitVec 32) (Shape.Idx.first h_S_)
    ∧ (StableHlo.after hC W (Proc.devRef (sig := sig) Proc.tc main_v24) : S3.Idx → BitVec 32) (ix3 1) = (W (Proc.devRef (sig := sig) Proc.tc main_v15) : S_.Idx → BitVec 32) (Shape.Idx.first h_S_)
    ∧ (StableHlo.after hC W (Proc.devRef (sig := sig) Proc.tc main_v24) : S3.Idx → BitVec 32) (ix3 2) = (W (Proc.devRef (sig := sig) Proc.tc main_v20) : S_.Idx → BitVec 32) (Shape.Idx.first h_S_) := by
  unfold hC
  after_results
  have h := cat3 (broadcastInDim S1 ![] bcast_S_S1 (W (Proc.devRef (sig := sig) Proc.tc main_v10) : S_.Idx → BitVec 32)) (broadcastInDim S1 ![] bcast_S_S1 (W (Proc.devRef (sig := sig) Proc.tc main_v15) : S_.Idx → BitVec 32)) (broadcastInDim S1 ![] bcast_S_S1 (W (Proc.devRef (sig := sig) Proc.tc main_v20) : S_.Idx → BitVec 32))
  refine ⟨Eq.trans ?_ (h.1.trans ?_), Eq.trans ?_ (h.2.1.trans ?_), Eq.trans ?_ (h.2.2.trans ?_)⟩
  · rfl
  · exact congrArg _ (s0_one _ _)
  · rfl
  · exact congrArg _ (s0_one _ _)
  · rfl
  · exact congrArg _ (s0_one _ _)

/-- The second group reads its table at the device's number. -/
theorem hB0_res : (StableHlo.after hB0 W (Proc.devRef (sig := sig) Proc.tc main_v10) : S_.Idx → BitVec 32) (Shape.Idx.first h_S_) = hr (W (Proc.devRef (sig := sig) Proc.tc main_c)) ((W (Proc.devRef (sig := sig) Proc.tc main_v5) : S_.Idx → BitVec 32) (Shape.Idx.first h_S_)) := by
  unfold hB0
  after_results
  refine Eq.trans (b := Host.dynamicSlice S1 (W (Proc.devRef (sig := sig) Proc.tc main_c)) _ sliceFits_S32_S1 _) rfl (congr (congrArg (fun s => Host.dynamicSlice S1 (W (Proc.devRef (sig := sig) Proc.tc main_c) : S32.Idx → BitVec 32) s sliceFits_S32_S1) (funext fun k => ?_)) (s1_one _ _))
  obtain rfl : k = 0 := Subsingleton.elim k 0
  rfl

/-- It leaves the device's number. -/
theorem hB0_main_v5 : StableHlo.after hB0 W (Proc.devRef (sig := sig) Proc.tc main_v5) = W (Proc.devRef (sig := sig) Proc.tc main_v5) := by
  unfold hB0
  after_results

/-- It leaves the second table. -/
theorem hB0_main_c_0 : StableHlo.after hB0 W (Proc.devRef (sig := sig) Proc.tc main_c_0) = W (Proc.devRef (sig := sig) Proc.tc main_c_0) := by
  unfold hB0
  after_results

/-- It leaves the third table. -/
theorem hB0_main_c_1 : StableHlo.after hB0 W (Proc.devRef (sig := sig) Proc.tc main_c_1) = W (Proc.devRef (sig := sig) Proc.tc main_c_1) := by
  unfold hB0
  after_results

/-- The third group reads its table at the device's number. -/
theorem hB1_res : (StableHlo.after hB1 W (Proc.devRef (sig := sig) Proc.tc main_v15) : S_.Idx → BitVec 32) (Shape.Idx.first h_S_) = hr (W (Proc.devRef (sig := sig) Proc.tc main_c_0)) ((W (Proc.devRef (sig := sig) Proc.tc main_v5) : S_.Idx → BitVec 32) (Shape.Idx.first h_S_)) := by
  unfold hB1
  after_results
  refine Eq.trans (b := Host.dynamicSlice S1 (W (Proc.devRef (sig := sig) Proc.tc main_c_0)) _ sliceFits_S32_S1 _) rfl (congr (congrArg (fun s => Host.dynamicSlice S1 (W (Proc.devRef (sig := sig) Proc.tc main_c_0) : S32.Idx → BitVec 32) s sliceFits_S32_S1) (funext fun k => ?_)) (s1_one _ _))
  obtain rfl : k = 0 := Subsingleton.elim k 0
  rfl

/-- It leaves the device's number. -/
theorem hB1_main_v5 : StableHlo.after hB1 W (Proc.devRef (sig := sig) Proc.tc main_v5) = W (Proc.devRef (sig := sig) Proc.tc main_v5) := by
  unfold hB1
  after_results

/-- It leaves the third table. -/
theorem hB1_main_c_1 : StableHlo.after hB1 W (Proc.devRef (sig := sig) Proc.tc main_c_1) = W (Proc.devRef (sig := sig) Proc.tc main_c_1) := by
  unfold hB1
  after_results

/-- It leaves the first word. -/
theorem hB1_main_v10 : StableHlo.after hB1 W (Proc.devRef (sig := sig) Proc.tc main_v10) = W (Proc.devRef (sig := sig) Proc.tc main_v10) := by
  unfold hB1
  after_results

/-- The fourth group reads its table at the device's number. -/
theorem hB2_res : (StableHlo.after hB2 W (Proc.devRef (sig := sig) Proc.tc main_v20) : S_.Idx → BitVec 32) (Shape.Idx.first h_S_) = hr (W (Proc.devRef (sig := sig) Proc.tc main_c_1)) ((W (Proc.devRef (sig := sig) Proc.tc main_v5) : S_.Idx → BitVec 32) (Shape.Idx.first h_S_)) := by
  unfold hB2
  after_results
  refine Eq.trans (b := Host.dynamicSlice S1 (W (Proc.devRef (sig := sig) Proc.tc main_c_1)) _ sliceFits_S32_S1 _) rfl (congr (congrArg (fun s => Host.dynamicSlice S1 (W (Proc.devRef (sig := sig) Proc.tc main_c_1) : S32.Idx → BitVec 32) s sliceFits_S32_S1) (funext fun k => ?_)) (s1_one _ _))
  obtain rfl : k = 0 := Subsingleton.elim k 0
  rfl

/-- It leaves the device's number. -/
theorem hB2_main_v5 : StableHlo.after hB2 W (Proc.devRef (sig := sig) Proc.tc main_v5) = W (Proc.devRef (sig := sig) Proc.tc main_v5) := by
  unfold hB2
  after_results

/-- It leaves the first word. -/
theorem hB2_main_v10 : StableHlo.after hB2 W (Proc.devRef (sig := sig) Proc.tc main_v10) = W (Proc.devRef (sig := sig) Proc.tc main_v10) := by
  unfold hB2
  after_results

/-- It leaves the second word. -/
theorem hB2_main_v15 : StableHlo.after hB2 W (Proc.devRef (sig := sig) Proc.tc main_v15) = W (Proc.devRef (sig := sig) Proc.tc main_v15) := by
  unfold hB2
  after_results

/-- The first group computes the device's number and lays the three tables down. -/
theorem hA_reads (c : Dev nD) : (StableHlo.after (hA c) W (Proc.devRef (sig := sig) Proc.tc main_v5) : S_.Idx → BitVec 32) (Shape.Idx.first h_S_) = hw c
    ∧ StableHlo.after (hA c) W (Proc.devRef (sig := sig) Proc.tc main_c) = (fun i => lit0 (S32.rowMajor i)) ∧ StableHlo.after (hA c) W (Proc.devRef (sig := sig) Proc.tc main_c_0) = (fun i => lit1 (S32.rowMajor i))
    ∧ StableHlo.after (hA c) W (Proc.devRef (sig := sig) Proc.tc main_c_1) = (fun i => lit2 (S32.rowMajor i)) := by
  unfold hA
  after_results
  exact ⟨rfl, rfl, rfl, rfl⟩

end

/-- The places the tables are read at, device by device. -/
theorem hr_vals (c : Dev nD) : hr (fun i => lit0 (S32.rowMajor i)) (hw c) = wd (pos c) ∧ hr (fun i => lit1 (S32.rowMajor i)) (hw c) = wd (rgt c)
    ∧ hr (fun i => lit2 (S32.rowMajor i)) (hw c) = wd (lft c) := by
  revert c
  decide

/-- The three words of the table the kernel reads. -/
theorem V1_v24 (c : Dev nD) : (Gen.V1 m c main_v24 : S3.Idx → BitVec 32) (ix3 0) = wd (pos c) ∧ (Gen.V1 m c main_v24 : S3.Idx → BitVec 32) (ix3 1) = wd (rgt c)
    ∧ (Gen.V1 m c main_v24 : S3.Idx → BitVec 32) (ix3 2) = wd (lft c) := by
  have e : Gen.V1 m c main_v24 = StableHlo.after hC (StableHlo.after hB2 (StableHlo.after hB1 (StableHlo.after hB0 (StableHlo.after (hA c) (Gen.V0 m c))))) (Proc.devRef .tc main_v24) := by
    show StableHlo.after (hostOps0 c) (Gen.V0 m c) _ = _
    rw [hostOps0_eq, after_two, after_two, after_two, after_two]
  have h := hC_v24 (StableHlo.after hB2 (StableHlo.after hB1 (StableHlo.after hB0 (StableHlo.after (hA c) (Gen.V0 m c)))))
  obtain ⟨a, b, d, f⟩ := hA_reads (Gen.V0 m c) c
  obtain ⟨x, y, z⟩ := hr_vals c
  rw [e]
  rw [hB2_main_v10, hB1_main_v10, hB0_res, hB2_main_v15, hB1_res, hB2_res, hB1_main_v5, hB0_main_v5, hB1_main_c_1, hB0_main_c_1, hB0_main_c_0, a, b, d, f, x, y, z] at h
  exact h

end Cert.KernelIdeal.Proofs

end
-- ==== Proof.KernelIdeal.Bufs.lean ====
/-
  The kernel's buffers as the body takes them: the receive buffers in slots, the two arrays in shares.
-/
module

public import proofs.«01_k».proof.Proof.KernelIdeal.Tokens
public import proofs.«01_k».proof.Proof.KernelIdeal.Host
public import proofs.«01_k».proof.Proof.Gen.KernelIdeal.Launch
public import proofs.«01_k».proof.Proof.Gen.KernelIdeal.Points

@[expose] public section

noncomputable section

namespace Cert.KernelIdeal.Proofs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (released readerAt writeTok slotInv USlots)

variable {F : FTy → Type} [FloatOps F]

local notation "𝕄" => MT nD τ sig ℕ (Elt F) ℕ UU ℕ

variable (pv : Dev nD → main_v25.ty.Contents (Elt F)) (K : Dev nD × Kd → ℕ) (KS : KK → ℕ)

/-! ## The receive buffers -/

/-- Slot `s` of a receive buffer, as a set of its indices. -/
def slotR (s : Fin 2) : Finset S2x128x4096.Idx := (Rect.unit (s := S2x128x4096) ![s.val, 0, 0] S1x128x4096.size (slot_inb s)).set

/-- An element whose first coordinate is `s` lies in slot `s`. -/
theorem mem_slotR {s : Fin 2} {i : S2x128x4096.Idx} (h : (i 0).val = s.val) : i ∈ slotR s := by
  unfold slotR
  rw [Rect.mem_set_unit]
  intro a
  fin_cases a
  · exact ⟨h.ge, by show (i 0).val < s.val + 1; omega⟩
  · exact ⟨Nat.zero_le _, by have h1 : (i 1).val < 128 := (i 1).isLt; show (i 1).val < 0 + 128; omega⟩
  · exact ⟨Nat.zero_le _, by have h1 : (i 2).val < 4096 := (i 2).isLt; show (i 2).val < 0 + 4096; omega⟩

/-- An element of slot `s` has first coordinate `s`. -/
theorem of_slotR {s : Fin 2} {i : S2x128x4096.Idx} (h : i ∈ slotR s) : (i 0).val = s.val := by
  unfold slotR at h
  rw [Rect.mem_set_unit] at h
  have h1 : s.val ≤ (i 0).val := (h 0).1
  have h2 : (i 0).val < s.val + 1 := (h 0).2
  omega

/-- The two slots are the whole receive buffer. -/
theorem slotR_union : slotR 0 ∪ slotR 1 = Finset.univ := by
  refine Finset.eq_univ_iff_forall.mpr fun i => Finset.mem_union.mpr ?_
  have h : (i 0).val < 2 := (i 0).isLt
  by_cases h0 : (i 0).val = 0
  · exact Or.inl (mem_slotR h0)
  · exact Or.inr (mem_slotR (show (i 0).val = 1 by omega))

/-- The two slots have no element in common. -/
theorem slotR_disj : Disjoint (slotR 0) (slotR 1) := by
  refine Finset.disjoint_left.mpr fun i h0 h1 => ?_
  have e0 : (i 0).val = 0 := of_slotR h0
  have e1 : (i 0).val = 1 := of_slotR h1
  omega

/-- Slot `s`'s elements in its receive buffer. -/
def slotS (b : Bool) (s : Fin 2) : Finset (commM b).view.ty.Idx := (slotR s).map (commM b).view.emb

/-- The elements of a receive buffer are those of its slots. -/
theorem comm_set_eq (b : Bool) : (commM b).view.set = slotS b 0 ∪ slotS b 1 := by
  unfold slotS
  rw [← Finset.map_union, slotR_union]
  rfl

/-- The slots of a receive buffer have no element in common. -/
theorem slots_disj (b : Bool) : Disjoint (slotS b 0) (slotS b 1) := (Finset.disjoint_map _).mpr slotR_disj

/-- A slot with some value, as ownership of its elements. -/
theorem any_slot (c : Dev nD) (b : Bool) (s : Fin 2) : (anyOf c (slotM b s) : sProp 𝕄)
    = iprop(∃ f : Buf (Elt F) ((commM b).view.loc (c : Thread nD τ)), (commM b).view.loc (c : Thread nD τ) ↦[slotS b s]{fullShare} f) := by
  have h : (slotM b s).view.set = slotS b s := by
    have h : (slotM b s).view.set = ((commM b).view.slice (Rect.unit (s := S2x128x4096) ![s.val, 0, 0] S1x128x4096.size (slot_inb s))).set :=
      View.set_reshape _ _
    rw [h, View.set_slice]
    rfl
  unfold anyOf
  rw [h]
  rfl

/-- A receive buffer is its two slots. -/
theorem comm_split (c : Dev nD) (b : Bool) : (anyOf c (commM b) : sProp 𝕄) ⊢ iprop(anyOf c (slotM b 0) ∗ anyOf c (slotM b 1)) := by
  rw [any_slot, any_slot]
  unfold anyOf
  rw [comm_set_eq b]
  iintro ⟨%f, H⟩
  ihave H := (pointsTo_union (slots_disj b)).1 $$ H
  icases H with ⟨H0, H1⟩
  isplitl [H0]
  · iexists f; iexact H0
  · iexists f; iexact H1

/-- Two slots with some values are a receive buffer with some value. -/
theorem comm_join (c : Dev nD) (b : Bool) : iprop(anyOf c (slotM b 0) ∗ anyOf c (slotM b 1)) ⊢ (anyOf c (commM b) : sProp 𝕄) := by
  rw [any_slot, any_slot]
  unfold anyOf
  rw [comm_set_eq b]
  iintro ⟨⟨%f, H0⟩, ⟨%g, H1⟩⟩
  iexists _
  iapply (pointsTo_join (slots_disj b))
  isplitl [H0]
  · iexact H0
  · iexact H1

/-! ## Whole buffers -/

/-- A whole buffer with some value, as ownership of the buffer. -/
theorem any_whole (c : Dev nD) {sp : Space} {s : Shape} {e : EltTy} (M : Memref sig .tc sp s e) (h : M.view.set = Finset.univ) :
    (anyOf c M : sProp 𝕄) = iprop(∃ f : Buf (Elt F) (M.view.loc (c : Thread nD τ)), M.view.loc (c : Thread nD τ) ↦{fullShare} f) := by
  unfold anyOf; rw [h]

/-- The eight scratch buffers, as the launch gives them. -/
def Scratch (c : Dev nD) : sProp 𝕄 :=
  iprop(anyOf c (commM true) ∗ anyOf c (commM false) ∗ anyOf c (accM true) ∗ anyOf c (accM false)
    ∗ anyOf c (lbufM true) ∗ anyOf c (lbufM false) ∗ anyOf c (obufM true) ∗ anyOf c (obufM false))

/-- The call's scratch buffers, one by one. -/
theorem scratch_eq (c : Dev nD) : (Pipeline.scopedRest (Ix := ℕ) (Name := ℕ) (U := UU) (Lvl := ℕ) (Val := Elt F) spec0 c : sProp 𝕄) = Scratch c := by
  rw [scopedRest0_eq]
  unfold Scratch
  rw [any_whole c (commM true) (View.set_whole _), any_whole c (commM false) (View.set_whole _), any_whole c (accM true) (View.set_whole _),
    any_whole c (accM false) (View.set_whole _), any_whole c (lbufM true) (View.set_whole _), any_whole c (lbufM false) (View.set_whole _),
    any_whole c (obufM true) (View.set_whole _), any_whole c (obufM false) (View.set_whole _)]
  rfl

/-! ## The two arrays -/

/-- The arrays the body works on: the partial products and the result. -/
def Hs : Finset (DevRef τ sig) := {Proc.devRef .tc main_v25, Proc.devRef .tc main_v26}

/-- Holding the two arrays of the call, one by one. -/
theorem held_Hs (c : Dev nD) (W : Valuation τ sig (Elt F)) : (StableHlo.held (c : Thread nD τ) Hs W : sProp 𝕄)
    = iprop((pM.view.loc (c : Thread nD τ) ↦{fullShare} (W (Proc.devRef .tc main_v25))) ∗ (oM.view.loc (c : Thread nD τ) ↦{fullShare} (W (Proc.devRef .tc main_v26)))) := by
  unfold StableHlo.held Hs
  rw [bigSep_eq_bigSepL_of_eq [Proc.devRef .tc main_v25, Proc.devRef .tc main_v26] (by decide) (by decide)]
  rfl

/-- At the start: the partial products in two shares, and a result with no chunk done. -/
theorem held_open (c : Dev nD) (W : Valuation τ sig (Elt F)) (h : W (Proc.devRef .tc main_v25) = pv c) :
    (StableHlo.held (c : Thread nD τ) Hs W : sProp 𝕄) ⊢ iprop(pRes pv c true ∗ pRes pv c false ∗ outSt pv c (fun _ _ => False)) := by
  rw [held_Hs, h]
  unfold pRes outSt
  iintro ⟨Hp, Ho⟩
  have hcv : (pM.view.loc (c : Thread nD τ) ↦{fullShare} (pv c : Buf (Elt F) (pM.view.loc (c : Thread nD τ))) : sProp 𝕄)
      ⊢ iprop((pM.view.loc (c : Thread nD τ) ↦[Finset.univ]{fullShare.left} (pv c : Buf (Elt F) (pM.view.loc (c : Thread nD τ)))) ∗ (pM.view.loc (c : Thread nD τ) ↦[Finset.univ]{fullShare.right} (pv c : Buf (Elt F) (pM.view.loc (c : Thread nD τ))))) :=
    (pointsTo_share (PosShare.mem_left_op_right fullShare)).1
  ihave Hp := hcv $$ Hp
  icases Hp with ⟨Hl, Hr⟩
  isplitl [Hl]; · iexact Hl
  isplitl [Hr]; · iexact Hr
  iexists (W (Proc.devRef .tc main_v26) : Buf (Elt F) (oM.view.loc (c : Thread nD τ)))
  isplitr
  · ipureintro; exact fun _ hf => hf.elim
  · iexact Ho

/-- At the end: the two shares joined, and the result with every chunk done. -/
theorem held_close (c : Dev nD) (W : Valuation τ sig (Elt F)) (h : W (Proc.devRef .tc main_v25) = pv c) (h' : W (Proc.devRef .tc main_v26) = outF pv) :
    iprop(pRes pv c true ∗ pRes pv c false ∗ outSt pv c (fun _ _ => True)) ⊢ (StableHlo.held (c : Thread nD τ) Hs W : sProp 𝕄) := by
  rw [held_Hs, h, h']
  unfold pRes outSt
  iintro ⟨Hl, Hr, ⟨%f, %hf, Ho⟩⟩
  isplitl [Hl Hr]
  · have hcv : iprop((pM.view.loc (c : Thread nD τ) ↦[Finset.univ]{fullShare.left} (pv c : Buf (Elt F) (pM.view.loc (c : Thread nD τ)))) ∗ (pM.view.loc (c : Thread nD τ) ↦[Finset.univ]{fullShare.right} (pv c : Buf (Elt F) (pM.view.loc (c : Thread nD τ)))))
        ⊢ (pM.view.loc (c : Thread nD τ) ↦{fullShare} (pv c : Buf (Elt F) (pM.view.loc (c : Thread nD τ))) : sProp 𝕄) :=
      (pointsTo_share (PosShare.mem_left_op_right fullShare)).2
    iapply hcv
    isplitl [Hl]; · iexact Hl
    iexact Hr
  · have e : (f : main_v26.ty.Contents (Elt F)) = outF pv := funext fun i => hf i trivial
    have hcv : (oM.view.loc (c : Thread nD τ) ↦[Finset.univ]{fullShare} f : sProp 𝕄) ⊢ (oM.view.loc (c : Thread nD τ) ↦{fullShare} (outF pv : Buf (Elt F) (oM.view.loc (c : Thread nD τ)))) := by
      rw [show f = (outF pv : Buf (Elt F) (oM.view.loc (c : Thread nD τ))) from e]
    iapply hcv
    iexact Ho

end Cert.KernelIdeal.Proofs

end
-- ==== Proof.KernelIdeal.Cells.lean ====
/-
  The kernel's call: the scoped cells opened, the body run from what launch dealt, the buffers handed back.
-/
module

public import proofs.«01_k».proof.Proof.KernelIdeal.Bufs
public import Idealize.ShloMosaic.Lib.Pipeline.RegionTalk

@[expose] public section

noncomputable section

namespace Cert.KernelIdeal.Proofs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (released readerAt writeTok slotInv USlots)

variable {F : FTy → Type} [FloatOps F]

local notation "𝕄" => MT nD τ sig ℕ (Elt F) ℕ UU ℕ

variable (pv : Dev nD → main_v25.ty.Contents (Elt F)) (K : Dev nD × Kd → ℕ) (KS : KK → ℕ)

open Idealize.ShloMosaic.Pipeline (Dat BodyObligation)

/-! ## The scoped semaphores -/

/-- The kernel's own semaphores: the protocol's, then those of the local copies. -/
def osems : Fin 14 → SemLoc sig :=
  ![Kd.sem (.cred true), Kd.sem (.cred false), Kd.sem (.send true 0), Kd.sem (.send true 1), Kd.sem (.send false 0), Kd.sem (.send false 1),
    Kd.sem (.recv true 0), Kd.sem (.recv true 1), Kd.sem (.recv false 0), Kd.sem (.recv false 1),
    .dma (lsem true), .dma (lsem false), .dma (osem true), .dma (osem false)]

/-- The list of the call's semaphores is complete and has each once. -/
theorem osems_facts : Pipeline.OwnSemFacts spec0 osems := by decide

/-- One direction's semaphores, at zero. -/
def SemsD (c : Dev nD) (b : Bool) : sProp 𝕄 :=
  iprop(semVal (credCell c b) 0 ∗ semVal (sendCell c b 0) 0 ∗ semVal (sendCell c b 1) 0 ∗ semVal (recvCell c b 0) 0 ∗ semVal (recvCell c b 1) 0
    ∗ semVal ((c : Thread nD τ), .dma (lsem b)) 0 ∗ semVal ((c : Thread nD τ), .dma (osem b)) 0)

/-- The call's semaphores at zero, one by one. -/
theorem sems_list (c : Dev nD) : (Pipeline.ownSems0 (Ix := ℕ) (Name := ℕ) (U := UU) (Lvl := ℕ) (Val := Elt F) (τ := τ) osems c : sProp 𝕄)
    = iprop(semVal (credCell c true) 0 ∗ semVal (credCell c false) 0 ∗ semVal (sendCell c true 0) 0 ∗ semVal (sendCell c true 1) 0 ∗ semVal (sendCell c false 0) 0 ∗ semVal (sendCell c false 1) 0
      ∗ semVal (recvCell c true 0) 0 ∗ semVal (recvCell c true 1) 0 ∗ semVal (recvCell c false 0) 0 ∗ semVal (recvCell c false 1) 0
      ∗ semVal ((c : Thread nD τ), .dma (lsem true)) 0 ∗ semVal ((c : Thread nD τ), .dma (lsem false)) 0 ∗ semVal ((c : Thread nD τ), .dma (osem true)) 0 ∗ semVal ((c : Thread nD τ), .dma (osem false)) 0) := by
  rw [Pipeline.ownSems0_eq_of_list c osems [0, 1, 2, 3, 4, 5, 6, 7, 8, 9, 10, 11, 12, 13] (by decide) (by decide)]
  rfl

/-- They are those of the one direction and those of the other. -/
theorem sems_open (c : Dev nD) : (Pipeline.ownSems0 osems c : sProp 𝕄) ⊢ iprop(SemsD c true ∗ SemsD c false) := by
  rw [sems_list]
  unfold SemsD
  iintro ⟨a0, a1, a2, a3, a4, a5, a6, a7, a8, a9, a10, a11, a12, a13⟩
  isplitl [a0 a2 a3 a6 a7 a10 a12]
  · isplitl [a0]; · iexact a0
    isplitl [a2]; · iexact a2
    isplitl [a3]; · iexact a3
    isplitl [a6]; · iexact a6
    isplitl [a7]; · iexact a7
    isplitl [a10]; · iexact a10
    iexact a12
  · isplitl [a1]; · iexact a1
    isplitl [a4]; · iexact a4
    isplitl [a5]; · iexact a5
    isplitl [a8]; · iexact a8
    isplitl [a9]; · iexact a9
    isplitl [a11]; · iexact a11
    iexact a13

/-- And back. -/
theorem sems_close (c : Dev nD) : iprop(SemsD c true ∗ SemsD c false) ⊢ (Pipeline.ownSems0 osems c : sProp 𝕄) := by
  rw [sems_list]
  unfold SemsD
  iintro ⟨⟨a0, a2, a3, a6, a7, a10, a12⟩, ⟨a1, a4, a5, a8, a9, a11, a13⟩⟩
  isplitl [a0]; · iexact a0
  isplitl [a1]; · iexact a1
  isplitl [a2]; · iexact a2
  isplitl [a3]; · iexact a3
  isplitl [a4]; · iexact a4
  isplitl [a5]; · iexact a5
  isplitl [a6]; · iexact a6
  isplitl [a7]; · iexact a7
  isplitl [a8]; · iexact a8
  isplitl [a9]; · iexact a9
  isplitl [a10]; · iexact a10
  isplitl [a11]; · iexact a11
  isplitl [a12]; · iexact a12
  iexact a13

/-! ## Opening the cells -/

/-- A scoped cell comes alive. -/
theorem open_cell (c : Dev nD) (k : Kd) : iprop(Inv pv K KS ∗ openTok ER (cell c k) ∗ semVal (cell c k) 0) ⊢ (|={Set.univ}=> posAt (cell c k) 0 : sProp 𝕄) := by
  iintro ⟨#HI, Ho, Hv⟩
  ihave #Hc := (Inv_cell pv K KS c k) $$ HI
  imod (Rounds.cell_open ER (Rd pv) (g := cell c k) (Set.mem_univ (K (c, k)))) $$ [Ho Hv] with H
  · isplitr; · iexact Hc
    isplitl [Ho]; · iexact Ho
    iexact Hv
  imodintro
  iapply (posAt_intro (cell c k) 0)
  iexact H

/-- The rights to open one direction's cells. -/
def OpenD (c : Dev nD) (b : Bool) : sProp 𝕄 :=
  iprop(openTok ER (credCell c b) ∗ openTok ER (sendCell c b 0) ∗ openTok ER (sendCell c b 1) ∗ openTok ER (recvCell c b 0) ∗ openTok ER (recvCell c b 1))

/-- The cells to be opened are those of the one direction and those of the other. -/
theorem opens_list (c : Dev nD) : (Opens c : sProp 𝕄) ⊢ iprop(OpenD c true ∗ OpenD c false) := by
  unfold Opens OpenD
  rw [bigSep_eq_bigSepL_of_eq [.cred true, .cred false, .send true 0, .send true 1, .send false 0, .send false 1, .recv true 0, .recv true 1, .recv false 0, .recv false 1] (by decide) (by decide)]
  show (iprop(_ ∗ _ ∗ _ ∗ _ ∗ _ ∗ _ ∗ _ ∗ _ ∗ _ ∗ openTok ER (recvCell c false 1)) : sProp 𝕄) ⊢ _
  iintro ⟨a0, a1, a2, a3, a4, a5, a6, a7, a8, a9⟩
  isplitl [a0 a2 a3 a6 a7]
  · isplitl [a0]; · iexact a0
    isplitl [a2]; · iexact a2
    isplitl [a3]; · iexact a3
    isplitl [a6]; · iexact a6
    iexact a7
  · isplitl [a1]; · iexact a1
    isplitl [a4]; · iexact a4
    isplitl [a5]; · iexact a5
    isplitl [a8]; · iexact a8
    iexact a9

/-- What the body has of the protocol, in one direction. -/
def dirX (c : Dev nD) (b : Bool) : sProp 𝕄 :=
  iprop(readerAt ES (c, b, (0 : Fin 2)) 0 ∗ readerAt ES (c, b, (1 : Fin 2)) 0
    ∗ posAt (recvCell c b 0) 0 ∗ posAt (recvCell c b 1) 0 ∗ posAt (sendCell c b 0) 0 ∗ posAt (sendCell c b 1) 0 ∗ posAt (credCell c b) 0
    ∗ dutyTok ER (credCell c b) 0 0 ∗ dutyTok ER (barCell (frm b c)) 0 b.toNat ∗ reached ER (barCell (frm b c)) 0 ∗ toks c b 0
    ∗ semVal ((c : Thread nD τ), .dma (lsem b)) 0 ∗ semVal ((c : Thread nD τ), .dma (osem b)) 0 ∗ cred (tallyAt (credCell c b) (lc 62) 1))

/-- A direction's cells are opened with their semaphores. -/
theorem dir_open (c : Dev nD) (b : Bool) :
    iprop(Inv pv K KS ∗ Deal c b ∗ Cr c b ∗ OpenD c b ∗ SemsD c b) ⊢ (|={Set.univ}=> dirX c b : sProp 𝕄) := by
  unfold Deal Cr OpenD SemsD dirX
  iintro ⟨#HI, ⟨h1, h2, h3, h5, hz, hb, hr, r0, r1⟩, ⟨cr, cc, cl⟩, ⟨oc, os0, os1, or0, or1⟩, ⟨vc, vs0, vs1, vr0, vr1, vl, vo⟩⟩
  imod (open_cell pv K KS c (.cred b)) $$ [oc vc] with pc
  · isplitr; · iexact HI
    isplitl [oc]; · iexact oc
    iexact vc
  imod (open_cell pv K KS c (.send b 0)) $$ [os0 vs0] with ps0
  · isplitr; · iexact HI
    isplitl [os0]; · iexact os0
    iexact vs0
  imod (open_cell pv K KS c (.send b 1)) $$ [os1 vs1] with ps1
  · isplitr; · iexact HI
    isplitl [os1]; · iexact os1
    iexact vs1
  imod (open_cell pv K KS c (.recv b 0)) $$ [or0 vr0] with pr0
  · isplitr; · iexact HI
    isplitl [or0]; · iexact or0
    iexact vr0
  imod (open_cell pv K KS c (.recv b 1)) $$ [or1 vr1] with pr1
  · isplitr; · iexact HI
    isplitl [or1]; · iexact or1
    iexact vr1
  imodintro
  isplitl [r0]; · iexact r0
  isplitl [r1]; · iexact r1
  isplitl [pr0]; · iexact pr0
  isplitl [pr1]; · iexact pr1
  isplitl [ps0]; · iexact ps0
  isplitl [ps1]; · iexact ps1
  isplitl [pc]; · iexact pc
  isplitl [hz]; · iexact hz
  isplitl [hb]; · iexact hb
  isplitl [hr]; · iexact hr
  isplitl [h1 h2 h3 h5 cr cc]
  · iapply (toks_join c b)
    isplitl [h1]; · iexact h1
    isplitl [h2]; · iexact h2
    isplitl [h3]; · iexact h3
    isplitl [h5]; · iexact h5
    isplitl [cr]; · iexact cr
    iexact cc
  isplitl [vl]; · iexact vl
  isplitl [vo]; · iexact vo
  iexact cl

/-- What launch keeps for the kernel, and what the kernel has of the protocol once its cells are open. -/
def Tk (c : Dev nD) : sProp 𝕄 := iprop((∃ K KS, Invs pv K KS ∗ Dealt c) ∗ Cr c true ∗ Cr c false ∗ cred (tallyAt (barCell c) 1 2))
/-- What a core has after its cells are opened. -/
def Xk (c : Dev nD) : sProp 𝕄 := iprop((∃ K KS, Inv pv K KS) ∗ dirX c true ∗ dirX c false ∗ atPos ER (barCell c) 0 ∅ 0 ∗ cred (tallyAt (barCell c) 1 2))
/-- What a core has at the end: its barrier at zero. -/
def Yk (c : Dev nD) : sProp 𝕄 := semVal (barCell c) 0

/-- A core's cells are opened when it enters the call. -/
theorem hopen (c : Dev nD) : iprop(Tk pv c ∗ Pipeline.ownSems0 osems c ∗ levAts L lv) ⊢ (|={Set.univ}=> Xk pv c : sProp 𝕄) := by
  unfold Tk Xk Dealt
  iintro ⟨⟨⟨%K, %KS, #HI, Dt, Df, Hat, Hop⟩, Ct, Cf, Hbc⟩, Hs, #HL⟩
  ihave Hs := (sems_open c) $$ Hs
  icases Hs with ⟨St, Sf⟩
  ihave Hop := (opens_list c) $$ Hop
  icases Hop with ⟨Ot, Of⟩
  have hinv : iprop(Invs pv K KS ∗ levAts L lv) ⊢ (Inv pv K KS : sProp 𝕄) := by
    unfold Invs Inv
    iintro ⟨⟨Ha, Hb⟩, Hl⟩
    isplitl [Ha]; · iexact Ha
    isplitl [Hb]; · iexact Hb
    iexact Hl
  ihave #HJ := hinv $$ [HI HL]
  · isplitr; · iexact HI
    iexact HL
  imod (dir_open pv K KS c true) $$ [Dt Ct Ot St] with Xt
  · isplitr; · iexact HJ
    isplitl [Dt]; · iexact Dt
    isplitl [Ct]; · iexact Ct
    isplitl [Ot]; · iexact Ot
    iexact St
  imod (dir_open pv K KS c false) $$ [Df Cf Of Sf] with Xf
  · isplitr; · iexact HJ
    isplitl [Df]; · iexact Df
    isplitl [Cf]; · iexact Cf
    isplitl [Of]; · iexact Of
    iexact Sf
  imodintro
  isplitr
  · iexists K, KS; iexact HJ
  isplitl [Xt]; · iexact Xt
  isplitl [Xf]; · iexact Xf
  isplitl [Hat]; · iexact Hat
  iexact Hbc

/-! ## From the launch's holdings to the body's, and back -/

/-- The buffers and the opened cells are what the body starts with. -/
theorem pre_join (c : Dev nD) (W : Valuation τ sig (Elt F)) (h : W (Proc.devRef .tc main_v25) = pv c) :
    iprop(Scratch c ∗ StableHlo.held (c : Thread nD τ) Hs W ∗ (dirX c true ∗ dirX c false ∗ atPos ER (barCell c) 0 ∅ 0 ∗ cred (tallyAt (barCell c) 1 2)) ∗ owesE c (O₀ c))
      ⊢ (bodyPre pv c : sProp 𝕄) := by
  unfold Scratch dirX bodyPre dirPre
  iintro ⟨⟨cmT, cmF, acT, acF, lbT, lbF, obT, obF⟩, Hh, ⟨⟨a0, a1, a2, a3, a4, a5, a6, a7, a8, a9, a10, a11, a12, a13⟩, ⟨b0, b1, b2, b3, b4, b5, b6, b7, b8, b9, b10, b11, b12, b13⟩, Hat, Hbc⟩, HO⟩
  ihave Hh := (held_open pv c W h) $$ Hh
  icases Hh with ⟨pT, pF, Hout⟩
  ihave cmT := (comm_split c true) $$ cmT
  icases cmT with ⟨t0, t1⟩
  ihave cmF := (comm_split c false) $$ cmF
  icases cmF with ⟨f0, f1⟩
  isplitl [t0 t1 a0 a1 a2 a3 a4 a5 a6 a7 a8 a9 a10 acT lbT pT a11]
  · isplitl [t0]; · iexact t0
    isplitl [t1]; · iexact t1
    isplitl [a0]; · iexact a0
    isplitl [a1]; · iexact a1
    isplitl [a2]; · iexact a2
    isplitl [a3]; · iexact a3
    isplitl [a4]; · iexact a4
    isplitl [a5]; · iexact a5
    isplitl [a6]; · iexact a6
    isplitl [a7]; · iexact a7
    isplitl [a8]; · iexact a8
    isplitl [a9]; · iexact a9
    isplitl [a10]; · iexact a10
    isplitl [acT]; · iexact acT
    isplitl [lbT]; · iexact lbT
    isplitl [pT]; · iexact pT
    iexact a11
  isplitl [f0 f1 b0 b1 b2 b3 b4 b5 b6 b7 b8 b9 b10 acF lbF pF b11]
  · isplitl [f0]; · iexact f0
    isplitl [f1]; · iexact f1
    isplitl [b0]; · iexact b0
    isplitl [b1]; · iexact b1
    isplitl [b2]; · iexact b2
    isplitl [b3]; · iexact b3
    isplitl [b4]; · iexact b4
    isplitl [b5]; · iexact b5
    isplitl [b6]; · iexact b6
    isplitl [b7]; · iexact b7
    isplitl [b8]; · iexact b8
    isplitl [b9]; · iexact b9
    isplitl [b10]; · iexact b10
    isplitl [acF]; · iexact acF
    isplitl [lbF]; · iexact lbF
    isplitl [pF]; · iexact pF
    iexact b11
  isplitl [Hat]; · iexact Hat
  isplitl [Hbc]; · iexact Hbc
  isplitl [a13]; · iexact a13
  isplitl [b13]; · iexact b13
  isplitl [obT]; · iexact obT
  isplitl [obF]; · iexact obF
  isplitl [Hout]; · iexact Hout
  isplitl [a12]; · iexact a12
  isplitl [b12]; · iexact b12
  iexact HO

/-- What the body ends with is the buffers, the semaphores at zero and nothing owed. -/
theorem post_split (c : Dev nD) (W : Valuation τ sig (Elt F)) (h : W (Proc.devRef .tc main_v25) = pv c) (h' : W (Proc.devRef .tc main_v26) = outF pv) :
    (bodyPost pv c : sProp 𝕄) ⊢ iprop(Scratch c ∗ StableHlo.held (c : Thread nD τ) Hs W ∗ Pipeline.ownSems0 osems c ∗ Yk c ∗ owesE c 0) := by
  unfold Scratch bodyPost dirPost Yk
  iintro ⟨⟨t0, t1, r0, r1, s0, s1, cz, acT, lbT, pT, lsT⟩, ⟨f0, f1, r0', r1', s0', s1', cz', acF, lbF, pF, lsF⟩, Hb, obT, obF, Hout, osT, osF, HO⟩
  isplitl [t0 t1 f0 f1 acT acF lbT lbF obT obF]
  · isplitl [t0 t1]
    · iapply (comm_join c true)
      isplitl [t0]; · iexact t0
      iexact t1
    isplitl [f0 f1]
    · iapply (comm_join c false)
      isplitl [f0]; · iexact f0
      iexact f1
    isplitl [acT]; · iexact acT
    isplitl [acF]; · iexact acF
    isplitl [lbT]; · iexact lbT
    isplitl [lbF]; · iexact lbF
    isplitl [obT]; · iexact obT
    iexact obF
  isplitl [pT pF Hout]
  · iapply (held_close pv c W h h')
    isplitl [pT]; · iexact pT
    isplitl [pF]; · iexact pF
    iexact Hout
  isplitl [r0 r1 s0 s1 cz lsT osT r0' r1' s0' s1' cz' lsF osF]
  · iapply (sems_close c)
    unfold SemsD
    isplitl [r0 r1 s0 s1 cz lsT osT]
    · isplitl [cz]; · iexact cz
      isplitl [s0]; · iexact s0
      isplitl [s1]; · iexact s1
      isplitl [r0]; · iexact r0
      isplitl [r1]; · iexact r1
      isplitl [lsT]; · iexact lsT
      iexact osT
    · isplitl [cz']; · iexact cz'
      isplitl [s0']; · iexact s0'
      isplitl [s1']; · iexact s1'
      isplitl [r0']; · iexact r0'
      isplitl [r1']; · iexact r1'
      isplitl [lsF]; · iexact lsF
      iexact osF
  isplitl [Hb]; · iexact Hb
  iexact HO

end Cert.KernelIdeal.Proofs

end
-- ==== Proof.KernelIdeal.Call.lean ====
/-
  The kernel's call as a region of the program: entered with what launch dealt, left with the result in place.
-/
module

public import proofs.«01_k».proof.Proof.KernelIdeal.Cells

@[expose] public section

noncomputable section

namespace Cert.KernelIdeal.Proofs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (released readerAt writeTok slotInv USlots)

variable {F : FTy → Type} [FloatOps F]

local notation "𝕄" => MT nD τ sig ℕ (Elt F) ℕ UU ℕ

variable (pv : Dev nD → main_v25.ty.Contents (Elt F)) (K : Dev nD × Kd → ℕ) (KS : KK → ℕ)

open Idealize.ShloMosaic.Pipeline (Dat BodyObligation)

variable (m : (ℓ : Loc nD τ sig) → Buf (Elt F) ℓ)

/-! ## The valuations before and after -/

/-- The buffers when the kernel is called, and when it returns: the result array is written. -/
abbrev Wi (c : Dev nD) : Valuation τ sig (Elt F) := Gen.V1 m c
/-- What the arrays hold after the call. -/
def Wo (c : Dev nD) : Valuation τ sig (Elt F) := Function.update (Gen.V1 m c) (Proc.devRef .tc main_v26) (outF (pvOf m))

/-- The result array holds the result. -/
theorem Wo_v26 (c : Dev nD) : Wo m c (Proc.devRef .tc main_v26) = outF (pvOf m) := Function.update_self _ _ _
/-- Every other array holds what it held. -/
theorem Wo_ne (c : Dev nD) {b : DevRef τ sig} (h : b ≠ Proc.devRef .tc main_v26) : Wo m c b = Gen.V1 m c b := Function.update_of_ne h _ _
/-- The partial products are what they were. -/
theorem Wo_v25 (c : Dev nD) : Wo m c (Proc.devRef .tc main_v25) = pvOf m c := (Wo_ne m c (by decide)).trans (V1_v25 m c)

/-! ## The region's data -/

/-- The call's data: the table's window, and what the body is entered with and leaves. -/
def dat0 (c : Dev nD) : Dat τ (Elt F) ℕ ℕ UU ℕ cfg0 c where
  A w := match w with
    | 0 => Gen.V1 m c (Proc.devRef .tc main_v24)
    | ⟨_ + 1, h⟩ => absurd h (Nat.not_lt.2 (Nat.le_add_left _ _))
  after w t := match w with
    | 0 => ((cfg0.win 0).blk t).view.read (Elt F) (Gen.V1 m c (Proc.devRef .tc main_v24))
    | ⟨_ + 1, h⟩ => absurd h (Nat.not_lt.2 (Nat.le_add_left _ _))
  Φ t := if t.val = 0 then iprop(Scratch c ∗ (∃ r, prngReg c r) ∗ StableHlo.held (c : Thread nD τ) Hs (Wi m c) ∗ Xk (pvOf m) c)
    else iprop(Scratch c ∗ (∃ r, prngReg c r) ∗ StableHlo.held (c : Thread nD τ) Hs (Wo m c) ∗ Pipeline.ownSems0 osems c ∗ Yk c)
  q _ := fullShare
  owed t := if t.val = 0 then O₀ c else 0

/-- The window onto the three words has the same contents before the body and after. -/
theorem before_eq (c : Dev nD) (t : Fin cfg0.N) (d) : (dat0 m c).before 0 t d = (dat0 m c).after 0 t := by
  unfold Dat.before
  rw [if_pos (fetch0_0 t)]
  rfl

/-- The table's words, in the window's buffer. -/
theorem after_at (c : Dev nD) (i : Fin 3) : ((dat0 m c).after 0 t0_0 : S3.Idx → BitVec 32) (ix3 i) = (Gen.V1 m c main_v24 : S3.Idx → BitVec 32) (ix3 i) := by
  show (Gen.V1 m c main_v24 : S3.Idx → BitVec 32) (((cfg0.win 0).blk t0_0).view.emb (ix3 i)) = _
  refine congrArg _ ?_
  refine funext fun (a : Fin 1) => ?_
  obtain rfl : a = 0 := Subsingleton.elim a 0
  apply Fin.ext
  show _ = i.val
  revert i
  decide

/-- What a core owes, in the form that the region states. -/
theorem owesAt_intro {cfg : Pipeline.Cfg sig Λ₀} {c : Dev nD} (dat : Dat τ (Elt F) ℕ ℕ UU ℕ cfg c) (t : Fin (cfg.N + 1))
    (O : CellTallies nD τ sig ℕ) (h0 : dat.owed t = O) (hr : dat.recorded t = Set.univ) : (owesE c O : sProp 𝕄) ⊢ (dat.owesAt 0 t : sProp 𝕄) := by
  unfold Dat.owesAt Pipeline.owesWithin Dat.bound owesE
  rw [h0, hr]
  iintro ⟨%W, HO⟩
  iexists W
  isplitr; · ipureintro; exact fun _ _ => Or.inl trivial
  iexact HO
/-- And back. -/
theorem owesAt_elim {cfg : Pipeline.Cfg sig Λ₀} {c : Dev nD} (dat : Dat τ (Elt F) ℕ ℕ UU ℕ cfg c) (t : Fin (cfg.N + 1))
    (O : CellTallies nD τ sig ℕ) (h0 : dat.owed t = O) : (dat.owesAt 0 t : sProp 𝕄) ⊢ (owesE c O : sProp 𝕄) := by
  unfold Dat.owesAt Pipeline.owesWithin owesE
  rw [h0]
  iintro ⟨%W, -, HO⟩
  iexists W
  iexact HO

/-- At the end of the call nothing is owed. -/
theorem owed_last (c : Dev nD) : (dat0 m c).owed (Fin.last _) = 0 := by
  show (if (Fin.last cfg0.N).val = 0 then O₀ c else 0) = 0
  rw [Fin.val_last, if_neg (by rw [show cfg0.N = 1 from N_0]; decide)]

/-- Owning a view with a value is holding it. -/
theorem owns_eq (c : Dev nD) {sp : Space} {s : Shape} {e : EltTy} (M : Memref sig .tc sp s e) (v : s.Idx → Elt F e) :
    (owns (c : Thread nD τ) M fullShare v : sProp 𝕄) = holds c M fullShare v := rfl

set_option maxHeartbeats 2000000 in
/-- The body, run where the pipeline calls it. -/
theorem body0 (c : Dev nD) : BodyObligation (dat0 m c) defs₀ 𝒱₀ 0 Set.univ := fun t => by
  obtain rfl := fin_N0 t
  rw [bigSep_W0, bigSep_W0]
  rw [show (dat0 m c).Φ (Fin.castSucc t0_0) = iprop(Scratch c ∗ (∃ r, prngReg c r) ∗ StableHlo.held (c : Thread nD τ) Hs (Wi m c) ∗ Xk (pvOf m) c) from rfl,
    show (dat0 m c).Φ (Fin.succ t0_0) = iprop(Scratch c ∗ (∃ r, prngReg c r) ∗ StableHlo.held (c : Thread nD τ) Hs (Wo m c) ∗ Pipeline.ownSems0 osems c ∗ Yk c) from rfl]
  show iprop(_ ∗ _ ∗ (∃ d, owns c (win0_0.stage (cfg0.slots t0_0 0)) fullShare ((dat0 m c).before 0 t0_0 d)))
    ⊢ wp frame (wpE (defs₀ (F := F)) 𝒱₀ (c : Thread nD τ) none) Set.univ (bodyAt0 t0_0) (fun _ => iprop(_ ∗ _ ∗ owns c (win0_0.stage (cfg0.slots t0_0 0)) fullShare ((dat0 m c).after 0 t0_0)))
  unfold Xk
  iintro ⟨⟨Hsc, Hp, Hh, ⟨%K, %KS, HI⟩, HX⟩, HO, ⟨%d, Hw⟩⟩
  rw [before_eq m c t0_0 d]
  ihave Hw := (Entails.of_eq (owns_eq c (win0_0.stage (cfg0.slots t0_0 0)) ((dat0 m c).after 0 t0_0))) $$ Hw
  ihave HO := (owesAt_elim (dat0 m c) (Fin.castSucc t0_0) (O₀ c) rfl) $$ HO
  iapply (wp_wand_r frame (wpE (defs₀ (F := F)) 𝒱₀ (c : Thread nD τ) none) Set.univ)
  isplitl [HI Hw Hsc Hh HX HO]
  · iapply (body_ok (pvOf m) K KS c (win0_0.stage (cfg0.slots t0_0 0)) (hstage0_0 0) (Memref.isWhole_whole _) (Memref.isWhole_whole _) (Memref.isWhole_whole _) (Memref.isWhole_whole _)
      (Memref.isWhole_whole _) (Memref.isWhole_whole _) (Memref.isWhole_whole _) (Memref.isWhole_whole _) (Memref.isWhole_whole _) (Memref.isWhole_whole _) (q := fullShare) (ids := (dat0 m c).after 0 t0_0)
      ((after_at m c 0).trans (V1_v24 m c).1) ((after_at m c 1).trans (V1_v24 m c).2.1) ((after_at m c 2).trans (V1_v24 m c).2.2))
    isplitl [HI]; · iexact HI
    isplitl [Hw]; · iexact Hw
    iapply (pre_join (pvOf m) c (Wi m c) (V1_v25 m c))
    isplitl [Hsc]; · iexact Hsc
    isplitl [Hh]; · iexact Hh
    isplitl [HX]; · iexact HX
    iexact HO
  iintro %w ⟨Hw, Hpost⟩
  ihave Hpost := (post_split (pvOf m) c (Wo m c) (Wo_v25 m c) (Wo_v26 m c)) $$ Hpost
  icases Hpost with ⟨Hsc, Hh, Hs, HY, HO⟩
  isplitr [HO Hw]
  · isplitl [Hsc]; · iexact Hsc
    isplitl [Hp]; · iexact Hp
    isplitl [Hh]; · iexact Hh
    isplitl [Hs]; · iexact Hs
    iexact HY
  isplitl [HO]
  · iapply (owesAt_intro (dat0 m c) (Fin.succ t0_0) 0 (owed_last m c) rfl); iexact HO
  · iapply (Entails.of_eq (owns_eq c (win0_0.stage (cfg0.slots t0_0 0)) ((dat0 m c).after 0 t0_0)).symm); iexact Hw

/-! ## The region -/

/-- The data of the program's one region. -/
def pdats : (p : Fin 1) → (c : Dev nD) → Dat τ (Elt F) ℕ ℕ UU ℕ (Pipeline.pin (pcfgs (F := F)) Gen.adm p) c
  | 0 => dat0 m
  | ⟨_ + 1, h⟩ => absurd h (Nat.not_lt.2 (Nat.le_add_left _ _))

/-- The unscoped buffers but the table's. -/
def Sr : Finset (DevRef τ sig) := Pipeline.ucRefs τ sig \ Pipeline.arrRefs (τ := τ) spec0

/-- The result is no window of the call. -/
theorem v26_nmem : Proc.devRef .tc main_v26 ∉ Pipeline.arrRefs (τ := τ) spec0 := by decide
/-- The call's two arrays are among those that it takes. -/
theorem Hs_sub : Hs ⊆ Sr := by decide

/-- What the region owes is owed at levels that its cells have. -/
theorem cutD (c : Dev nD) (t : Fin ((Pipeline.pin (pcfgs (F := F)) Gen.adm 0).N + 1)) (g : GSem nD τ sig) (i : ℕ) (h : 0 < (pdats m 0 c).owed t g i) :
    i ∈ L g ∧ (0 : ℕ) < lv g i := by
  have e : (pdats m 0 c).owed t = if t.val = 0 then O₀ c else 0 := rfl
  rw [e] at h
  split at h
  · obtain ⟨h1, h2, h3⟩ := above_O₀ c g i h
    exact ⟨by unfold L; rw [if_pos h1]; exact Finset.mem_range.mpr h3, h2⟩
  · exact absurd h (Nat.lt_irrefl 0)

/-- What the region is entered with gives the body what it needs. -/
theorem hin (c : Dev nD) : iprop(Pipeline.scopedRest (Pipeline.pin (pcfgs (F := F)) Gen.adm 0).spec c ∗ (∃ r, prngReg c r) ∗ StableHlo.held (c.tc : Thread nD τ) Hs (Wi m c) ∗ Xk (pvOf m) c)
    ⊢ ((pdats m 0 c).Φ 0 : sProp 𝕄) := by
  rw [show (pdats m 0 c).Φ 0 = iprop(Scratch c ∗ (∃ r, prngReg c r) ∗ StableHlo.held (c : Thread nD τ) Hs (Wi m c) ∗ Xk (pvOf m) c) from rfl, ← scratch_eq c]

/-- What the body leaves is what the region is left with. -/
theorem hout (c : Dev nD) : ((pdats m 0 c).Φ (Fin.last (Pipeline.pin (pcfgs (F := F)) Gen.adm 0).N) : sProp 𝕄)
    ⊢ iprop(Pipeline.scopedRest (Pipeline.pin (pcfgs (F := F)) Gen.adm 0).spec c ∗ (∃ r, prngReg c r) ∗ StableHlo.held (c.tc : Thread nD τ) Hs (Wo m c) ∗ Pipeline.ownSems0 osems c ∗ Yk c) := by
  rw [show (pdats m 0 c).Φ (Fin.last _) = iprop(Scratch c ∗ (∃ r, prngReg c r) ∗ StableHlo.held (c : Thread nD τ) Hs (Wo m c) ∗ Pipeline.ownSems0 osems c ∗ Yk c) from rfl, ← scratch_eq c]

set_option backward.isDefEq.respectTransparency.types false in
/-- The kernel's call. -/
def reg : Pipeline.RegionSeg (pcfgs (F := F)) Gen.adm (pdats m) 0 defs₀ 𝒱₀ L lv 0 :=
  Pipeline.RegionSeg.ofTalk (pcfgs (F := F)) Gen.adm (pdats m) 0 defs₀ 𝒱₀ L lv 0 osems osems_facts
    Hs (Sr) Hs_sub launch0.toP rfl (fun c => (body0 m c).loose)
    (fun _ => 0) O₀ (fun c => (show (pdats m 0 c).owed 0 = O₀ c from rfl).trans (zero_add _).symm) (owed_last m) (fun _ => rfl)
    (fun c w => (pdats m 0 c).share_full (fun _ => rfl) w)
    (Wi m) (Wo m) (fun c b hb => Wo_ne m c fun h => (Finset.mem_sdiff.mp hb).2 (by rw [h]; decide))
    (Tk (pvOf m)) Yk (Xk (pvOf m)) Yk (hopen (pvOf m)) (hin m) (hout m)
    (fun c => by iintro H; imodintro; iexact H)
    (fun _ => 0)
    ⟨fun c w s => by rw [L_tc]; decide, fun c w s => Nat.le_refl 0, fun c t g i h => cutD m c t g i h⟩
    (fun _ => iprop(emp))
    (fun c w => by obtain rfl : w = 0 := Subsingleton.elim w 0; rfl)
    (fun c w => by
      obtain rfl : w = 0 := Subsingleton.elim w 0
      exact ((pdats m 0 c).arrAt_in 0 rfl _).trans (Wo_ne m c (b := Proc.devRef .tc main_v24) (by decide)).symm)

end Cert.KernelIdeal.Proofs

end
-- ==== Proof.KernelIdeal.Run.lean ====
/-
  The launch and the run: the protocol made and dealt, every execution ends with the result in place and every counter at zero.
-/
module

public import proofs.«01_k».proof.Proof.KernelIdeal.Call
public import Idealize.ShloMosaic.Harness.Basic

@[expose] public section

noncomputable section

namespace Cert.KernelIdeal.Proofs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (released readerAt writeTok slotInv USlots)

variable {F : FTy → Type} [FloatOps F]

local notation "𝕄" => MT nD τ sig ℕ (Elt F) ℕ UU ℕ

variable (pv : Dev nD → main_v25.ty.Contents (Elt F)) (K : Dev nD × Kd → ℕ) (KS : KK → ℕ)

open Idealize.ShloMosaic.Pipeline (Dat BodyObligation)
open Idealize.ShloMosaic.Smoke (bigSep_pair bigSep_unpair)

variable (m : (ℓ : Loc nD τ sig) → Buf (Elt F) ℓ) (ρ : Dev nD → PrngReg)

/-! ## What rides beside the buffers -/

/-- What rides beside the buffers, up to the call and after it. -/
def EB : Fin 2 → Dev nD → sProp 𝕄
  | 0, c => iprop((∃ r, prngReg c r) ∗ Tk (pvOf m) c ∗ owesE c (O₀ c))
  | ⟨_ + 1, _⟩, c => iprop(Yk c ∗ owesE c 0)

/-- What a core has before the call is what the region is entered with. -/
theorem reg_pre (c : Dev nD) : iprop(StableHlo.held (c : Thread nD τ) (Pipeline.ucRefs τ sig) (Gen.V1 m c) ∗ EB m 0 c) ⊢ ((reg m).pre c : sProp 𝕄) := by
  show _ ⊢ iprop(StableHlo.held (c.tc : Thread nD τ) (Pipeline.arrRefs (τ := τ) spec0) (Wi m c) ∗ (∃ r, prngReg c r)
    ∗ (StableHlo.held (c.tc : Thread nD τ) Sr (Wi m c) ∗ emp) ∗ Tk (pvOf m) c ∗ ∃ Wd, owes (c : Thread nD τ) (0 + O₀ c) Wd)
  rw [zero_add, StableHlo.held_sub_split (c.tc) (show Pipeline.arrRefs (τ := τ) spec0 ⊆ Pipeline.ucRefs τ sig by decide) (Gen.V1 m c)]
  unfold EB owesE Sr
  iintro ⟨⟨Ha, Hr⟩, Hp, HT, HO⟩
  isplitl [Ha]; · iexact Ha
  isplitl [Hp]; · iexact Hp
  isplitl [Hr]
  · isplitl [Hr]; · iexact Hr
    iempintro
  isplitl [HT]; · iexact HT
  iexact HO

/-- What the region is left with is what a core has after the call. -/
theorem reg_post (c : Dev nD) : ((reg m).post c : sProp 𝕄) ⊢ iprop((StableHlo.held (c : Thread nD τ) (Pipeline.ucRefs τ sig) (Wo m c) ∗ Yk c) ∗ owesE c 0) := by
  show iprop(StableHlo.held (c.tc : Thread nD τ) (Pipeline.arrRefs (τ := τ) spec0) (Wo m c) ∗ (∃ r, prngReg c r)
    ∗ (StableHlo.held (c.tc : Thread nD τ) Sr (Wo m c) ∗ emp) ∗ Yk c ∗ ∃ Wd, owes (c : Thread nD τ) (0 : CellTallies nD τ sig ℕ) Wd) ⊢ _
  rw [StableHlo.held_sub_split (c.tc) (show Pipeline.arrRefs (τ := τ) spec0 ⊆ Pipeline.ucRefs τ sig by decide) (Wo m c)]
  unfold owesE Sr
  iintro ⟨Ha, -, ⟨Hr, -⟩, HY, HO⟩
  isplitr [HO]
  · isplitr [HY]
    · isplitl [Ha]; · iexact Ha
      iexact Hr
    iexact HY
  iexact HO

/-! ## The launch element -/

/-- The launch's element: the call's staging, the cells' rounds, the slots' releases. -/
def u₀ : UU :=
  (initOf (Pipeline.cells (Pipeline.pin (pcfgs (F := F)) Gen.adm) Gen.cellOf_inj) (Pipeline.launchToks (Pipeline.pin (pcfgs (F := F)) Gen.adm) Gen.cellOf_inj),
    (Rounds.launchOf barCells scCells tokSet, (Release.initSlots (Finset.univ : Finset KK) 31, 1)))

/-- A resource as a family over the devices: all of it at one. -/
def at0 (X : sProp 𝕄) (c : Dev nD) : sProp 𝕄 := if c = 0 then X else iprop(emp)

/-- What is given to device zero alone, over all devices, is the thing itself. -/
theorem bigSep_at0 (X : sProp 𝕄) : bigSep Finset.univ (at0 X) = X := by
  rw [bigSep_univ_at _ (0 : Dev nD), bigSep_congr (s := Finset.univ.erase (0 : Dev nD)) (Ψ := fun _ => (BI.emp : sProp 𝕄))
      (fun c hc => by unfold at0; rw [if_neg (Finset.ne_of_mem_erase hc)]; rfl), BI.bigSep_emp_const]
  unfold at0
  rw [if_pos rfl]
  exact BI.equiv_iff.mp sep_emp

/-- The protocol's elements, for the launch to make the protocol of. -/
def G₀ : sProp 𝕄 := iprop(BI.own (ER (Rounds.launchOf barCells scCells tokSet)) ∗ BI.own (ES (Release.initSlots (Finset.univ : Finset KK) 31)))

/-- The ghost state at launch, in its parts. -/
theorem own_split : (ownU (u₀ (F := F)) : sProp 𝕄)
    ⊢ iprop(BI.own (EP (initOf (Pipeline.cells (Pipeline.pin (pcfgs (F := F)) Gen.adm) Gen.cellOf_inj) (Pipeline.launchToks (Pipeline.pin (pcfgs (F := F)) Gen.adm) Gen.cellOf_inj))) ∗ G₀) := by
  unfold u₀ G₀
  iintro Hu
  ihave H := (ownU_pair _ _) $$ Hu
  icases H with ⟨HP, HX⟩
  ihave HX := (own_pair_emb embR _ _) $$ HX
  icases HX with ⟨HR, HY⟩
  ihave HY := (own_pair_emb _ _ _) $$ HY
  icases HY with ⟨HS, -⟩
  isplitl [HP]; · iexact HP
  isplitl [HR]; · iexact HR
  iexact HS

/-! ## The launch -/

/-- The one semaphore outside the call is the barrier. -/
theorem unscopedSems_eq (c : Dev nD) : (unscopedSems0 c : sProp 𝕄) = semVal (barCell c) 0 := by
  unfold unscopedSems0
  rw [show (Finset.univ.filter fun sm : SemLoc sig => ¬ sm.isScoped .tc) = {SemLoc.reg barSem} from by decide, BI.bigSep_singleton]
  rfl

/-- What of a core's launch holdings is not the protocol's. -/
def Bun (c : Dev nD) : sProp 𝕄 :=
  iprop(StableHlo.held (c : Thread nD τ) (Pipeline.ucRefs τ sig) (Gen.V0 m c) ∗ owesE c (O₀ c) ∗ (∃ r, prngReg c r)
    ∗ Cr c true ∗ Cr c false ∗ cred (tallyAt (barCell c) 1 2))

/-- Launch: the protocol is made and each core gets its part. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ at0 G₀ c)) ∗ levAts L lv)
      ⊢ (|={Set.univ}=> bigSep Finset.univ fun c : Dev nD => iprop(StableHlo.held (c : Thread nD τ) (Pipeline.ucRefs τ sig) (Gen.V0 m c) ∗ EB m 0 c) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ at0 G₀ c)
      ⊢ (iprop(Bun m c ∗ (semVal (barCell c) 0 ∗ at0 G₀ c)) : sProp 𝕄) := by
    rw [show unscopedBufs c (fun b => m ((c : Thread nD τ).loc b)) = StableHlo.held (c : Thread nD τ) (Pipeline.ucRefs τ sig) (Gen.V0 m c) from Pipeline.unscopedBufs_held c (Gen.V0 m c),
      unscopedSems_eq]
    unfold Bun owesE
    iintro ⟨Hh, Hus, HO, Hcr, Hp, HG⟩
    ihave Hc := (launch_cred (F := F) c) $$ Hcr
    isplitr [Hus HG]
    · isplitl [Hh]; · iexact Hh
      isplitl [HO]; · iexists ∅; iexact HO
      isplitl [Hp]; · iexists (ρ c); iexact Hp
      iexact Hc
    isplitl [Hus]; · iexact Hus
    iexact HG
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ at0 G₀ c))
      ⊢ (bigSep Finset.univ fun c : Dev nD => iprop(Bun m c ∗ (semVal (barCell c) 0 ∗ at0 G₀ c)) : sProp 𝕄) from bigSep_mono fun c _ => hcore c) $$ H
  ihave H2 := bigSep_unpair $$ H'
  icases H2 with ⟨HB, H3⟩
  ihave H4 := bigSep_unpair $$ H3
  icases H4 with ⟨Hv, HG⟩
  ihave Hu := (show bigSep Finset.univ (at0 (F := F) G₀) ⊢ (G₀ : sProp 𝕄) from Entails.of_eq (bigSep_at0 G₀)) $$ HG
  unfold G₀
  imod (fund (pvOf m)) $$ [Hv Hu] with ⟨%K, %KS, #HI, HD⟩
  · isplitl [Hv]; · iexact Hv
    iexact Hu
  imodintro
  iapply (bigSep_with_persistent (R := Invs (pvOf m) K KS) (Φ := fun c => iprop(Dealt c ∗ Bun m c)) fun c _ => ?_)
  rotate_left
  · isplitr; · iexact HI
    iapply bigSep_pair
    isplitl [HD]; · iexact HD
    iexact HB
  · have h : iprop(Invs (pvOf m) K KS ∗ (Dealt c ∗ Bun m c)) ⊢ (iprop(StableHlo.held (c : Thread nD τ) (Pipeline.ucRefs τ sig) (Gen.V0 m c) ∗ EB m 0 c) : sProp 𝕄) := by
      unfold Bun EB Tk
      iintro ⟨HI, HD, Hh, HO, Hp, Ct, Cf, Cb⟩
      isplitl [Hh]; · iexact Hh
      isplitl [Hp]; · iexact Hp
      isplitr [HO]
      · isplitl [HI HD]
        · iexists K, KS
          isplitl [HI]; · iexact HI
          iexact HD
        isplitl [Ct]; · iexact Ct
        isplitl [Cf]; · iexact Cf
        iexact Cb
      iexact HO
    exact h

/-! ## The run -/

/-- A semaphore outside the call is the barrier's. -/
theorem unscoped_eq : ∀ sm : SemLoc sig, sm.isScoped .tc = false → sm = .reg barSem := by decide

/-- An array that outlives the call is among those that launch hands over. -/
theorem mem_uc (r : Ref sig .tc) (h : ¬ (Proc.devRef (τ := τ) .tc r).isScoped) : Proc.devRef .tc r ∈ Pipeline.ucRefs τ sig :=
  Finset.mem_filter.mpr ⟨StableHlo.devRef_mem_tcRefs r, h⟩

/-- The first argument ends as it began. -/
theorem Wo_arg0 (c : Dev nD) : Wo m c (Proc.devRef .tc main_arg0) = m ((c.tc : Thread nD τ).loc main_arg0) :=
  (Wo_ne m c (by decide)).trans (Gen.V1_of m c main_arg0 (by decide))
/-- The second argument ends as it began. -/
theorem Wo_arg1 (c : Dev nD) : Wo m c (Proc.devRef .tc main_arg1) = m ((c.tc : Thread nD τ).loc main_arg1) :=
  (Wo_ne m c (by decide)).trans (Gen.V1_of m c main_arg1 (by decide))

set_option backward.isDefEq.respectTransparency.types false in
/-- Every execution ends: the arguments as they were, the result on every device, every counter at zero. -/
theorem run_main : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v26) = outF (pvOf m)) ∧ r.2.sem = fun _ => 0) := by
  refine Pipeline.θ_run_regions_kit_dev_sems (pcfgs (F := F)) Gen.adm (pdats m) 0 Gen.cellOf_inj EP defs₀ 𝒱₀ L lv m ρ main
    (Gen.segs m 𝒱₀ L lv (EB m) 0 (pdats m) (reg m))
    (fun c Q => by
      rewrite [main_chain c, Pipeline.Seg.run_eq_chain,
        show (Gen.segs m 𝒱₀ L lv (EB m) 0 (pdats m) (reg m) c).map Pipeline.Seg.prog = [
          StableHlo.seq (hostOps0 c),
          Prog.lift (.customCall (Pipeline.entry 0) ()) ] from rfl]
      dsimp (config := { failIfUnchanged := false }) only
      exact .rfl)
    (fun c => by simp only [Gen.segs, Pipeline.Seg.pipes_host, Pipeline.Seg.pipes_region, Pipeline.Seg.pipes_nil]; decide)
    O₀ L_of_ne (at0 G₀) (u₀ (F := F))
    (by
      iintro Hu
      ihave H := (own_split (F := F)) $$ Hu
      imodintro
      rw [bigSep_at0]
      iexact H)
    (T₀ := fun c => iprop(StableHlo.held (c : Thread nD τ) (Pipeline.ucRefs τ sig) (Gen.V0 m c) ∗ EB m 0 c))
    (Tₙ := fun c => iprop(StableHlo.held (c : Thread nD τ) (Pipeline.ucRefs τ sig) (Wo m c) ∗ Yk c))
    (hch := fun c => ⟨.rfl, reg_pre m c, reg_post m c⟩)
    (hinit := init m ρ)
    (QY := fun c s => (∀ b ∈ Pipeline.ucRefs τ sig, s.mem ((c : Thread nD τ).1, b) = Wo m c b) ∧ s.sem (barCell c) = 0)
    (hfin := fun c s' => ?_) (hQ := fun s h hs => ⟨fun c => ?_, ?_⟩)
  · unfold StableHlo.held Yk
    iintro ⟨⟨Hh, Hb⟩, HSI⟩
    icombine HSI Hb gives %hb
    ihave Hr := (pointsTo_read_all (Pipeline.ucRefs τ sig) (fun b => ((c : Thread nD τ).1, b)) (Wo m c) s') $$ [Hh HSI]
    · isplitl [Hh] <;> iassumption
    icases Hr with ⟨%h, HSI⟩
    imodintro
    isplitr
    · ipureintro
      exact ⟨h, by simpa using hb⟩
    · iexact HSI
  · obtain ⟨hm, -⟩ := h c
    exact ⟨(hm _ (mem_uc main_arg0 (by decide))).trans (Wo_arg0 m c), (hm _ (mem_uc main_arg1 (by decide))).trans (Wo_arg1 m c),
      (hm _ (mem_uc main_v26 (by decide))).trans (Wo_v26 m c)⟩
  · exact sem_eq_zero hs fun c sm hsm => by
      obtain rfl := unscoped_eq sm hsm
      exact (h c).2

end Cert.KernelIdeal.Proofs

end
-- ==== Proof.KernelIdeal.Value.lean ====
/-
  The kernel's result over the extended reals: a finished chunk is the sum of all devices' partial
  products, and the sum of the devices' products is the product of the whole arrays.
-/
module

public import proofs.«01_k».proof.Proof.KernelIdeal.Local
public import proofs.«01_k».proof.Proof.KernelIdeal.Host
public import Idealize.ShloMosaic.Lib.Pointwise
public import Idealize.ShloMosaic.Lib.IdealHost
public import Idealize.ShloMosaic.Lib.Layout

@[expose] public section

noncomputable section

namespace Cert.KernelIdeal.Proofs

open Cert.KernelIdeal Cert.KernelIdeal.Gen

open Idealize.ShloMosaic
open Idealize.ShloMosaic.TcCoe
open Idealize.ShloMosaic.Pointwise
open scoped BigOperators

/-! ## Walking the ring -/

/-- The position `k` places back along a direction. -/
def back (b : Bool) (r k : Fin 32) : Fin 32 := if b then r - k else r + k

/-- The device received from is one place back. -/
theorem pos_frm (b : Bool) (c : Dev nD) : pos (frm b c) = back b (pos c) 1 := by
  revert b c; decide

/-- One place back and `k` more is `k + 1` back. -/
theorem back_back (b : Bool) (r : Fin 32) (k : ℕ) :
    back b (back b r 1) (Fin.ofNat 32 k) = back b r (Fin.ofNat 32 (k + 1)) := by
  unfold back
  apply Fin.ext
  cases b <;> simp only [Bool.false_eq_true, if_true, if_false, Fin.val_add, Fin.sub_def, Fin.ofNat, Fin.val_one] <;> omega

/-- No place back is the position itself. -/
theorem back_zero (b : Bool) (r : Fin 32) : back b r (Fin.ofNat 32 0) = r := by
  unfold back
  cases b <;> simp [Fin.ofNat]

/-- The chunk a device handles is the one its sender handled the step before. -/
theorem ck_frm (b : Bool) (c : Dev nD) (u : ℕ) : ck b (pos (frm b c)) u = ck b (pos c) (u + 1) := by
  rw [pos_frm]
  apply Fin.ext
  unfold ck back
  cases b <;> simp only [Bool.false_eq_true, if_true, if_false, Fin.val_add, Fin.sub_def, Fin.val_one] <;> omega

/-- The devices, by position. -/
def devE : Fin 32 ≃ Dev nD := ⟨dev, pos, pos_dev, dev_pos⟩

/-- Walking the whole ring back meets every device once. -/
theorem sum_ring (b : Bool) (r : Fin 32) (f : Dev nD → EReal) :
    ∑ k ∈ Finset.range 32, f (dev (back b r (Fin.ofNat 32 k))) = ∑ c, f c := by
  rw [Finset.sum_range (fun k => f (dev (back b r (Fin.ofNat 32 k))))]
  have hk : ∀ k : Fin 32, Fin.ofNat 32 k.val = k := fun k => Fin.ext (Nat.mod_eq_of_lt k.isLt)
  have h1 : ∑ k : Fin 32, f (dev (back b r (Fin.ofNat 32 k.val))) = ∑ k : Fin 32, f (dev k) := by
    cases b
    · exact (Finset.sum_congr rfl fun k _ => by rw [hk]; rfl).trans (Equiv.sum_comp (Equiv.addLeft r) fun k => f (dev k))
    · exact (Finset.sum_congr rfl fun k _ => by rw [hk]; rfl).trans (Equiv.sum_comp (Equiv.subLeft r) fun k => f (dev k))
  rw [h1]
  exact devE.sum_comp f

/-! ## A finished chunk -/

variable (pv : Dev nD → main_v25.ty.Contents (Elt Ideal))

/-- An element of a device's partial products, as an extended real. -/
def pvE (c : Dev nD) (i : S4096x8192.Idx) : EReal := pv c i

/-- A chunk of the partial products, element by element. -/
theorem part_at (b : Bool) (c : Dev nD) (j : Fin 32) (x : S128x4096.Idx) :
    part pv b c j x = pvE pv c (oEmb b j x) := rfl

/-- What a device sends in a step of the first half: the sum over the devices behind it. -/
theorem msg_at (b : Bool) (x : S128x4096.Idx) (u : ℕ) : u ≤ 31 → ∀ c : Dev nD,
    msg pv b u c x = ∑ k ∈ Finset.range (u + 1),
      pvE pv (dev (back b (pos c) (Fin.ofNat 32 k))) (oEmb b (ck b (pos c) u) x) := by
  induction u with
  | zero =>
    intro _ c
    rw [Finset.sum_range_one, back_zero, dev_pos]
    rfl
  | succ u ih =>
    intro hu c
    rw [msg_add pv b (by omega) c, Finset.sum_range_succ']
    rw [back_zero, dev_pos]
    have h1 : addC (msg pv b u (frm b c)) (part pv b c (ck b (pos c) (u + 1))) x
        = (show EReal from msg pv b u (frm b c) x) + pvE pv c (oEmb b (ck b (pos c) (u + 1)) x) := rfl
    rw [h1, ih (by omega) (frm b c), ck_frm, pos_frm]
    simp only [back_back]

/-- The chunk a device has finished. -/
theorem ck_ownr (b : Bool) (j : Fin 32) : ck b (pos (ownr b j)) 31 = j := by
  revert b j; decide

/-- A finished sum, element by element. -/
theorem sum_at (b : Bool) (j : Fin 32) (x : S128x4096.Idx) :
    msg pv b 31 (ownr b j) x = ∑ c, pvE pv c (oEmb b j x) := by
  rw [msg_at pv b x 31 le_rfl, ck_ownr]
  exact sum_ring b _ fun c => pvE pv c (oEmb b j x)

/-- An extended real times the logistic function of it. -/
def silu (y : EReal) : EReal := Ideal.div y (1 + Ideal.exp (-y))

/-- One plus an exponential is not zero. -/
theorem one_add_exp_ne (y : EReal) : 1 + Ideal.exp y ≠ 0 := by
  have h0 : (0 : EReal) ≤ Ideal.exp y := by
    induction y using EReal.rec with
    | bot => simp
    | top => simp
    | coe r => rw [Ideal.exp_coe]; exact_mod_cast (Real.exp_pos r).le
  have h1 : (1 : EReal) ≤ 1 + Ideal.exp y := le_add_of_nonneg_right h0
  intro e; rw [e] at h1; exact absurd h1 (by simp)

/-- The kernel's function of a sum, element by element. -/
theorem epiC_at (v : Chunk Ideal) (x : S128x4096.Idx) : epiC v x = silu (v x) := by
  have h : epiC v x = (show EReal from v x) * Ideal.div 1 (1 + Ideal.exp (-(show EReal from v x))) := by
    unfold epiC
    pointwise [k0_pay6]
    simp
  rw [h, Ideal.mul_one_div (one_add_exp_ne _)]
  rfl

/-- The result, element by element. -/
theorem outF_at (i : S4096x8192.Idx) : outF pv i = silu (∑ c, pvE pv c i) := by
  unfold outF outC
  rw [epiC_at, sum_at, oSl_at]

/-! ## The product -/

variable (m : (ℓ : Loc nD τ sig) → Buf (Elt Ideal) ℓ)

/-- An element of a device's first argument, and of its second, as an extended real. -/
def xE (c : Dev nD) (i : S4096x128.Idx) : EReal := m ((c : Thread nD τ).loc main_arg0) i
/-- An element of a device's second argument. -/
def wE (c : Dev nD) (i : S128x8192.Idx) : EReal := m ((c : Thread nD τ).loc main_arg1) i

/-- A device's partial product, element by element. -/
theorem pvOf_at (c : Dev nD) (i : S4096x8192.Idx) :
    pvE (pvOf m) c i = ∑ k : Fin 128, xE m c (ix2 (i 0) k) * wE m c (ix2 k (i 1)) := by
  unfold pvE pvOf
  pointwise []
  rfl

/-- The devices' products, of blocks of the whole arrays, add up to the product of the whole arrays. -/
theorem pvOf_sum (X : (⟨2, ![4096, 4096]⟩ : Shape).Idx → EReal) (W : (⟨2, ![4096, 8192]⟩ : Shape).Idx → EReal)
    (hX : ∀ c : Dev nD, xE m c = Layout.block ⟨2, ![4096, 128]⟩ ⟨2, ![4096, 4096]⟩ 1 32 c X)
    (hW : ∀ c : Dev nD, wE m c = Layout.block ⟨2, ![128, 8192]⟩ ⟨2, ![4096, 8192]⟩ 0 32 c W)
    (i : S4096x8192.Idx) :
    ∑ c, pvE (pvOf m) c i = ∑ k : Fin 4096, X (ix2 (i 0) k) * W (ix2 k (i 1)) := by
  have h1 : ∀ c : Dev nD, pvE (pvOf m) c i = ∑ k : Fin 128,
      X (ix2 (i 0) (finProdFinEquiv (m := 32) (n := 128) (c, k))) * W (ix2 (finProdFinEquiv (m := 32) (n := 128) (c, k)) (i 1)) := by
    intro c
    rw [pvOf_at]
    refine Finset.sum_congr rfl fun k _ => ?_
    have hv : (finProdFinEquiv (m := 32) (n := 128) (c, k)).val = c.val * 128 + k.val := by
      show k.val + 128 * c.val = _; omega
    have eX : xE m c (ix2 (i 0) k) = X (ix2 (i 0) (finProdFinEquiv (m := 32) (n := 128) (c, k))) := by
      rw [hX c, Layout.block_apply]
      refine congrArg X (funext fun a => Fin.ext ?_)
      match a with
      | 0 => rfl
      | 1 => exact hv.symm
    have eW : wE m c (ix2 k (i 1)) = W (ix2 (finProdFinEquiv (m := 32) (n := 128) (c, k)) (i 1)) := by
      rw [hW c, Layout.block_apply]
      refine congrArg W (funext fun a => Fin.ext ?_)
      match a with
      | 0 => exact hv.symm
      | 1 => rfl
    rw [eX, eW]
  rw [Finset.sum_congr rfl fun c _ => h1 c]
  rw [← Fintype.sum_prod_type' (fun (c : Fin 32) (k : Fin 128) => X (ix2 (i 0) (finProdFinEquiv (c, k))) * W (ix2 (finProdFinEquiv (c, k)) (i 1)))]
  exact Equiv.sum_comp (finProdFinEquiv (m := 32) (n := 128)) fun k => X (ix2 (i 0) k) * W (ix2 k (i 1))

end Cert.KernelIdeal.Proofs

end
-- ==== Proof.lean ====
/-
  The claims about the ring all-reduce with silu, from the runs of the kernel and of its references.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.UnclippedIdeal
public import proofs.«01_k».proof.Proof.Gen.UnclippedIdeal.Run
public import proofs.«01_k».proof.Proof.Kernel.Run
public import proofs.«01_k».proof.Proof.KernelIdeal.Run
public import proofs.«01_k».proof.Proof.KernelIdeal.Value
public import Idealize.ShloMosaic.Lib.Claim

@[expose] public section

noncomputable section

namespace Cert.Proof

open Idealize.ShloMosaic
open Idealize.ShloMosaic.Pointwise
open Cert.KernelIdeal.Proofs (silu pvE pvOf outF outF_at pvOf_at pvOf_sum)
open scoped BigOperators

instance : Cert.Kernel.Facts := Cert.Kernel.Gen.facts
instance : Cert.KernelIdeal.Facts := Cert.KernelIdeal.Gen.facts
instance : Cert.ReferenceIdeal.Facts := Cert.ReferenceIdeal.Gen.facts
instance : Cert.UnclippedIdeal.Facts := Cert.UnclippedIdeal.Gen.facts
instance : Cert.Pre_partial_tame_KernelIdeal.Facts := ⟨by decide, by decide⟩
instance : Cert.Pre_partial_tame_ReferenceIdeal.Facts := ⟨by decide, by decide⟩

/-- The kernel runs, keeps its arguments and leaves every counter at zero. -/
theorem frame_kernel : Cert.quiescent_Kernel := fun m g _ =>
  θ_run_mono (Cert.Kernel.Proofs.run_main (F := Bits) m g) fun _ h => ⟨fun c => ⟨(h.1 c).1, (h.1 c).2.1⟩, h.2⟩

/-- So does its idealization. -/
theorem frame_kernelIdeal : Cert.quiescent_KernelIdeal := fun m g _ =>
  θ_run_mono (Cert.KernelIdeal.Proofs.run_main (F := Ideal) m g) fun _ h => ⟨fun c => ⟨(h.1 c).1, (h.1 c).2.1⟩, h.2⟩

/-- So does the reference: a straight-line host program without semaphores. -/
theorem frame_referenceIdeal : Cert.quiescent_ReferenceIdeal := fun m g _ =>
  θ_run_mono (Cert.ReferenceIdeal.Value.run (F := Ideal) m g) fun r h =>
    ⟨fun c => (h c).2, Idealize.ShloMosaic.sem_eq_zero_of_no_sems (by decide) r.2⟩

/-- So does the reference without the clip. -/
theorem frame_unclippedIdeal : Cert.quiescent_UnclippedIdeal := fun m g _ =>
  θ_run_mono (Cert.UnclippedIdeal.Value.run (F := Ideal) m g) fun r h =>
    ⟨fun c => (h c).2, Idealize.ShloMosaic.sem_eq_zero_of_no_sems (by decide) r.2⟩

/-- The kernel's result is silu of the product of the whole arrays, on every device and for every input. -/
theorem algebraic_unclipped : Cert.algebraic_KernelIdeal_UnclippedIdeal := by
  intro m g m' g' _ hag
  refine ⟨outF (pvOf m), ?_, ?_⟩
  · exact θ_run_mono (Cert.KernelIdeal.Proofs.run_main (F := Ideal) m g) fun _ h c => ⟨(h.1 c).2.2, (h.1 c).1, (h.1 c).2.1⟩
  · refine θ_run_mono (Cert.UnclippedIdeal.Value.run (F := Ideal) m' g') fun r h => ⟨(h 0).1.trans (funext fun i => ?_), (h 0).2⟩
    rw [outF_at, pvOf_sum m _ _ (fun c => (hag c).1) (fun c => (hag c).2)]
    unfold silu
    pointwise []

/-! ## The clip -/

/-- The bound of the precondition, and the two bounds of the clip, as real numbers. -/
theorem bound_eq : Ideal.ofBits .f32 0x3FF00000#32 = (((15 : ℝ) / 8 : ℝ) : EReal) := by
  simp [Ideal.ofBits, Ideal.ieee]
  rw [← EReal.coe_mul]
  norm_num
theorem hi_eq : Ideal.ofBits .f32 0x42700000#32 = ((60 : ℝ) : EReal) := by
  simp [Ideal.ofBits, Ideal.ieee]
  rw [← EReal.coe_mul]
  norm_num
theorem lo_eq : Ideal.ofBits .f32 0xC2700000#32 = ((-60 : ℝ) : EReal) := by
  simp [Ideal.ofBits, Ideal.ieee]
  rw [← EReal.coe_mul]
  norm_num

/-- A comparison's bit is one only where the comparison holds. -/
theorem of_bit (p : Prop) [Decidable p] (h : BitVec.ofBool (decide p) = 1#1) : p := by
  by_contra hn
  rw [decide_eq_false hn] at h
  exact absurd h (by decide)

/-- Thirty-two times the precondition's bound is the clip's. -/
theorem sum_bound (r : ℝ) : ∑ _c : Fin 32, (r : EReal) = ((32 * r : ℝ) : EReal) := by
  rw [Finset.sum_const, Finset.card_univ, Fintype.card_fin, ← EReal.coe_nsmul]
  norm_num

/-- The clip leaves a sum alone when every device's part of it keeps the precondition's bound. -/
theorem clip_sum (f : Fin 32 → EReal) (h : ∀ c, max (f c) (-(f c)) ≤ (((15 : ℝ) / 8 : ℝ) : EReal)) :
    min ((60 : ℝ) : EReal) (max ((-60 : ℝ) : EReal) (∑ c, f c)) = ∑ c, f c := by
  have h1 : ∑ c, f c ≤ ((60 : ℝ) : EReal) := by
    refine (Finset.sum_le_sum fun c _ => (le_max_left _ _).trans (h c)).trans (le_of_eq ?_)
    rw [sum_bound]; norm_num
  have h2 : ((-60 : ℝ) : EReal) ≤ ∑ c, f c := by
    refine le_trans (le_of_eq ?_) (Finset.sum_le_sum (f := fun _ => ((-(15 / 8) : ℝ) : EReal)) fun c _ => ?_)
    · rw [sum_bound]; norm_num
    · rw [EReal.coe_neg, EReal.neg_le]
      exact (le_max_right _ _).trans (h c)
  rw [max_eq_right h2, min_eq_right h1]

/-- Where every device's partial products keep the precondition's bound, the kernel's result is the clipped reference's. -/
theorem algebraic_reference : Cert.algebraic_KernelIdeal_ReferenceIdeal_pre_partial_tame_KernelIdeal := by
  intro m g m' g' hp hag
  refine ⟨outF (pvOf m), ?_, ?_⟩
  · exact θ_run_mono (Cert.KernelIdeal.Proofs.run_main (F := Ideal) m g) fun _ h c => ⟨(h.1 c).2.2, (h.1 c).1, (h.1 c).2.1⟩
  · refine θ_run_mono (Cert.ReferenceIdeal.Value.run (F := Ideal) m' g') fun r h => ⟨(h 0).1.trans (funext fun i => ?_), (h 0).2⟩
    have hb : ∀ c, max (pvE (pvOf m) c i) (-(pvE (pvOf m) c i)) ≤ (((15 : ℝ) / 8 : ℝ) : EReal) := by
      intro c
      have h1 := congrFun (hp c) i
      pointwise [Cert.Pre_partial_tame_KernelIdeal.fn] at h1
      rw [bound_eq] at h1
      rw [pvOf_at]
      exact of_bit _ h1
    have hc := clip_sum (fun c => pvE (pvOf m) c i) hb
    rw [outF_at]
    rw [pvOf_sum m _ _ (fun c => (hag c).1) (fun c => (hag c).2)] at hc ⊢
    unfold silu
    rw [← hi_eq, ← lo_eq] at hc
    pointwise []
    exact congrArg (fun y => Ideal.div _ (1 + Ideal.exp (-y))) hc

/-- Everything claimed. -/
theorem claim : Cert.Claim :=
  ⟨Cert.Kernel.Gen.facts, Cert.KernelIdeal.Gen.facts, Cert.ReferenceIdeal.Gen.facts, Cert.UnclippedIdeal.Gen.facts,
    inferInstance, inferInstance,
    frame_kernel, frame_kernelIdeal, fun m g _ => frame_kernelIdeal m g trivial,
    frame_referenceIdeal, fun m g _ => frame_referenceIdeal m g trivial, frame_unclippedIdeal, trivial,
    algebraic_unclipped, algebraic_reference⟩

end Cert.Proof

end
